-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Routing (m : (ℓ : Loc Cert.Routing.nD Cert.Routing.τ Cert.Routing.sig) → Buf (Elt Bits) ℓ) : Prop :=
  True

def Pre_RoutingIdeal (m : (ℓ : Loc Cert.RoutingIdeal.nD Cert.RoutingIdeal.τ Cert.RoutingIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_finite [hPre_finite : Cert.Pre_finite.Facts] (m : (ℓ : Loc Cert.FrontIdeal.nD Cert.FrontIdeal.τ Cert.FrontIdeal.sig) → Buf (Elt Ideal) ℓ) : Prop :=
  ∀ c : Dev Cert.FrontIdeal.nD,
    (Cert.Pre_finite.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3))) = (fun _ => 1#1)

def Pre_FrontRefIdeal (m : (ℓ : Loc Cert.FrontRefIdeal.nD Cert.FrontRefIdeal.τ Cert.FrontRefIdeal.sig) → Buf (Elt Ideal) ℓ) : Prop :=
  True

def Pre_FrontRefIdeal_finite [hPre_finite : Cert.Pre_finite.Facts] (m : (ℓ : Loc Cert.FrontRefIdeal.nD Cert.FrontRefIdeal.τ Cert.FrontRefIdeal.sig) → Buf (Elt Ideal) ℓ) : Prop :=
  ∀ c : Dev Cert.FrontRefIdeal.nD,
    (Cert.Pre_finite.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2)) (m ((c.tc : Thread Cert.FrontRefIdeal.nD Cert.FrontRefIdeal.τ).loc Cert.FrontRefIdeal.main_arg3))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Routing [hRouting : Cert.Routing.Facts] : Prop :=
  ∀ (m : (ℓ : Loc Cert.Routing.nD Cert.Routing.τ Cert.Routing.sig) → Buf (Elt Bits) ℓ) (g : Dev Cert.Routing.nD → PrngReg), Pre_Routing m →
    θ_run (Cert.Routing.defs (F := Bits)) (Cert.Routing.threads (F := Bits)) ⟨m, fun _ => 0, g⟩ (fun r => (∀ c : Dev Cert.Routing.nD,
      r.2.mem ((c.tc : Thread Cert.Routing.nD Cert.Routing.τ).loc Cert.Routing.main_arg0) = m ((c.tc : Thread Cert.Routing.nD Cert.Routing.τ).loc Cert.Routing.main_arg0)
      ∧ r.2.mem ((c.tc : Thread Cert.Routing.nD Cert.Routing.τ).loc Cert.Routing.main_arg1) = m ((c.tc : Thread Cert.Routing.nD Cert.Routing.τ).loc Cert.Routing.main_arg1)
      ∧ r.2.mem ((c.tc : Thread Cert.Routing.nD Cert.Routing.τ).loc Cert.Routing.main_arg2) = m ((c.tc : Thread Cert.Routing.nD Cert.Routing.τ).loc Cert.Routing.main_arg2)
      ∧ r.2.mem ((c.tc : Thread Cert.Routing.nD Cert.Routing.τ).loc Cert.Routing.main_arg3) = m ((c.tc : Thread Cert.Routing.nD Cert.Routing.τ).loc Cert.Routing.main_arg3)
      ∧ r.2.mem ((c.tc : Thread Cert.Routing.nD Cert.Routing.τ).loc Cert.Routing.main_arg4) = m ((c.tc : Thread Cert.Routing.nD Cert.Routing.τ).loc Cert.Routing.main_arg4))
      ∧ r.2.sem = fun _ => 0)

def quiescent_RoutingIdeal [hRoutingIdeal : Cert.RoutingIdeal.Facts] : Prop :=
  ∀ (m : (ℓ : Loc Cert.RoutingIdeal.nD Cert.RoutingIdeal.τ Cert.RoutingIdeal.sig) → Buf (Elt Ideal) ℓ) (g : Dev Cert.RoutingIdeal.nD → PrngReg), Pre_RoutingIdeal m →
    θ_run (Cert.RoutingIdeal.defs (F := Ideal)) (Cert.RoutingIdeal.threads (F := Ideal)) ⟨m, fun _ => 0, g⟩ (fun r => (∀ c : Dev Cert.RoutingIdeal.nD,
      r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
      ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1)
      ∧ r.2.mem ((c.tc : Thread Cert.RoutingIdeal.nD Cert.RoutingIdeal.τ).loc Cert.RoutingIdeal.main_arg2) = m ((c.tc : Thread Cert.RoutingIdeal.nD Cert.RoutingIdeal.τ).loc Cert.RoutingIdeal.main_arg2)
      ∧ r.2.mem ((c.tc : Thread Cert.RoutingIdeal.nD Cert.RoutingIdeal.τ).loc Cert.RoutingIdeal.main_arg3) = m ((c.tc : Thread Cert.RoutingIdeal.nD Cert.RoutingIdeal.τ).loc Cert.RoutingIdeal.main_arg3)
      ∧ r.2.mem ((c.tc : Thread Cert.RoutingIdeal.nD Cert.RoutingIdeal.τ).loc Cert.RoutingIdeal.main_arg4) = m ((c.tc : Thread Cert.RoutingIdeal.nD Cert.RoutingIdeal.τ).loc Cert.RoutingIdeal.main_arg4))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ r.2.sem = fun _ => 0)

def quiescent_FrontIdeal_pre_finite [hFrontIdeal : Cert.FrontIdeal.Facts] [hPre_finite : Cert.Pre_finite.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_finite m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3))
      ∧ r.2.sem = fun _ => 0)

def quiescent_FrontRefIdeal_pre_finite [hFrontRefIdeal : Cert.FrontRefIdeal.Facts] [hPre_finite : Cert.Pre_finite.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal_finite m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1))
      ∧ r.2.sem = fun _ => 0)

def preserves_Kernel_KernelIdeal : Prop :=
  True

def preserves_Routing_RoutingIdeal : Prop :=
  True

def holds_Routing_same_words_in_all_heads [hRouting : Cert.Routing.Facts] [hPost_same_words_in_all_heads : Cert.Post_same_words_in_all_heads.Facts] : Prop :=
  ∀ (m : (ℓ : Loc Cert.Routing.nD Cert.Routing.τ Cert.Routing.sig) → Buf (Elt Bits) ℓ) (g : Dev Cert.Routing.nD → PrngReg), Pre_Routing m →
    θ_run (Cert.Routing.defs (F := Bits)) (Cert.Routing.threads (F := Bits)) ⟨m, fun _ => 0, g⟩ (fun r => ∀ c : Dev Cert.Routing.nD,
      r.2.mem ((c.tc : Thread Cert.Routing.nD Cert.Routing.τ).loc Cert.Routing.main_arg0) = m ((c.tc : Thread Cert.Routing.nD Cert.Routing.τ).loc Cert.Routing.main_arg0)
      ∧ r.2.mem ((c.tc : Thread Cert.Routing.nD Cert.Routing.τ).loc Cert.Routing.main_arg1) = m ((c.tc : Thread Cert.Routing.nD Cert.Routing.τ).loc Cert.Routing.main_arg1)
      ∧ r.2.mem ((c.tc : Thread Cert.Routing.nD Cert.Routing.τ).loc Cert.Routing.main_arg2) = m ((c.tc : Thread Cert.Routing.nD Cert.Routing.τ).loc Cert.Routing.main_arg2)
      ∧ r.2.mem ((c.tc : Thread Cert.Routing.nD Cert.Routing.τ).loc Cert.Routing.main_arg3) = m ((c.tc : Thread Cert.Routing.nD Cert.Routing.τ).loc Cert.Routing.main_arg3)
      ∧ r.2.mem ((c.tc : Thread Cert.Routing.nD Cert.Routing.τ).loc Cert.Routing.main_arg4) = m ((c.tc : Thread Cert.Routing.nD Cert.Routing.τ).loc Cert.Routing.main_arg4)
      ∧ (Cert.Post_same_words_in_all_heads.fn (F := Bits) (m ((c.tc : Thread Cert.Routing.nD Cert.Routing.τ).loc Cert.Routing.main_arg0)) (m ((c.tc : Thread Cert.Routing.nD Cert.Routing.τ).loc Cert.Routing.main_arg1)) (m ((c.tc : Thread Cert.Routing.nD Cert.Routing.τ).loc Cert.Routing.main_arg2)) (m ((c.tc : Thread Cert.Routing.nD Cert.Routing.τ).loc Cert.Routing.main_arg3)) (m ((c.tc : Thread Cert.Routing.nD Cert.Routing.τ).loc Cert.Routing.main_arg4)) (r.2.mem ((c.tc : Thread Cert.Routing.nD Cert.Routing.τ).loc Cert.Routing.main_v1))) = (fun _ => 1#1))

def holds_RoutingIdeal_same_in_all_heads [hRoutingIdeal : Cert.RoutingIdeal.Facts] [hPost_same_in_all_heads : Cert.Post_same_in_all_heads.Facts] : Prop :=
  ∀ (m : (ℓ : Loc Cert.RoutingIdeal.nD Cert.RoutingIdeal.τ Cert.RoutingIdeal.sig) → Buf (Elt Ideal) ℓ) (g : Dev Cert.RoutingIdeal.nD → PrngReg), Pre_RoutingIdeal m →
    θ_run (Cert.RoutingIdeal.defs (F := Ideal)) (Cert.RoutingIdeal.threads (F := Ideal)) ⟨m, fun _ => 0, g⟩ (fun r => ∀ c : Dev Cert.RoutingIdeal.nD,
      r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
      ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1)
      ∧ r.2.mem ((c.tc : Thread Cert.RoutingIdeal.nD Cert.RoutingIdeal.τ).loc Cert.RoutingIdeal.main_arg2) = m ((c.tc : Thread Cert.RoutingIdeal.nD Cert.RoutingIdeal.τ).loc Cert.RoutingIdeal.main_arg2)
      ∧ r.2.mem ((c.tc : Thread Cert.RoutingIdeal.nD Cert.RoutingIdeal.τ).loc Cert.RoutingIdeal.main_arg3) = m ((c.tc : Thread Cert.RoutingIdeal.nD Cert.RoutingIdeal.τ).loc Cert.RoutingIdeal.main_arg3)
      ∧ r.2.mem ((c.tc : Thread Cert.RoutingIdeal.nD Cert.RoutingIdeal.τ).loc Cert.RoutingIdeal.main_arg4) = m ((c.tc : Thread Cert.RoutingIdeal.nD Cert.RoutingIdeal.τ).loc Cert.RoutingIdeal.main_arg4)
      ∧ (Cert.Post_same_in_all_heads.fn (F := Ideal) (m ((c.tc : Thread Cert.RoutingIdeal.nD Cert.RoutingIdeal.τ).loc Cert.RoutingIdeal.main_arg0)) (m ((c.tc : Thread Cert.RoutingIdeal.nD Cert.RoutingIdeal.τ).loc Cert.RoutingIdeal.main_arg1)) (m ((c.tc : Thread Cert.RoutingIdeal.nD Cert.RoutingIdeal.τ).loc Cert.RoutingIdeal.main_arg2)) (m ((c.tc : Thread Cert.RoutingIdeal.nD Cert.RoutingIdeal.τ).loc Cert.RoutingIdeal.main_arg3)) (m ((c.tc : Thread Cert.RoutingIdeal.nD Cert.RoutingIdeal.τ).loc Cert.RoutingIdeal.main_arg4)) (r.2.mem ((c.tc : Thread Cert.RoutingIdeal.nD Cert.RoutingIdeal.τ).loc Cert.RoutingIdeal.main_v1))) = (fun _ => 1#1))

def preserves_Front_FrontIdeal : Prop :=
  True

def algebraic_FrontIdeal_FrontRefIdeal_pre_finite [hFrontIdeal : Cert.FrontIdeal.Facts] [hFrontRefIdeal : Cert.FrontRefIdeal.Facts] [hPre_finite : Cert.Pre_finite.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal_finite m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)) →
    ∃ (v0 : (c : Dev Cert.FrontIdeal.nD) → Buf (Elt Ideal) ((c.tc : Thread Cert.FrontIdeal.nD Cert.FrontIdeal.τ).loc Cert.FrontIdeal.main_v70_0)) (v1 : (c : Dev Cert.FrontIdeal.nD) → Buf (Elt Ideal) ((c.tc : Thread Cert.FrontIdeal.nD Cert.FrontIdeal.τ).loc Cert.FrontIdeal.main_v70_1)) (v2 : (c : Dev Cert.FrontIdeal.nD) → Buf (Elt Ideal) ((c.tc : Thread Cert.FrontIdeal.nD Cert.FrontIdeal.τ).loc Cert.FrontIdeal.main_v70_2)) (v3 : (c : Dev Cert.FrontIdeal.nD) → Buf (Elt Ideal) ((c.tc : Thread Cert.FrontIdeal.nD Cert.FrontIdeal.τ).loc Cert.FrontIdeal.main_v71_0)) (v4 : (c : Dev Cert.FrontIdeal.nD) → Buf (Elt Ideal) ((c.tc : Thread Cert.FrontIdeal.nD Cert.FrontIdeal.τ).loc Cert.FrontIdeal.main_v71_1)) (v5 : (c : Dev Cert.FrontIdeal.nD) → Buf (Elt Ideal) ((c.tc : Thread Cert.FrontIdeal.nD Cert.FrontIdeal.τ).loc Cert.FrontIdeal.main_v71_2)) (v6 : (c : Dev Cert.FrontIdeal.nD) → Buf (Elt Ideal) ((c.tc : Thread Cert.FrontIdeal.nD Cert.FrontIdeal.τ).loc Cert.FrontIdeal.main_v71_3)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v70_0) = v0 c
          ∧ r.2.mem ((c.tc : Thread Cert.FrontIdeal.nD Cert.FrontIdeal.τ).loc Cert.FrontIdeal.main_v70_1) = v1 c
          ∧ r.2.mem ((c.tc : Thread Cert.FrontIdeal.nD Cert.FrontIdeal.τ).loc Cert.FrontIdeal.main_v70_2) = v2 c
          ∧ r.2.mem ((c.tc : Thread Cert.FrontIdeal.nD Cert.FrontIdeal.τ).loc Cert.FrontIdeal.main_v71_0) = v3 c
          ∧ r.2.mem ((c.tc : Thread Cert.FrontIdeal.nD Cert.FrontIdeal.τ).loc Cert.FrontIdeal.main_v71_1) = v4 c
          ∧ r.2.mem ((c.tc : Thread Cert.FrontIdeal.nD Cert.FrontIdeal.τ).loc Cert.FrontIdeal.main_v71_2) = v5 c
          ∧ r.2.mem ((c.tc : Thread Cert.FrontIdeal.nD Cert.FrontIdeal.τ).loc Cert.FrontIdeal.main_v71_3) = v6 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v95) = v0 c
          ∧ r.2.mem ((c.tc : Thread Cert.FrontRefIdeal.nD Cert.FrontRefIdeal.τ).loc Cert.FrontRefIdeal.main_v96) = v1 c
          ∧ r.2.mem ((c.tc : Thread Cert.FrontRefIdeal.nD Cert.FrontRefIdeal.τ).loc Cert.FrontRefIdeal.main_v97) = v2 c
          ∧ r.2.mem ((c.tc : Thread Cert.FrontRefIdeal.nD Cert.FrontRefIdeal.τ).loc Cert.FrontRefIdeal.main_v98) = v3 c
          ∧ r.2.mem ((c.tc : Thread Cert.FrontRefIdeal.nD Cert.FrontRefIdeal.τ).loc Cert.FrontRefIdeal.main_v99) = v4 c
          ∧ r.2.mem ((c.tc : Thread Cert.FrontRefIdeal.nD Cert.FrontRefIdeal.τ).loc Cert.FrontRefIdeal.main_v100) = v5 c
          ∧ r.2.mem ((c.tc : Thread Cert.FrontRefIdeal.nD Cert.FrontRefIdeal.τ).loc Cert.FrontRefIdeal.main_v101) = v6 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v5) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1))

def Claim : Prop :=
  ∃ (hKernel : Cert.Kernel.Facts) (hKernelIdeal : Cert.KernelIdeal.Facts) (hRouting : Cert.Routing.Facts) (hRoutingIdeal : Cert.RoutingIdeal.Facts) (hFront : Cert.Front.Facts) (hFrontIdeal : Cert.FrontIdeal.Facts) (hFrontRefIdeal : Cert.FrontRefIdeal.Facts) (hOutproj : Cert.Outproj.Facts) (hOutprojIdeal : Cert.OutprojIdeal.Facts) (hOutprojRefIdeal : Cert.OutprojRefIdeal.Facts) (hPre_finite : Cert.Pre_finite.Facts) (hPost_same_words_in_all_heads : Cert.Post_same_words_in_all_heads.Facts) (hPost_same_in_all_heads : Cert.Post_same_in_all_heads.Facts),
    quiescent_Kernel (hKernel := hKernel)
    ∧ quiescent_KernelIdeal (hKernelIdeal := hKernelIdeal)
    ∧ quiescent_Routing (hRouting := hRouting)
    ∧ quiescent_RoutingIdeal (hRoutingIdeal := hRoutingIdeal)
    ∧ quiescent_Front (hFront := hFront)
    ∧ quiescent_FrontIdeal (hFrontIdeal := hFrontIdeal)
    ∧ quiescent_FrontIdeal_pre_finite (hFrontIdeal := hFrontIdeal) (hPre_finite := hPre_finite)
    ∧ quiescent_FrontRefIdeal (hFrontRefIdeal := hFrontRefIdeal)
    ∧ quiescent_FrontRefIdeal_pre_finite (hFrontRefIdeal := hFrontRefIdeal) (hPre_finite := hPre_finite)
    ∧ quiescent_Outproj (hOutproj := hOutproj)
    ∧ quiescent_OutprojIdeal (hOutprojIdeal := hOutprojIdeal)
    ∧ quiescent_OutprojRefIdeal (hOutprojRefIdeal := hOutprojRefIdeal)
    ∧ preserves_Kernel_KernelIdeal
    ∧ preserves_Routing_RoutingIdeal
    ∧ holds_Routing_same_words_in_all_heads (hRouting := hRouting) (hPost_same_words_in_all_heads := hPost_same_words_in_all_heads)
    ∧ holds_RoutingIdeal_same_in_all_heads (hRoutingIdeal := hRoutingIdeal) (hPost_same_in_all_heads := hPost_same_in_all_heads)
    ∧ preserves_Front_FrontIdeal
    ∧ algebraic_FrontIdeal_FrontRefIdeal_pre_finite (hFrontIdeal := hFrontIdeal) (hFrontRefIdeal := hFrontRefIdeal) (hPre_finite := hPre_finite)
    ∧ preserves_Outproj_OutprojIdeal
    ∧ algebraic_OutprojIdeal_OutprojRefIdeal (hOutprojIdeal := hOutprojIdeal) (hOutprojRefIdeal := hOutprojRefIdeal)
-- ==== Post_same_in_all_heads.lean ====
abbrev S12x64x4096 : Shape := ⟨3, ![12, 64, 4096]⟩
abbrev S4x4096x64 : Shape := ⟨3, ![4, 4096, 64]⟩
abbrev S12x262144 : Shape := ⟨2, ![12, 262144]⟩
abbrev S1x262144 : Shape := ⟨2, ![1, 262144]⟩

class Facts : Prop where
  slices_S12x262144_S1x262144_0_0 : S12x262144.Slices ![0, 0] S1x262144
  bcast_S1x262144_S12x262144_0_1 : S1x262144.BroadcastsInDim S12x262144 (![0, 1] : Fin 2 → Fin S12x262144.rank)

variable [Facts]

def fn {F : FTy → Type} [FloatOps F] (main_arg0 : FVec F S12x64x4096 .f32) (main_arg1 : FVec F S12x64x4096 .f32) (main_arg2 : FVec F S12x64x4096 .f32) (main_arg3 : FVec F S12x64x4096 .f32) (main_arg4 : FVec F S4x4096x64 .f32) (main_arg5 : FVec F S12x262144 .f32) : IVec S12x262144 1 :=
  let main_v0 : FVec F S1x262144 .f32 := (extractStridedSlice S1x262144 ![0, 0] · slices_S12x262144_S1x262144_0_0) main_arg5
  let main_v1 : FVec F S12x262144 .f32 := broadcastInDim S12x262144 ![0, 1] bcast_S1x262144_S12x262144_0_1 main_v0
  let main_v2 : IVec S12x262144 1 := cmpf .oeq main_arg5 main_v1
  main_v2
-- ==== Post_same_words_in_all_heads.lean ====
abbrev S12x64x4096 : Shape := ⟨3, ![12, 64, 4096]⟩
abbrev S4x4096x64 : Shape := ⟨3, ![4, 4096, 64]⟩
abbrev S12x262144 : Shape := ⟨2, ![12, 262144]⟩
abbrev S1x262144 : Shape := ⟨2, ![1, 262144]⟩

class Facts : Prop where
  slices_S12x262144_S1x262144_0_0 : S12x262144.Slices ![0, 0] S1x262144
  bcast_S1x262144_S12x262144_0_1 : S1x262144.BroadcastsInDim S12x262144 (![0, 1] : Fin 2 → Fin S12x262144.rank)

variable [Facts]

def fn {F : FTy → Type} [BitOps F] (main_arg0 : FVec F S12x64x4096 .f32) (main_arg1 : FVec F S12x64x4096 .f32) (main_arg2 : FVec F S12x64x4096 .f32) (main_arg3 : FVec F S12x64x4096 .f32) (main_arg4 : FVec F S4x4096x64 .f32) (main_arg5 : FVec F S12x262144 .f32) : IVec S12x262144 1 :=
  let main_v0 : IVec S12x262144 32 := bitcastToInt main_arg5
  let main_v1 : IVec S1x262144 32 := (extractStridedSlice S1x262144 ![0, 0] · slices_S12x262144_S1x262144_0_0) main_v0
  let main_v2 : IVec S12x262144 32 := broadcastInDim S12x262144 ![0, 1] bcast_S1x262144_S12x262144_0_1 main_v1
  let main_v3 : IVec S12x262144 1 := cmpi .eq main_v0 main_v2
  main_v3
-- ==== Pre_finite.lean ====
abbrev S1x4096x768 : Shape := ⟨3, ![1, 4096, 768]⟩
abbrev S768x768 : Shape := ⟨2, ![768, 768]⟩
abbrev S256x768 : Shape := ⟨2, ![256, 768]⟩
abbrev S_ : Shape := ⟨0, ![]⟩

class Facts : Prop where
  bcast_S_S1x4096x768 : S_.BroadcastsInDim S1x4096x768 (![] : Fin 0 → Fin S1x4096x768.rank)
  reducesTo_S1x4096x768_S_d0_1_2 : S1x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S256x768 : S_.BroadcastsInDim S256x768 (![] : Fin 0 → Fin S256x768.rank)
  reducesTo_S256x768_S_d0_1 : S256x768.ReducesTo [0, 1] S_

variable [Facts]

def fn {F : FTy → Type} [FloatOps F] (main_arg0 : FVec F S1x4096x768 .f32) (main_arg1 : FVec F S768x768 .f32) (main_arg2 : FVec F S256x768 .f32) (main_arg3 : FVec F S256x768 .f32) : IVec S_ 1 :=
  let main_v0 : FVec F S1x4096x768 .f32 := Host.absf main_arg0
  let main_cst : FVec F S_ .f32 := constant S_ .f32 0x7F800000#32
  let main_v1 : FVec F S1x4096x768 .f32 := broadcastInDim S1x4096x768 ![] bcast_S_S1x4096x768 main_cst
  let main_v2 : IVec S1x4096x768 1 := cmpf .olt main_v0 main_v1
  let main_c : IVec S_ 1 := constantI S_ 1 1#1
  let main_v3 : IVec S_ 1 := (fun x v => Host.reduce IntOp.andi x v reducesTo_S1x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  main_v13
-- ==== Kernel.lean ====
abbrev S1x4096x768 : Shape := ⟨3, ![1, 4096, 768]⟩
abbrev S768x768 : Shape := ⟨2, ![768, 768]⟩
abbrev S256x768 : Shape := ⟨2, ![256, 768]⟩
abbrev S4096x768 : Shape := ⟨2, ![4096, 768]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x12x64 : Shape := ⟨4, ![1, 4096, 12, 64]⟩
abbrev S1x4096x4x64 : Shape := ⟨4, ![1, 4096, 4, 64]⟩
abbrev S4096x256 : Shape := ⟨2, ![4096, 256]⟩
abbrev S768x256 : Shape := ⟨2, ![768, 256]⟩
abbrev S768x12x2x32 : Shape := ⟨4, ![768, 12, 2, 32]⟩
abbrev S768x12x1x32 : Shape := ⟨4, ![768, 12, 1, 32]⟩
abbrev S768x4x2x32 : Shape := ⟨4, ![768, 4, 2, 32]⟩
abbrev S768x4x1x32 : Shape := ⟨4, ![768, 4, 1, 32]⟩
abbrev S64 : Shape := ⟨1, ![64]⟩
abbrev S1x4096 : Shape := ⟨2, ![1, 4096]⟩
abbrev S64x1 : Shape := ⟨2, ![64, 1]⟩
abbrev S64x4096 : Shape := ⟨2, ![64, 4096]⟩
abbrev S12x4096x64 : Shape := ⟨3, ![12, 4096, 64]⟩
abbrev S4x4096x64 : Shape := ⟨3, ![4, 4096, 64]⟩
abbrev S512x768 : Shape := ⟨2, ![512, 768]⟩
abbrev S512x256 : Shape := ⟨2, ![512, 256]⟩
abbrev S12x512x64 : Shape := ⟨3, ![12, 512, 64]⟩
abbrev S4x512x64 : Shape := ⟨3, ![4, 512, 64]⟩
abbrev S512x64 : Shape := ⟨2, ![512, 64]⟩
abbrev S1x512x64 : Shape := ⟨3, ![1, 512, 64]⟩
abbrev S12x64x4096 : Shape := ⟨3, ![12, 64, 4096]⟩
abbrev S1x4096x64 : Shape := ⟨3, ![1, 4096, 64]⟩
abbrev S1x64x4096 : Shape := ⟨3, ![1, 64, 4096]⟩
abbrev S64x32 : Shape := ⟨2, ![64, 32]⟩
abbrev S16384x64 : Shape := ⟨2, ![16384, 64]⟩
abbrev S12x262144 : Shape := ⟨2, ![12, 262144]⟩
abbrev S64x128 : Shape := ⟨2, ![64, 128]⟩
abbrev S1024 : Shape := ⟨1, ![1024]⟩
abbrev S8x16 : Shape := ⟨2, ![8, 16]⟩
abbrev S1024x64 : Shape := ⟨2, ![1024, 64]⟩
abbrev S8192 : Shape := ⟨1, ![8192]⟩
abbrev S16 : Shape := ⟨1, ![16]⟩
abbrev S1x8192 : Shape := ⟨2, ![1, 8192]⟩
abbrev S768x64 : Shape := ⟨2, ![768, 64]⟩

abbrev nBuf : Table → Nat
  | .hbm => 131
  | .local .tc .vmem => 40
  | .local .scVector .vmem => 13
  | _ => 0

abbrev hbmTy0_0 (i : Nat) : BufTy := match i % 128 with
  | 0 => ⟨S1x4096x768, .f32⟩
  | 1 => ⟨S768x768, .f32⟩
  | 2 => ⟨S256x768, .f32⟩
  | 3 => ⟨S256x768, .f32⟩
  | 4 => ⟨S768x768, .f32⟩
  | 5 => ⟨S4096x768, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096, .f32⟩
  | 23 => ⟨S4096x1, .f32⟩
  | 24 => ⟨S1x32, .f32⟩
  | 25 => ⟨S4096x32, .f32⟩
  | 26 => ⟨S4096x32, .f32⟩
  | 27 => ⟨S4096x32, .f32⟩
  | 28 => ⟨S4096x64, .f32⟩
  | 29 => ⟨S4096x64, .f32⟩
  | 30 => ⟨S4096x64, .f32⟩
  | 31 => ⟨S1x4096x1x64, .f32⟩
  | 32 => ⟨S1x4096x12x64, .f32⟩
  | 33 => ⟨S4096x768, .f32⟩
  | 34 => ⟨S1x4096x1x64, .f32⟩
  | 35 => ⟨S1x4096x12x64, .f32⟩
  | 36 => ⟨S4096x768, .f32⟩
  | 37 => ⟨S1x4096x1x64, .f32⟩
  | 38 => ⟨S1x4096x4x64, .f32⟩
  | 39 => ⟨S4096x256, .f32⟩
  | 40 => ⟨S1x4096x1x64, .f32⟩
  | 41 => ⟨S1x4096x4x64, .f32⟩
  | 42 => ⟨S4096x256, .f32⟩
  | 43 => ⟨S768x768, .f32⟩
  | 44 => ⟨S768x256, .f32⟩
  | 45 => ⟨S768x256, .f32⟩
  | 46 => ⟨S768x12x2x32, .f32⟩
  | 47 => ⟨S768x12x1x32, .f32⟩
  | 48 => ⟨S768x12x1x32, .f32⟩
  | 49 => ⟨S768x12x1x32, .f32⟩
  | 50 => ⟨S768x12x2x32, .f32⟩
  | 51 => ⟨S768x768, .f32⟩
  | 52 => ⟨S768x4x2x32, .f32⟩
  | 53 => ⟨S768x4x1x32, .f32⟩
  | 54 => ⟨S768x4x1x32, .f32⟩
  | 55 => ⟨S768x4x1x32, .f32⟩
  | 56 => ⟨S768x4x2x32, .f32⟩
  | 57 => ⟨S768x256, .f32⟩
  | 58 => ⟨S4096x768, .bf16⟩
  | 59 => ⟨S768x768, .bf16⟩
  | 60 => ⟨S768x768, .bf16⟩
  | 61 => ⟨S768x256, .bf16⟩
  | 62 => ⟨S768x256, .bf16⟩
  | 63 => ⟨S768x256, .bf16⟩
  | 64 => ⟨S4096, .i32⟩
  | 65 => ⟨S64, .i32⟩
  | 66 => ⟨S1x4096, .i32⟩
  | 67 => ⟨S_, .i32⟩
  | 68 => ⟨S_, .i32⟩
  | 69 => ⟨S1x4096, .i32⟩
  | 70 => ⟨S1x4096, .i32⟩
  | 71 => ⟨S1x4096, .i32⟩
  | 72 => ⟨S_, .i32⟩
  | 73 => ⟨S1x4096, .i32⟩
  | 74 => ⟨S1x4096, .i1⟩
  | 75 => ⟨S1x4096, .i32⟩
  | 76 => ⟨S1x4096, .i32⟩
  | 77 => ⟨S_, .i32⟩
  | 78 => ⟨S1x4096, .i32⟩
  | 79 => ⟨S1x4096, .i1⟩
  | 80 => ⟨S1x4096, .i1⟩
  | 81 => ⟨S_, .i32⟩
  | 82 => ⟨S1x4096, .i32⟩
  | 83 => ⟨S1x4096, .i32⟩
  | 84 => ⟨S1x4096, .i32⟩
  | 85 => ⟨S64x1, .i32⟩
  | 86 => ⟨S64x4096, .i32⟩
  | 87 => ⟨S64x4096, .i32⟩
  | 88 => ⟨S64x4096, .i1⟩
  | 89 => ⟨S64x4096, .f32⟩
  | 90 => ⟨S1x4096, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S1x4096, .i32⟩
  | 98 => ⟨S1x4096, .i32⟩
  | 99 => ⟨S_, .i32⟩
  | 100 => ⟨S1x4096, .i32⟩
  | 101 => ⟨S1x4096, .i1⟩
  | 102 => ⟨S_, .i32⟩
  | 103 => ⟨S1x4096, .i32⟩
  | 104 => ⟨S1x4096, .i1⟩
  | 105 => ⟨S_, .i32⟩
  | 106 => ⟨S_, .i1⟩
  | 107 => ⟨S1x4096, .i1⟩
  | 108 => ⟨S1x4096, .i1⟩
  | 109 => ⟨S1x4096, .i1⟩
  | 110 => ⟨S1x4096, .i32⟩
  | 111 => ⟨S1x4096, .i32⟩
  | 112 => ⟨S1x4096, .i32⟩
  | 113 => ⟨S64x1, .i32⟩
  | 114 => ⟨S64x4096, .i32⟩
  | 115 => ⟨S64x4096, .i32⟩
  | 116 => ⟨S64x4096, .i1⟩
  | 117 => ⟨S64x4096, .f32⟩
  | 118 => ⟨S12x4096x64, .f32⟩
  | 119 => ⟨S4x4096x64, .f32⟩
  | 120 => ⟨S4x4096x64, .f32⟩
  | 121 => ⟨S12x64x4096, .f32⟩
  | 122 => ⟨S12x64x4096, .f32⟩
  | 123 => ⟨S12x64x4096, .f32⟩
  | 124 => ⟨S12x64x4096, .f32⟩
  | 125 => ⟨S16384x64, .f32⟩
  | 126 => ⟨S12x262144, .f32⟩
  | 127 => ⟨S12x4096x64, .f32⟩
  | _ => ⟨S1x4096x768, .f32⟩

abbrev hbmTy0_1 (i : Nat) : BufTy := match i % 128 with
  | 0 => ⟨S768x768, .bf16⟩
  | 1 => ⟨S4096x768, .f32⟩
  | 2 => ⟨S1x4096x768, .f32⟩
  | _ => ⟨S1x4096x768, .f32⟩

abbrev hbmTy (i : Nat) : BufTy := match i / 128 with
  | 0 => hbmTy0_0 i
  | 1 => hbmTy0_1 i
  | _ => ⟨S1x4096x768, .f32⟩

abbrev bufTy : (tb : Table) → Fin (nBuf tb) → BufTy
  | .hbm, ⟨i, _⟩ => hbmTy i
  | .local .tc .vmem, ⟨0, _⟩ => ⟨S512x768, .bf16⟩
  | .local .tc .vmem, ⟨1, _⟩ => ⟨S512x768, .bf16⟩
  | .local .tc .vmem, ⟨2, _⟩ => ⟨S768x768, .bf16⟩
  | .local .tc .vmem, ⟨3, _⟩ => ⟨S768x768, .bf16⟩
  | .local .tc .vmem, ⟨4, _⟩ => ⟨S768x256, .bf16⟩
  | .local .tc .vmem, ⟨5, _⟩ => ⟨S768x256, .bf16⟩
  | .local .tc .vmem, ⟨6, _⟩ => ⟨S768x256, .bf16⟩
  | .local .tc .vmem, ⟨7, _⟩ => ⟨S512x768, .f32⟩
  | .local .tc .vmem, ⟨8, _⟩ => ⟨S512x768, .f32⟩
  | .local .tc .vmem, ⟨9, _⟩ => ⟨S512x768, .f32⟩
  | .local .tc .vmem, ⟨10, _⟩ => ⟨S512x768, .f32⟩
  | .local .tc .vmem, ⟨11, _⟩ => ⟨S512x256, .f32⟩
  | .local .tc .vmem, ⟨12, _⟩ => ⟨S512x256, .f32⟩
  | .local .tc .vmem, ⟨13, _⟩ => ⟨S512x256, .f32⟩
  | .local .tc .vmem, ⟨14, _⟩ => ⟨S512x256, .f32⟩
  | .local .tc .vmem, ⟨15, _⟩ => ⟨S12x512x64, .f32⟩
  | .local .tc .vmem, ⟨16, _⟩ => ⟨S12x512x64, .f32⟩
  | .local .tc .vmem, ⟨17, _⟩ => ⟨S4x512x64, .f32⟩
  | .local .tc .vmem, ⟨18, _⟩ => ⟨S4x512x64, .f32⟩
  | .local .tc .vmem, ⟨19, _⟩ => ⟨S4x512x64, .f32⟩
  | .local .tc .vmem, ⟨20, _⟩ => ⟨S4x512x64, .f32⟩
  | .local .tc .vmem, ⟨21, _⟩ => ⟨S1x4096x64, .f32⟩
  | .local .tc .vmem, ⟨22, _⟩ => ⟨S1x4096x64, .f32⟩
  | .local .tc .vmem, ⟨23, _⟩ => ⟨S1x4096x64, .f32⟩
  | .local .tc .vmem, ⟨24, _⟩ => ⟨S1x4096x64, .f32⟩
  | .local .tc .vmem, ⟨25, _⟩ => ⟨S64x4096, .f32⟩
  | .local .tc .vmem, ⟨26, _⟩ => ⟨S64x4096, .f32⟩
  | .local .tc .vmem, ⟨27, _⟩ => ⟨S1x64x4096, .f32⟩
  | .local .tc .vmem, ⟨28, _⟩ => ⟨S1x64x4096, .f32⟩
  | .local .tc .vmem, ⟨29, _⟩ => ⟨S1x64x4096, .f32⟩
  | .local .tc .vmem, ⟨30, _⟩ => ⟨S1x64x4096, .f32⟩
  | .local .tc .vmem, ⟨31, _⟩ => ⟨S1x64x4096, .f32⟩
  | .local .tc .vmem, ⟨32, _⟩ => ⟨S1x64x4096, .f32⟩
  | .local .tc .vmem, ⟨33, _⟩ => ⟨S1x64x4096, .f32⟩
  | .local .tc .vmem, ⟨34, _⟩ => ⟨S1x64x4096, .f32⟩
  | .local .tc .vmem, ⟨35, _⟩ => ⟨S12x512x64, .f32⟩
  | .local .tc .vmem, ⟨36, _⟩ => ⟨S12x512x64, .f32⟩
  | .local .tc .vmem, ⟨37, _⟩ => ⟨S768x768, .bf16⟩
  | .local .tc .vmem, ⟨38, _⟩ => ⟨S512x768, .f32⟩
  | .local .tc .vmem, ⟨39, _⟩ => ⟨S512x768, .f32⟩
  | .local .scVector .vmem, ⟨0, _⟩ => ⟨S64x128, .f32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S1024, .f32⟩
  | .local .scVector .vmem, ⟨5, _⟩ => ⟨S8x16, .f32⟩
  | .local .scVector .vmem, ⟨6, _⟩ => ⟨S8x16, .i32⟩
  | .local .scVector .vmem, ⟨7, _⟩ => ⟨S8x16, .f32⟩
  | .local .scVector .vmem, ⟨8, _⟩ => ⟨S8x16, .i32⟩
  | .local .scVector .vmem, ⟨9, _⟩ => ⟨S1024, .i32⟩
  | .local .scVector .vmem, ⟨10, _⟩ => ⟨S1024, .f32⟩
  | .local .scVector .vmem, ⟨11, _⟩ => ⟨S1024x64, .f32⟩
  | .local .scVector .vmem, ⟨12, _⟩ => ⟨S8192, .f32⟩
  | _, _ => ⟨S1x4096x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => false
  | ⟨36, _⟩ => false
  | ⟨37, _⟩ => true
  | ⟨38, _⟩ => true
  | ⟨39, _⟩ => true
  | ⟨40, _⟩ => true
  | ⟨41, _⟩ => true
  | _ => false

abbrev sig : RefSig :=
  ofTables nBuf rfl bufTy 4 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_c : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_c : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_0 : Ref sig .tc := ⟨.hbm, 81, rfl⟩
abbrev main_call0_v12 : Ref sig .tc := ⟨.hbm, 82, rfl⟩
abbrev main_call0_v13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_4 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_c_1 : Ref sig .tc := ⟨.hbm, 99, rfl⟩
abbrev main_call1_v5 : Ref sig .tc := ⟨.hbm, 100, rfl⟩
abbrev main_call1_v6 : Ref sig .tc := ⟨.hbm, 101, rfl⟩
abbrev main_call1_c_2 : Ref sig .tc := ⟨.hbm, 102, rfl⟩
abbrev main_call1_v7 : Ref sig .tc := ⟨.hbm, 103, rfl⟩
abbrev main_call1_v8 : Ref sig .tc := ⟨.hbm, 104, rfl⟩
abbrev main_call1_c_3 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_v13 : Ref sig .tc := ⟨.hbm, 110, rfl⟩
abbrev main_call1_v14 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70_0 : Ref sig .tc := ⟨.hbm, 118, rfl⟩
abbrev main_v70_1 : Ref sig .tc := ⟨.hbm, 119, rfl⟩
abbrev main_v70_2 : Ref sig .tc := ⟨.hbm, 120, rfl⟩
abbrev main_v71_0 : Ref sig .tc := ⟨.hbm, 121, rfl⟩
abbrev main_v71_1 : Ref sig .tc := ⟨.hbm, 122, rfl⟩
abbrev main_v71_2 : Ref sig .tc := ⟨.hbm, 123, rfl⟩
abbrev main_v71_3 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v71_0_scv : Ref sig .scVector := ⟨.hbm, 121, rfl⟩
abbrev main_v71_1_scv : Ref sig .scVector := ⟨.hbm, 122, rfl⟩
abbrev main_v71_2_scv : Ref sig .scVector := ⟨.hbm, 123, rfl⟩
abbrev main_v71_3_scv : Ref sig .scVector := ⟨.hbm, 124, rfl⟩
abbrev main_v72_scv : Ref sig .scVector := ⟨.hbm, 125, rfl⟩
abbrev main_v73_scv : Ref sig .scVector := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg2_1 : Ref sig .tc := ⟨.vmem, 39, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc2_scratch9 : Ref sig .scVector := ⟨.vmem, 9, rfl⟩
abbrev cc2_scratch10 : Ref sig .scVector := ⟨.vmem, 10, rfl⟩
abbrev cc2_scratch11 : Ref sig .scVector := ⟨.vmem, 11, rfl⟩
abbrev cc2_scratch12 : Ref sig .scVector := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc3_sem0_0 : DmaSem sig := 37
abbrev cc3_sem0_1 : DmaSem sig := 38
abbrev cc3_sem1_0 : DmaSem sig := 39
abbrev cc3_sem2_0 : DmaSem sig := 40
abbrev cc3_sem2_1 : DmaSem sig := 41
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S12x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 16], ![false, false]⟩

@[reducible] def k2_t1_loop : Scf.Loop 32 :=
  let c0_i32_2 : BitVec 32 := 0#32
  let c12_i32 : BitVec 32 := 12#32
  let v14 : BitVec 32 := Scalar.addi c0_i32_2 c12_i32
  let c1_i32 : BitVec 32 := 1#32
  ⟨c0_i32_2, v14, c1_i32⟩
@[reducible] def k2_t2_loop : Scf.Loop 32 :=
  let c0_i32_11 : BitVec 32 := 0#32
  let c8_i32 : BitVec 32 := 8#32
  let v35 : BitVec 32 := Scalar.addi c0_i32_11 c8_i32
  let c1_i32_12 : BitVec 32 := 1#32
  ⟨c0_i32_11, v35, c1_i32_12⟩
@[reducible] def k2_t3_loop : Scf.Loop 32 :=
  let c0_i32_15 : BitVec 32 := 0#32
  let c128_i32_16 : BitVec 32 := 128#32
  let v37 : BitVec 32 := Scalar.addi c0_i32_15 c128_i32_16
  let c1_i32_17 : BitVec 32 := 1#32
  ⟨c0_i32_15, v37, c1_i32_17⟩

def k2_chk1 (v7 : IVec S16 32) (v9 : IVec S16 32) (v11 : IVec S16 32) (v13 : IVec S16 32) (v45 : IVec S16 32) : Prop :=
  (∀ a x, ((![v45] : Fin 1 → IVec S16 32) a x).toNat < S1024.size a) ∧
  (∀ a x, ((![v45, v7] : Fin 2 → IVec S16 32) a x).toNat < S1024x64.size a) ∧
  (∀ a x, ((![v45, v9] : Fin 2 → IVec S16 32) a x).toNat < S1024x64.size a) ∧
  (∀ a x, ((![v45, v11] : Fin 2 → IVec S16 32) a x).toNat < S1024x64.size a) ∧
  (∀ a x, ((![v45, v13] : Fin 2 → IVec S16 32) a x).toNat < S1024x64.size a)
theorem k2_idx1_inb : ∀ (v7 : IVec S16 32) (v9 : IVec S16 32) (v11 : IVec S16 32) (v13 : IVec S16 32) (v45 : IVec S16 32) (k2_hw1 : k2_chk1 v7 v9 v11 v13 v45), ∀ a x, ((![v45] : Fin 1 → IVec S16 32) a x).toNat < S1024.size a := fun v7 v9 v11 v13 v45 k2_hw1 => k2_hw1.1
theorem k2_idx2_inb : ∀ (v7 : IVec S16 32) (v9 : IVec S16 32) (v11 : IVec S16 32) (v13 : IVec S16 32) (v45 : IVec S16 32) (k2_hw1 : k2_chk1 v7 v9 v11 v13 v45), ∀ a x, ((![v45, v7] : Fin 2 → IVec S16 32) a x).toNat < S1024x64.size a := fun v7 v9 v11 v13 v45 k2_hw1 => k2_hw1.2.1
theorem k2_idx3_inb : ∀ (v7 : IVec S16 32) (v9 : IVec S16 32) (v11 : IVec S16 32) (v13 : IVec S16 32) (v45 : IVec S16 32) (k2_hw1 : k2_chk1 v7 v9 v11 v13 v45), ∀ a x, ((![v45, v9] : Fin 2 → IVec S16 32) a x).toNat < S1024x64.size a := fun v7 v9 v11 v13 v45 k2_hw1 => k2_hw1.2.2.1
theorem k2_idx4_inb : ∀ (v7 : IVec S16 32) (v9 : IVec S16 32) (v11 : IVec S16 32) (v13 : IVec S16 32) (v45 : IVec S16 32) (k2_hw1 : k2_chk1 v7 v9 v11 v13 v45), ∀ a x, ((![v45, v11] : Fin 2 → IVec S16 32) a x).toNat < S1024x64.size a := fun v7 v9 v11 v13 v45 k2_hw1 => k2_hw1.2.2.2.1
theorem k2_idx5_inb : ∀ (v7 : IVec S16 32) (v9 : IVec S16 32) (v11 : IVec S16 32) (v13 : IVec S16 32) (v45 : IVec S16 32) (k2_hw1 : k2_chk1 v7 v9 v11 v13 v45), ∀ a x, ((![v45, v13] : Fin 2 → IVec S16 32) a x).toNat < S1024x64.size a := fun v7 v9 v11 v13 v45 k2_hw1 => k2_hw1.2.2.2.2

def k2_chk2 (v7 : IVec S16 32) (v9 : IVec S16 32) (v11 : IVec S16 32) (v13 : IVec S16 32) (v60 : IVec S16 32) : Prop :=
  (∀ a x, ((![v60] : Fin 1 → IVec S16 32) a x).toNat < S1024.size a) ∧
  (∀ a x, ((![v60, v7] : Fin 2 → IVec S16 32) a x).toNat < S1024x64.size a) ∧
  (∀ a x, ((![v60, v9] : Fin 2 → IVec S16 32) a x).toNat < S1024x64.size a) ∧
  (∀ a x, ((![v60, v11] : Fin 2 → IVec S16 32) a x).toNat < S1024x64.size a) ∧
  (∀ a x, ((![v60, v13] : Fin 2 → IVec S16 32) a x).toNat < S1024x64.size a)
theorem k2_idx6_inb : ∀ (v7 : IVec S16 32) (v9 : IVec S16 32) (v11 : IVec S16 32) (v13 : IVec S16 32) (v60 : IVec S16 32) (k2_hw2 : k2_chk2 v7 v9 v11 v13 v60), ∀ a x, ((![v60] : Fin 1 → IVec S16 32) a x).toNat < S1024.size a := fun v7 v9 v11 v13 v60 k2_hw2 => k2_hw2.1
theorem k2_idx7_inb : ∀ (v7 : IVec S16 32) (v9 : IVec S16 32) (v11 : IVec S16 32) (v13 : IVec S16 32) (v60 : IVec S16 32) (k2_hw2 : k2_chk2 v7 v9 v11 v13 v60), ∀ a x, ((![v60, v7] : Fin 2 → IVec S16 32) a x).toNat < S1024x64.size a := fun v7 v9 v11 v13 v60 k2_hw2 => k2_hw2.2.1
theorem k2_idx8_inb : ∀ (v7 : IVec S16 32) (v9 : IVec S16 32) (v11 : IVec S16 32) (v13 : IVec S16 32) (v60 : IVec S16 32) (k2_hw2 : k2_chk2 v7 v9 v11 v13 v60), ∀ a x, ((![v60, v9] : Fin 2 → IVec S16 32) a x).toNat < S1024x64.size a := fun v7 v9 v11 v13 v60 k2_hw2 => k2_hw2.2.2.1
theorem k2_idx9_inb : ∀ (v7 : IVec S16 32) (v9 : IVec S16 32) (v11 : IVec S16 32) (v13 : IVec S16 32) (v60 : IVec S16 32) (k2_hw2 : k2_chk2 v7 v9 v11 v13 v60), ∀ a x, ((![v60, v11] : Fin 2 → IVec S16 32) a x).toNat < S1024x64.size a := fun v7 v9 v11 v13 v60 k2_hw2 => k2_hw2.2.2.2.1
theorem k2_idx10_inb : ∀ (v7 : IVec S16 32) (v9 : IVec S16 32) (v11 : IVec S16 32) (v13 : IVec S16 32) (v60 : IVec S16 32) (k2_hw2 : k2_chk2 v7 v9 v11 v13 v60), ∀ a x, ((![v60, v13] : Fin 2 → IVec S16 32) a x).toNat < S1024x64.size a := fun v7 v9 v11 v13 v60 k2_hw2 => k2_hw2.2.2.2.2

def k2_chk3 (v7 : IVec S16 32) (v9 : IVec S16 32) (v11 : IVec S16 32) (v13 : IVec S16 32) (v75 : IVec S16 32) : Prop :=
  (∀ a x, ((![v75] : Fin 1 → IVec S16 32) a x).toNat < S1024.size a) ∧
  (∀ a x, ((![v75, v7] : Fin 2 → IVec S16 32) a x).toNat < S1024x64.size a) ∧
  (∀ a x, ((![v75, v9] : Fin 2 → IVec S16 32) a x).toNat < S1024x64.size a) ∧
  (∀ a x, ((![v75, v11] : Fin 2 → IVec S16 32) a x).toNat < S1024x64.size a) ∧
  (∀ a x, ((![v75, v13] : Fin 2 → IVec S16 32) a x).toNat < S1024x64.size a)
theorem k2_idx11_inb : ∀ (v7 : IVec S16 32) (v9 : IVec S16 32) (v11 : IVec S16 32) (v13 : IVec S16 32) (v75 : IVec S16 32) (k2_hw3 : k2_chk3 v7 v9 v11 v13 v75), ∀ a x, ((![v75] : Fin 1 → IVec S16 32) a x).toNat < S1024.size a := fun v7 v9 v11 v13 v75 k2_hw3 => k2_hw3.1
theorem k2_idx12_inb : ∀ (v7 : IVec S16 32) (v9 : IVec S16 32) (v11 : IVec S16 32) (v13 : IVec S16 32) (v75 : IVec S16 32) (k2_hw3 : k2_chk3 v7 v9 v11 v13 v75), ∀ a x, ((![v75, v7] : Fin 2 → IVec S16 32) a x).toNat < S1024x64.size a := fun v7 v9 v11 v13 v75 k2_hw3 => k2_hw3.2.1
theorem k2_idx13_inb : ∀ (v7 : IVec S16 32) (v9 : IVec S16 32) (v11 : IVec S16 32) (v13 : IVec S16 32) (v75 : IVec S16 32) (k2_hw3 : k2_chk3 v7 v9 v11 v13 v75), ∀ a x, ((![v75, v9] : Fin 2 → IVec S16 32) a x).toNat < S1024x64.size a := fun v7 v9 v11 v13 v75 k2_hw3 => k2_hw3.2.2.1
theorem k2_idx14_inb : ∀ (v7 : IVec S16 32) (v9 : IVec S16 32) (v11 : IVec S16 32) (v13 : IVec S16 32) (v75 : IVec S16 32) (k2_hw3 : k2_chk3 v7 v9 v11 v13 v75), ∀ a x, ((![v75, v11] : Fin 2 → IVec S16 32) a x).toNat < S1024x64.size a := fun v7 v9 v11 v13 v75 k2_hw3 => k2_hw3.2.2.2.1
theorem k2_idx15_inb : ∀ (v7 : IVec S16 32) (v9 : IVec S16 32) (v11 : IVec S16 32) (v13 : IVec S16 32) (v75 : IVec S16 32) (k2_hw3 : k2_chk3 v7 v9 v11 v13 v75), ∀ a x, ((![v75, v13] : Fin 2 → IVec S16 32) a x).toNat < S1024x64.size a := fun v7 v9 v11 v13 v75 k2_hw3 => k2_hw3.2.2.2.2

def k2_chk4 (v7 : IVec S16 32) (v9 : IVec S16 32) (v11 : IVec S16 32) (v13 : IVec S16 32) (v90 : IVec S16 32) : Prop :=
  (∀ a x, ((![v90] : Fin 1 → IVec S16 32) a x).toNat < S1024.size a) ∧
  (∀ a x, ((![v90, v7] : Fin 2 → IVec S16 32) a x).toNat < S1024x64.size a) ∧
  (∀ a x, ((![v90, v9] : Fin 2 → IVec S16 32) a x).toNat < S1024x64.size a) ∧
  (∀ a x, ((![v90, v11] : Fin 2 → IVec S16 32) a x).toNat < S1024x64.size a) ∧
  (∀ a x, ((![v90, v13] : Fin 2 → IVec S16 32) a x).toNat < S1024x64.size a)
theorem k2_idx16_inb : ∀ (v7 : IVec S16 32) (v9 : IVec S16 32) (v11 : IVec S16 32) (v13 : IVec S16 32) (v90 : IVec S16 32) (k2_hw4 : k2_chk4 v7 v9 v11 v13 v90), ∀ a x, ((![v90] : Fin 1 → IVec S16 32) a x).toNat < S1024.size a := fun v7 v9 v11 v13 v90 k2_hw4 => k2_hw4.1
theorem k2_idx17_inb : ∀ (v7 : IVec S16 32) (v9 : IVec S16 32) (v11 : IVec S16 32) (v13 : IVec S16 32) (v90 : IVec S16 32) (k2_hw4 : k2_chk4 v7 v9 v11 v13 v90), ∀ a x, ((![v90, v7] : Fin 2 → IVec S16 32) a x).toNat < S1024x64.size a := fun v7 v9 v11 v13 v90 k2_hw4 => k2_hw4.2.1
theorem k2_idx18_inb : ∀ (v7 : IVec S16 32) (v9 : IVec S16 32) (v11 : IVec S16 32) (v13 : IVec S16 32) (v90 : IVec S16 32) (k2_hw4 : k2_chk4 v7 v9 v11 v13 v90), ∀ a x, ((![v90, v9] : Fin 2 → IVec S16 32) a x).toNat < S1024x64.size a := fun v7 v9 v11 v13 v90 k2_hw4 => k2_hw4.2.2.1
theorem k2_idx19_inb : ∀ (v7 : IVec S16 32) (v9 : IVec S16 32) (v11 : IVec S16 32) (v13 : IVec S16 32) (v90 : IVec S16 32) (k2_hw4 : k2_chk4 v7 v9 v11 v13 v90), ∀ a x, ((![v90, v11] : Fin 2 → IVec S16 32) a x).toNat < S1024x64.size a := fun v7 v9 v11 v13 v90 k2_hw4 => k2_hw4.2.2.2.1
theorem k2_idx20_inb : ∀ (v7 : IVec S16 32) (v9 : IVec S16 32) (v11 : IVec S16 32) (v13 : IVec S16 32) (v90 : IVec S16 32) (k2_hw4 : k2_chk4 v7 v9 v11 v13 v90), ∀ a x, ((![v90, v13] : Fin 2 → IVec S16 32) a x).toNat < S1024x64.size a := fun v7 v9 v11 v13 v90 k2_hw4 => k2_hw4.2.2.2.2

def k2_chk5 (v7 : IVec S16 32) (v9 : IVec S16 32) (v11 : IVec S16 32) (v13 : IVec S16 32) (v105 : IVec S16 32) : Prop :=
  (∀ a x, ((![v105] : Fin 1 → IVec S16 32) a x).toNat < S1024.size a) ∧
  (∀ a x, ((![v105, v7] : Fin 2 → IVec S16 32) a x).toNat < S1024x64.size a) ∧
  (∀ a x, ((![v105, v9] : Fin 2 → IVec S16 32) a x).toNat < S1024x64.size a) ∧
  (∀ a x, ((![v105, v11] : Fin 2 → IVec S16 32) a x).toNat < S1024x64.size a) ∧
  (∀ a x, ((![v105, v13] : Fin 2 → IVec S16 32) a x).toNat < S1024x64.size a)
theorem k2_idx21_inb : ∀ (v7 : IVec S16 32) (v9 : IVec S16 32) (v11 : IVec S16 32) (v13 : IVec S16 32) (v105 : IVec S16 32) (k2_hw5 : k2_chk5 v7 v9 v11 v13 v105), ∀ a x, ((![v105] : Fin 1 → IVec S16 32) a x).toNat < S1024.size a := fun v7 v9 v11 v13 v105 k2_hw5 => k2_hw5.1
theorem k2_idx22_inb : ∀ (v7 : IVec S16 32) (v9 : IVec S16 32) (v11 : IVec S16 32) (v13 : IVec S16 32) (v105 : IVec S16 32) (k2_hw5 : k2_chk5 v7 v9 v11 v13 v105), ∀ a x, ((![v105, v7] : Fin 2 → IVec S16 32) a x).toNat < S1024x64.size a := fun v7 v9 v11 v13 v105 k2_hw5 => k2_hw5.2.1
theorem k2_idx23_inb : ∀ (v7 : IVec S16 32) (v9 : IVec S16 32) (v11 : IVec S16 32) (v13 : IVec S16 32) (v105 : IVec S16 32) (k2_hw5 : k2_chk5 v7 v9 v11 v13 v105), ∀ a x, ((![v105, v9] : Fin 2 → IVec S16 32) a x).toNat < S1024x64.size a := fun v7 v9 v11 v13 v105 k2_hw5 => k2_hw5.2.2.1
theorem k2_idx24_inb : ∀ (v7 : IVec S16 32) (v9 : IVec S16 32) (v11 : IVec S16 32) (v13 : IVec S16 32) (v105 : IVec S16 32) (k2_hw5 : k2_chk5 v7 v9 v11 v13 v105), ∀ a x, ((![v105, v11] : Fin 2 → IVec S16 32) a x).toNat < S1024x64.size a := fun v7 v9 v11 v13 v105 k2_hw5 => k2_hw5.2.2.2.1
theorem k2_idx25_inb : ∀ (v7 : IVec S16 32) (v9 : IVec S16 32) (v11 : IVec S16 32) (v13 : IVec S16 32) (v105 : IVec S16 32) (k2_hw5 : k2_chk5 v7 v9 v11 v13 v105), ∀ a x, ((![v105, v13] : Fin 2 → IVec S16 32) a x).toNat < S1024x64.size a := fun v7 v9 v11 v13 v105 k2_hw5 => k2_hw5.2.2.2.2

def k2_chk6 (v7 : IVec S16 32) (v9 : IVec S16 32) (v11 : IVec S16 32) (v13 : IVec S16 32) (v120 : IVec S16 32) : Prop :=
  (∀ a x, ((![v120] : Fin 1 → IVec S16 32) a x).toNat < S1024.size a) ∧
  (∀ a x, ((![v120, v7] : Fin 2 → IVec S16 32) a x).toNat < S1024x64.size a) ∧
  (∀ a x, ((![v120, v9] : Fin 2 → IVec S16 32) a x).toNat < S1024x64.size a) ∧
  (∀ a x, ((![v120, v11] : Fin 2 → IVec S16 32) a x).toNat < S1024x64.size a) ∧
  (∀ a x, ((![v120, v13] : Fin 2 → IVec S16 32) a x).toNat < S1024x64.size a)
theorem k2_idx26_inb : ∀ (v7 : IVec S16 32) (v9 : IVec S16 32) (v11 : IVec S16 32) (v13 : IVec S16 32) (v120 : IVec S16 32) (k2_hw6 : k2_chk6 v7 v9 v11 v13 v120), ∀ a x, ((![v120] : Fin 1 → IVec S16 32) a x).toNat < S1024.size a := fun v7 v9 v11 v13 v120 k2_hw6 => k2_hw6.1
theorem k2_idx27_inb : ∀ (v7 : IVec S16 32) (v9 : IVec S16 32) (v11 : IVec S16 32) (v13 : IVec S16 32) (v120 : IVec S16 32) (k2_hw6 : k2_chk6 v7 v9 v11 v13 v120), ∀ a x, ((![v120, v7] : Fin 2 → IVec S16 32) a x).toNat < S1024x64.size a := fun v7 v9 v11 v13 v120 k2_hw6 => k2_hw6.2.1
theorem k2_idx28_inb : ∀ (v7 : IVec S16 32) (v9 : IVec S16 32) (v11 : IVec S16 32) (v13 : IVec S16 32) (v120 : IVec S16 32) (k2_hw6 : k2_chk6 v7 v9 v11 v13 v120), ∀ a x, ((![v120, v9] : Fin 2 → IVec S16 32) a x).toNat < S1024x64.size a := fun v7 v9 v11 v13 v120 k2_hw6 => k2_hw6.2.2.1
theorem k2_idx29_inb : ∀ (v7 : IVec S16 32) (v9 : IVec S16 32) (v11 : IVec S16 32) (v13 : IVec S16 32) (v120 : IVec S16 32) (k2_hw6 : k2_chk6 v7 v9 v11 v13 v120), ∀ a x, ((![v120, v11] : Fin 2 → IVec S16 32) a x).toNat < S1024x64.size a := fun v7 v9 v11 v13 v120 k2_hw6 => k2_hw6.2.2.2.1
theorem k2_idx30_inb : ∀ (v7 : IVec S16 32) (v9 : IVec S16 32) (v11 : IVec S16 32) (v13 : IVec S16 32) (v120 : IVec S16 32) (k2_hw6 : k2_chk6 v7 v9 v11 v13 v120), ∀ a x, ((![v120, v13] : Fin 2 → IVec S16 32) a x).toNat < S1024x64.size a := fun v7 v9 v11 v13 v120 k2_hw6 => k2_hw6.2.2.2.2

def k2_chk7 (v7 : IVec S16 32) (v9 : IVec S16 32) (v11 : IVec S16 32) (v13 : IVec S16 32) (v135 : IVec S16 32) : Prop :=
  (∀ a x, ((![v135] : Fin 1 → IVec S16 32) a x).toNat < S1024.size a) ∧
  (∀ a x, ((![v135, v7] : Fin 2 → IVec S16 32) a x).toNat < S1024x64.size a) ∧
  (∀ a x, ((![v135, v9] : Fin 2 → IVec S16 32) a x).toNat < S1024x64.size a) ∧
  (∀ a x, ((![v135, v11] : Fin 2 → IVec S16 32) a x).toNat < S1024x64.size a) ∧
  (∀ a x, ((![v135, v13] : Fin 2 → IVec S16 32) a x).toNat < S1024x64.size a)
theorem k2_idx31_inb : ∀ (v7 : IVec S16 32) (v9 : IVec S16 32) (v11 : IVec S16 32) (v13 : IVec S16 32) (v135 : IVec S16 32) (k2_hw7 : k2_chk7 v7 v9 v11 v13 v135), ∀ a x, ((![v135] : Fin 1 → IVec S16 32) a x).toNat < S1024.size a := fun v7 v9 v11 v13 v135 k2_hw7 => k2_hw7.1
theorem k2_idx32_inb : ∀ (v7 : IVec S16 32) (v9 : IVec S16 32) (v11 : IVec S16 32) (v13 : IVec S16 32) (v135 : IVec S16 32) (k2_hw7 : k2_chk7 v7 v9 v11 v13 v135), ∀ a x, ((![v135, v7] : Fin 2 → IVec S16 32) a x).toNat < S1024x64.size a := fun v7 v9 v11 v13 v135 k2_hw7 => k2_hw7.2.1
theorem k2_idx33_inb : ∀ (v7 : IVec S16 32) (v9 : IVec S16 32) (v11 : IVec S16 32) (v13 : IVec S16 32) (v135 : IVec S16 32) (k2_hw7 : k2_chk7 v7 v9 v11 v13 v135), ∀ a x, ((![v135, v9] : Fin 2 → IVec S16 32) a x).toNat < S1024x64.size a := fun v7 v9 v11 v13 v135 k2_hw7 => k2_hw7.2.2.1
theorem k2_idx34_inb : ∀ (v7 : IVec S16 32) (v9 : IVec S16 32) (v11 : IVec S16 32) (v13 : IVec S16 32) (v135 : IVec S16 32) (k2_hw7 : k2_chk7 v7 v9 v11 v13 v135), ∀ a x, ((![v135, v11] : Fin 2 → IVec S16 32) a x).toNat < S1024x64.size a := fun v7 v9 v11 v13 v135 k2_hw7 => k2_hw7.2.2.2.1
theorem k2_idx35_inb : ∀ (v7 : IVec S16 32) (v9 : IVec S16 32) (v11 : IVec S16 32) (v13 : IVec S16 32) (v135 : IVec S16 32) (k2_hw7 : k2_chk7 v7 v9 v11 v13 v135), ∀ a x, ((![v135, v13] : Fin 2 → IVec S16 32) a x).toNat < S1024x64.size a := fun v7 v9 v11 v13 v135 k2_hw7 => k2_hw7.2.2.2.2

def k2_chk8 (v7 : IVec S16 32) (v9 : IVec S16 32) (v11 : IVec S16 32) (v13 : IVec S16 32) (v150 : IVec S16 32) : Prop :=
  (∀ a x, ((![v150] : Fin 1 → IVec S16 32) a x).toNat < S1024.size a) ∧
  (∀ a x, ((![v150, v7] : Fin 2 → IVec S16 32) a x).toNat < S1024x64.size a) ∧
  (∀ a x, ((![v150, v9] : Fin 2 → IVec S16 32) a x).toNat < S1024x64.size a) ∧
  (∀ a x, ((![v150, v11] : Fin 2 → IVec S16 32) a x).toNat < S1024x64.size a) ∧
  (∀ a x, ((![v150, v13] : Fin 2 → IVec S16 32) a x).toNat < S1024x64.size a)
theorem k2_idx36_inb : ∀ (v7 : IVec S16 32) (v9 : IVec S16 32) (v11 : IVec S16 32) (v13 : IVec S16 32) (v150 : IVec S16 32) (k2_hw8 : k2_chk8 v7 v9 v11 v13 v150), ∀ a x, ((![v150] : Fin 1 → IVec S16 32) a x).toNat < S1024.size a := fun v7 v9 v11 v13 v150 k2_hw8 => k2_hw8.1
theorem k2_idx37_inb : ∀ (v7 : IVec S16 32) (v9 : IVec S16 32) (v11 : IVec S16 32) (v13 : IVec S16 32) (v150 : IVec S16 32) (k2_hw8 : k2_chk8 v7 v9 v11 v13 v150), ∀ a x, ((![v150, v7] : Fin 2 → IVec S16 32) a x).toNat < S1024x64.size a := fun v7 v9 v11 v13 v150 k2_hw8 => k2_hw8.2.1
theorem k2_idx38_inb : ∀ (v7 : IVec S16 32) (v9 : IVec S16 32) (v11 : IVec S16 32) (v13 : IVec S16 32) (v150 : IVec S16 32) (k2_hw8 : k2_chk8 v7 v9 v11 v13 v150), ∀ a x, ((![v150, v9] : Fin 2 → IVec S16 32) a x).toNat < S1024x64.size a := fun v7 v9 v11 v13 v150 k2_hw8 => k2_hw8.2.2.1
theorem k2_idx39_inb : ∀ (v7 : IVec S16 32) (v9 : IVec S16 32) (v11 : IVec S16 32) (v13 : IVec S16 32) (v150 : IVec S16 32) (k2_hw8 : k2_chk8 v7 v9 v11 v13 v150), ∀ a x, ((![v150, v11] : Fin 2 → IVec S16 32) a x).toNat < S1024x64.size a := fun v7 v9 v11 v13 v150 k2_hw8 => k2_hw8.2.2.2.1
theorem k2_idx40_inb : ∀ (v7 : IVec S16 32) (v9 : IVec S16 32) (v11 : IVec S16 32) (v13 : IVec S16 32) (v150 : IVec S16 32) (k2_hw8 : k2_chk8 v7 v9 v11 v13 v150), ∀ a x, ((![v150, v13] : Fin 2 → IVec S16 32) a x).toNat < S1024x64.size a := fun v7 v9 v11 v13 v150 k2_hw8 => k2_hw8.2.2.2.2

def k2_chk9 (v166 : IVec S16 32) : Prop :=
  (∀ a x, ((![v166] : Fin 1 → IVec S16 32) a x).toNat < S8192.size a)
theorem k2_idx41_inb : ∀ (v166 : IVec S16 32) (k2_hw9 : k2_chk9 v166), ∀ a x, ((![v166] : Fin 1 → IVec S16 32) a x).toNat < S8192.size a := fun v166 k2_hw9 => k2_hw9

def k2_chk10 (v168 : IVec S16 32) : Prop :=
  (∀ a x, ((![v168] : Fin 1 → IVec S16 32) a x).toNat < S8192.size a)
theorem k2_idx42_inb : ∀ (v168 : IVec S16 32) (k2_hw10 : k2_chk10 v168), ∀ a x, ((![v168] : Fin 1 → IVec S16 32) a x).toNat < S8192.size a := fun v168 k2_hw10 => k2_hw10

def k2_chk11 (v170 : IVec S16 32) : Prop :=
  (∀ a x, ((![v170] : Fin 1 → IVec S16 32) a x).toNat < S8192.size a)
theorem k2_idx43_inb : ∀ (v170 : IVec S16 32) (k2_hw11 : k2_chk11 v170), ∀ a x, ((![v170] : Fin 1 → IVec S16 32) a x).toNat < S8192.size a := fun v170 k2_hw11 => k2_hw11

def k2_chk12 (v172 : IVec S16 32) : Prop :=
  (∀ a x, ((![v172] : Fin 1 → IVec S16 32) a x).toNat < S8192.size a)
theorem k2_idx44_inb : ∀ (v172 : IVec S16 32) (k2_hw12 : k2_chk12 v172), ∀ a x, ((![v172] : Fin 1 → IVec S16 32) a x).toNat < S8192.size a := fun v172 k2_hw12 => k2_hw12
def k2_off1 (i : grid2.Coords) (k2_t1 : Fin k2_t1_loop.trips) : Fin 2 → Nat :=
  let c0_i32_2 : BitVec 32 := 0#32
  let c1_i32 : BitVec 32 := 1#32
  let arg22 : BitVec 32 := Scf.iv c0_i32_2 c1_i32 k2_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v39 : BitVec 32 := Scalar.muli v2 c64_i32
  ![arg22.toNat, v39.toNat]
abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12x512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Routing.lean ====
abbrev S12x64x4096 : Shape := ⟨3, ![12, 64, 4096]⟩
abbrev S4x4096x64 : Shape := ⟨3, ![4, 4096, 64]⟩
abbrev S16384x64 : Shape := ⟨2, ![16384, 64]⟩
abbrev S12x262144 : Shape := ⟨2, ![12, 262144]⟩
abbrev S64x128 : Shape := ⟨2, ![64, 128]⟩
abbrev S1024 : Shape := ⟨1, ![1024]⟩
abbrev S8x16 : Shape := ⟨2, ![8, 16]⟩
abbrev S1024x64 : Shape := ⟨2, ![1024, 64]⟩
abbrev S8192 : Shape := ⟨1, ![8192]⟩
abbrev S_ : Shape := ⟨0, ![]⟩
abbrev S16 : Shape := ⟨1, ![16]⟩
abbrev S1x8192 : Shape := ⟨2, ![1, 8192]⟩

abbrev nBuf : Table → Nat
  | .hbm => 7
  | .local .scVector .vmem => 13
  | _ => 0

abbrev bufTy : (tb : Table) → Fin (nBuf tb) → BufTy
  | .hbm, ⟨0, _⟩ => ⟨S12x64x4096, .f32⟩
  | .hbm, ⟨1, _⟩ => ⟨S12x64x4096, .f32⟩
  | .hbm, ⟨2, _⟩ => ⟨S12x64x4096, .f32⟩
  | .hbm, ⟨3, _⟩ => ⟨S12x64x4096, .f32⟩
  | .hbm, ⟨4, _⟩ => ⟨S4x4096x64, .f32⟩
  | .hbm, ⟨5, _⟩ => ⟨S16384x64, .f32⟩
  | .hbm, ⟨6, _⟩ => ⟨S12x262144, .f32⟩
  | .local .scVector .vmem, ⟨0, _⟩ => ⟨S64x128, .f32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S1024, .f32⟩
  | .local .scVector .vmem, ⟨5, _⟩ => ⟨S8x16, .f32⟩
  | .local .scVector .vmem, ⟨6, _⟩ => ⟨S8x16, .i32⟩
  | .local .scVector .vmem, ⟨7, _⟩ => ⟨S8x16, .f32⟩
  | .local .scVector .vmem, ⟨8, _⟩ => ⟨S8x16, .i32⟩
  | .local .scVector .vmem, ⟨9, _⟩ => ⟨S1024, .i32⟩
  | .local .scVector .vmem, ⟨10, _⟩ => ⟨S1024, .f32⟩
  | .local .scVector .vmem, ⟨11, _⟩ => ⟨S1024x64, .f32⟩
  | .local .scVector .vmem, ⟨12, _⟩ => ⟨S8192, .f32⟩
  | _, _ => ⟨S12x64x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 5, rfl⟩
abbrev main_v1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c12_i32 : BitVec 32 := 12#32
  let v14 : BitVec 32 := Scalar.addi c0_i32_2 c12_i32
  let c1_i32 : BitVec 32 := 1#32
  ⟨c0_i32_2, v14, c1_i32⟩
@[reducible] def k0_t2_loop : Scf.Loop 32 :=
  let c0_i32_11 : BitVec 32 := 0#32
  let c8_i32 : BitVec 32 := 8#32
  let v35 : BitVec 32 := Scalar.addi c0_i32_11 c8_i32
  let c1_i32_12 : BitVec 32 := 1#32
  ⟨c0_i32_11, v35, c1_i32_12⟩
@[reducible] def k0_t3_loop : Scf.Loop 32 :=
  let c0_i32_15 : BitVec 32 := 0#32
  let c128_i32_16 : BitVec 32 := 128#32
  let v37 : BitVec 32 := Scalar.addi c0_i32_15 c128_i32_16
  let c1_i32_17 : BitVec 32 := 1#32
  ⟨c0_i32_15, v37, c1_i32_17⟩

def k0_chk1 (v7 : IVec S16 32) (v9 : IVec S16 32) (v11 : IVec S16 32) (v13 : IVec S16 32) (v45 : IVec S16 32) : Prop :=
  (∀ a x, ((![v45] : Fin 1 → IVec S16 32) a x).toNat < S1024.size a) ∧
  (∀ a x, ((![v45, v7] : Fin 2 → IVec S16 32) a x).toNat < S1024x64.size a) ∧
  (∀ a x, ((![v45, v9] : Fin 2 → IVec S16 32) a x).toNat < S1024x64.size a) ∧
  (∀ a x, ((![v45, v11] : Fin 2 → IVec S16 32) a x).toNat < S1024x64.size a) ∧
  (∀ a x, ((![v45, v13] : Fin 2 → IVec S16 32) a x).toNat < S1024x64.size a)
theorem k0_idx1_inb : ∀ (v7 : IVec S16 32) (v9 : IVec S16 32) (v11 : IVec S16 32) (v13 : IVec S16 32) (v45 : IVec S16 32) (k0_hw1 : k0_chk1 v7 v9 v11 v13 v45), ∀ a x, ((![v45] : Fin 1 → IVec S16 32) a x).toNat < S1024.size a := fun v7 v9 v11 v13 v45 k0_hw1 => k0_hw1.1
theorem k0_idx2_inb : ∀ (v7 : IVec S16 32) (v9 : IVec S16 32) (v11 : IVec S16 32) (v13 : IVec S16 32) (v45 : IVec S16 32) (k0_hw1 : k0_chk1 v7 v9 v11 v13 v45), ∀ a x, ((![v45, v7] : Fin 2 → IVec S16 32) a x).toNat < S1024x64.size a := fun v7 v9 v11 v13 v45 k0_hw1 => k0_hw1.2.1
theorem k0_idx3_inb : ∀ (v7 : IVec S16 32) (v9 : IVec S16 32) (v11 : IVec S16 32) (v13 : IVec S16 32) (v45 : IVec S16 32) (k0_hw1 : k0_chk1 v7 v9 v11 v13 v45), ∀ a x, ((![v45, v9] : Fin 2 → IVec S16 32) a x).toNat < S1024x64.size a := fun v7 v9 v11 v13 v45 k0_hw1 => k0_hw1.2.2.1
theorem k0_idx4_inb : ∀ (v7 : IVec S16 32) (v9 : IVec S16 32) (v11 : IVec S16 32) (v13 : IVec S16 32) (v45 : IVec S16 32) (k0_hw1 : k0_chk1 v7 v9 v11 v13 v45), ∀ a x, ((![v45, v11] : Fin 2 → IVec S16 32) a x).toNat < S1024x64.size a := fun v7 v9 v11 v13 v45 k0_hw1 => k0_hw1.2.2.2.1
theorem k0_idx5_inb : ∀ (v7 : IVec S16 32) (v9 : IVec S16 32) (v11 : IVec S16 32) (v13 : IVec S16 32) (v45 : IVec S16 32) (k0_hw1 : k0_chk1 v7 v9 v11 v13 v45), ∀ a x, ((![v45, v13] : Fin 2 → IVec S16 32) a x).toNat < S1024x64.size a := fun v7 v9 v11 v13 v45 k0_hw1 => k0_hw1.2.2.2.2

def k0_chk2 (v7 : IVec S16 32) (v9 : IVec S16 32) (v11 : IVec S16 32) (v13 : IVec S16 32) (v60 : IVec S16 32) : Prop :=
  (∀ a x, ((![v60] : Fin 1 → IVec S16 32) a x).toNat < S1024.size a) ∧
  (∀ a x, ((![v60, v7] : Fin 2 → IVec S16 32) a x).toNat < S1024x64.size a) ∧
  (∀ a x, ((![v60, v9] : Fin 2 → IVec S16 32) a x).toNat < S1024x64.size a) ∧
  (∀ a x, ((![v60, v11] : Fin 2 → IVec S16 32) a x).toNat < S1024x64.size a) ∧
  (∀ a x, ((![v60, v13] : Fin 2 → IVec S16 32) a x).toNat < S1024x64.size a)
theorem k0_idx6_inb : ∀ (v7 : IVec S16 32) (v9 : IVec S16 32) (v11 : IVec S16 32) (v13 : IVec S16 32) (v60 : IVec S16 32) (k0_hw2 : k0_chk2 v7 v9 v11 v13 v60), ∀ a x, ((![v60] : Fin 1 → IVec S16 32) a x).toNat < S1024.size a := fun v7 v9 v11 v13 v60 k0_hw2 => k0_hw2.1
theorem k0_idx7_inb : ∀ (v7 : IVec S16 32) (v9 : IVec S16 32) (v11 : IVec S16 32) (v13 : IVec S16 32) (v60 : IVec S16 32) (k0_hw2 : k0_chk2 v7 v9 v11 v13 v60), ∀ a x, ((![v60, v7] : Fin 2 → IVec S16 32) a x).toNat < S1024x64.size a := fun v7 v9 v11 v13 v60 k0_hw2 => k0_hw2.2.1
theorem k0_idx8_inb : ∀ (v7 : IVec S16 32) (v9 : IVec S16 32) (v11 : IVec S16 32) (v13 : IVec S16 32) (v60 : IVec S16 32) (k0_hw2 : k0_chk2 v7 v9 v11 v13 v60), ∀ a x, ((![v60, v9] : Fin 2 → IVec S16 32) a x).toNat < S1024x64.size a := fun v7 v9 v11 v13 v60 k0_hw2 => k0_hw2.2.2.1
theorem k0_idx9_inb : ∀ (v7 : IVec S16 32) (v9 : IVec S16 32) (v11 : IVec S16 32) (v13 : IVec S16 32) (v60 : IVec S16 32) (k0_hw2 : k0_chk2 v7 v9 v11 v13 v60), ∀ a x, ((![v60, v11] : Fin 2 → IVec S16 32) a x).toNat < S1024x64.size a := fun v7 v9 v11 v13 v60 k0_hw2 => k0_hw2.2.2.2.1
theorem k0_idx10_inb : ∀ (v7 : IVec S16 32) (v9 : IVec S16 32) (v11 : IVec S16 32) (v13 : IVec S16 32) (v60 : IVec S16 32) (k0_hw2 : k0_chk2 v7 v9 v11 v13 v60), ∀ a x, ((![v60, v13] : Fin 2 → IVec S16 32) a x).toNat < S1024x64.size a := fun v7 v9 v11 v13 v60 k0_hw2 => k0_hw2.2.2.2.2

def k0_chk3 (v7 : IVec S16 32) (v9 : IVec S16 32) (v11 : IVec S16 32) (v13 : IVec S16 32) (v75 : IVec S16 32) : Prop :=
  (∀ a x, ((![v75] : Fin 1 → IVec S16 32) a x).toNat < S1024.size a) ∧
  (∀ a x, ((![v75, v7] : Fin 2 → IVec S16 32) a x).toNat < S1024x64.size a) ∧
  (∀ a x, ((![v75, v9] : Fin 2 → IVec S16 32) a x).toNat < S1024x64.size a) ∧
  (∀ a x, ((![v75, v11] : Fin 2 → IVec S16 32) a x).toNat < S1024x64.size a) ∧
  (∀ a x, ((![v75, v13] : Fin 2 → IVec S16 32) a x).toNat < S1024x64.size a)
theorem k0_idx11_inb : ∀ (v7 : IVec S16 32) (v9 : IVec S16 32) (v11 : IVec S16 32) (v13 : IVec S16 32) (v75 : IVec S16 32) (k0_hw3 : k0_chk3 v7 v9 v11 v13 v75), ∀ a x, ((![v75] : Fin 1 → IVec S16 32) a x).toNat < S1024.size a := fun v7 v9 v11 v13 v75 k0_hw3 => k0_hw3.1
theorem k0_idx12_inb : ∀ (v7 : IVec S16 32) (v9 : IVec S16 32) (v11 : IVec S16 32) (v13 : IVec S16 32) (v75 : IVec S16 32) (k0_hw3 : k0_chk3 v7 v9 v11 v13 v75), ∀ a x, ((![v75, v7] : Fin 2 → IVec S16 32) a x).toNat < S1024x64.size a := fun v7 v9 v11 v13 v75 k0_hw3 => k0_hw3.2.1
theorem k0_idx13_inb : ∀ (v7 : IVec S16 32) (v9 : IVec S16 32) (v11 : IVec S16 32) (v13 : IVec S16 32) (v75 : IVec S16 32) (k0_hw3 : k0_chk3 v7 v9 v11 v13 v75), ∀ a x, ((![v75, v9] : Fin 2 → IVec S16 32) a x).toNat < S1024x64.size a := fun v7 v9 v11 v13 v75 k0_hw3 => k0_hw3.2.2.1
theorem k0_idx14_inb : ∀ (v7 : IVec S16 32) (v9 : IVec S16 32) (v11 : IVec S16 32) (v13 : IVec S16 32) (v75 : IVec S16 32) (k0_hw3 : k0_chk3 v7 v9 v11 v13 v75), ∀ a x, ((![v75, v11] : Fin 2 → IVec S16 32) a x).toNat < S1024x64.size a := fun v7 v9 v11 v13 v75 k0_hw3 => k0_hw3.2.2.2.1
theorem k0_idx15_inb : ∀ (v7 : IVec S16 32) (v9 : IVec S16 32) (v11 : IVec S16 32) (v13 : IVec S16 32) (v75 : IVec S16 32) (k0_hw3 : k0_chk3 v7 v9 v11 v13 v75), ∀ a x, ((![v75, v13] : Fin 2 → IVec S16 32) a x).toNat < S1024x64.size a := fun v7 v9 v11 v13 v75 k0_hw3 => k0_hw3.2.2.2.2

def k0_chk4 (v7 : IVec S16 32) (v9 : IVec S16 32) (v11 : IVec S16 32) (v13 : IVec S16 32) (v90 : IVec S16 32) : Prop :=
  (∀ a x, ((![v90] : Fin 1 → IVec S16 32) a x).toNat < S1024.size a) ∧
  (∀ a x, ((![v90, v7] : Fin 2 → IVec S16 32) a x).toNat < S1024x64.size a) ∧
  (∀ a x, ((![v90, v9] : Fin 2 → IVec S16 32) a x).toNat < S1024x64.size a) ∧
  (∀ a x, ((![v90, v11] : Fin 2 → IVec S16 32) a x).toNat < S1024x64.size a) ∧
  (∀ a x, ((![v90, v13] : Fin 2 → IVec S16 32) a x).toNat < S1024x64.size a)
theorem k0_idx16_inb : ∀ (v7 : IVec S16 32) (v9 : IVec S16 32) (v11 : IVec S16 32) (v13 : IVec S16 32) (v90 : IVec S16 32) (k0_hw4 : k0_chk4 v7 v9 v11 v13 v90), ∀ a x, ((![v90] : Fin 1 → IVec S16 32) a x).toNat < S1024.size a := fun v7 v9 v11 v13 v90 k0_hw4 => k0_hw4.1
theorem k0_idx17_inb : ∀ (v7 : IVec S16 32) (v9 : IVec S16 32) (v11 : IVec S16 32) (v13 : IVec S16 32) (v90 : IVec S16 32) (k0_hw4 : k0_chk4 v7 v9 v11 v13 v90), ∀ a x, ((![v90, v7] : Fin 2 → IVec S16 32) a x).toNat < S1024x64.size a := fun v7 v9 v11 v13 v90 k0_hw4 => k0_hw4.2.1
theorem k0_idx18_inb : ∀ (v7 : IVec S16 32) (v9 : IVec S16 32) (v11 : IVec S16 32) (v13 : IVec S16 32) (v90 : IVec S16 32) (k0_hw4 : k0_chk4 v7 v9 v11 v13 v90), ∀ a x, ((![v90, v9] : Fin 2 → IVec S16 32) a x).toNat < S1024x64.size a := fun v7 v9 v11 v13 v90 k0_hw4 => k0_hw4.2.2.1
theorem k0_idx19_inb : ∀ (v7 : IVec S16 32) (v9 : IVec S16 32) (v11 : IVec S16 32) (v13 : IVec S16 32) (v90 : IVec S16 32) (k0_hw4 : k0_chk4 v7 v9 v11 v13 v90), ∀ a x, ((![v90, v11] : Fin 2 → IVec S16 32) a x).toNat < S1024x64.size a := fun v7 v9 v11 v13 v90 k0_hw4 => k0_hw4.2.2.2.1
theorem k0_idx20_inb : ∀ (v7 : IVec S16 32) (v9 : IVec S16 32) (v11 : IVec S16 32) (v13 : IVec S16 32) (v90 : IVec S16 32) (k0_hw4 : k0_chk4 v7 v9 v11 v13 v90), ∀ a x, ((![v90, v13] : Fin 2 → IVec S16 32) a x).toNat < S1024x64.size a := fun v7 v9 v11 v13 v90 k0_hw4 => k0_hw4.2.2.2.2

def k0_chk5 (v7 : IVec S16 32) (v9 : IVec S16 32) (v11 : IVec S16 32) (v13 : IVec S16 32) (v105 : IVec S16 32) : Prop :=
  (∀ a x, ((![v105] : Fin 1 → IVec S16 32) a x).toNat < S1024.size a) ∧
  (∀ a x, ((![v105, v7] : Fin 2 → IVec S16 32) a x).toNat < S1024x64.size a) ∧
  (∀ a x, ((![v105, v9] : Fin 2 → IVec S16 32) a x).toNat < S1024x64.size a) ∧
  (∀ a x, ((![v105, v11] : Fin 2 → IVec S16 32) a x).toNat < S1024x64.size a) ∧
  (∀ a x, ((![v105, v13] : Fin 2 → IVec S16 32) a x).toNat < S1024x64.size a)
theorem k0_idx21_inb : ∀ (v7 : IVec S16 32) (v9 : IVec S16 32) (v11 : IVec S16 32) (v13 : IVec S16 32) (v105 : IVec S16 32) (k0_hw5 : k0_chk5 v7 v9 v11 v13 v105), ∀ a x, ((![v105] : Fin 1 → IVec S16 32) a x).toNat < S1024.size a := fun v7 v9 v11 v13 v105 k0_hw5 => k0_hw5.1
theorem k0_idx22_inb : ∀ (v7 : IVec S16 32) (v9 : IVec S16 32) (v11 : IVec S16 32) (v13 : IVec S16 32) (v105 : IVec S16 32) (k0_hw5 : k0_chk5 v7 v9 v11 v13 v105), ∀ a x, ((![v105, v7] : Fin 2 → IVec S16 32) a x).toNat < S1024x64.size a := fun v7 v9 v11 v13 v105 k0_hw5 => k0_hw5.2.1
theorem k0_idx23_inb : ∀ (v7 : IVec S16 32) (v9 : IVec S16 32) (v11 : IVec S16 32) (v13 : IVec S16 32) (v105 : IVec S16 32) (k0_hw5 : k0_chk5 v7 v9 v11 v13 v105), ∀ a x, ((![v105, v9] : Fin 2 → IVec S16 32) a x).toNat < S1024x64.size a := fun v7 v9 v11 v13 v105 k0_hw5 => k0_hw5.2.2.1
theorem k0_idx24_inb : ∀ (v7 : IVec S16 32) (v9 : IVec S16 32) (v11 : IVec S16 32) (v13 : IVec S16 32) (v105 : IVec S16 32) (k0_hw5 : k0_chk5 v7 v9 v11 v13 v105), ∀ a x, ((![v105, v11] : Fin 2 → IVec S16 32) a x).toNat < S1024x64.size a := fun v7 v9 v11 v13 v105 k0_hw5 => k0_hw5.2.2.2.1
theorem k0_idx25_inb : ∀ (v7 : IVec S16 32) (v9 : IVec S16 32) (v11 : IVec S16 32) (v13 : IVec S16 32) (v105 : IVec S16 32) (k0_hw5 : k0_chk5 v7 v9 v11 v13 v105), ∀ a x, ((![v105, v13] : Fin 2 → IVec S16 32) a x).toNat < S1024x64.size a := fun v7 v9 v11 v13 v105 k0_hw5 => k0_hw5.2.2.2.2

def k0_chk6 (v7 : IVec S16 32) (v9 : IVec S16 32) (v11 : IVec S16 32) (v13 : IVec S16 32) (v120 : IVec S16 32) : Prop :=
  (∀ a x, ((![v120] : Fin 1 → IVec S16 32) a x).toNat < S1024.size a) ∧
  (∀ a x, ((![v120, v7] : Fin 2 → IVec S16 32) a x).toNat < S1024x64.size a) ∧
  (∀ a x, ((![v120, v9] : Fin 2 → IVec S16 32) a x).toNat < S1024x64.size a) ∧
  (∀ a x, ((![v120, v11] : Fin 2 → IVec S16 32) a x).toNat < S1024x64.size a) ∧
  (∀ a x, ((![v120, v13] : Fin 2 → IVec S16 32) a x).toNat < S1024x64.size a)
theorem k0_idx26_inb : ∀ (v7 : IVec S16 32) (v9 : IVec S16 32) (v11 : IVec S16 32) (v13 : IVec S16 32) (v120 : IVec S16 32) (k0_hw6 : k0_chk6 v7 v9 v11 v13 v120), ∀ a x, ((![v120] : Fin 1 → IVec S16 32) a x).toNat < S1024.size a := fun v7 v9 v11 v13 v120 k0_hw6 => k0_hw6.1
theorem k0_idx27_inb : ∀ (v7 : IVec S16 32) (v9 : IVec S16 32) (v11 : IVec S16 32) (v13 : IVec S16 32) (v120 : IVec S16 32) (k0_hw6 : k0_chk6 v7 v9 v11 v13 v120), ∀ a x, ((![v120, v7] : Fin 2 → IVec S16 32) a x).toNat < S1024x64.size a := fun v7 v9 v11 v13 v120 k0_hw6 => k0_hw6.2.1
theorem k0_idx28_inb : ∀ (v7 : IVec S16 32) (v9 : IVec S16 32) (v11 : IVec S16 32) (v13 : IVec S16 32) (v120 : IVec S16 32) (k0_hw6 : k0_chk6 v7 v9 v11 v13 v120), ∀ a x, ((![v120, v9] : Fin 2 → IVec S16 32) a x).toNat < S1024x64.size a := fun v7 v9 v11 v13 v120 k0_hw6 => k0_hw6.2.2.1
theorem k0_idx29_inb : ∀ (v7 : IVec S16 32) (v9 : IVec S16 32) (v11 : IVec S16 32) (v13 : IVec S16 32) (v120 : IVec S16 32) (k0_hw6 : k0_chk6 v7 v9 v11 v13 v120), ∀ a x, ((![v120, v11] : Fin 2 → IVec S16 32) a x).toNat < S1024x64.size a := fun v7 v9 v11 v13 v120 k0_hw6 => k0_hw6.2.2.2.1
theorem k0_idx30_inb : ∀ (v7 : IVec S16 32) (v9 : IVec S16 32) (v11 : IVec S16 32) (v13 : IVec S16 32) (v120 : IVec S16 32) (k0_hw6 : k0_chk6 v7 v9 v11 v13 v120), ∀ a x, ((![v120, v13] : Fin 2 → IVec S16 32) a x).toNat < S1024x64.size a := fun v7 v9 v11 v13 v120 k0_hw6 => k0_hw6.2.2.2.2

def k0_chk7 (v7 : IVec S16 32) (v9 : IVec S16 32) (v11 : IVec S16 32) (v13 : IVec S16 32) (v135 : IVec S16 32) : Prop :=
  (∀ a x, ((![v135] : Fin 1 → IVec S16 32) a x).toNat < S1024.size a) ∧
  (∀ a x, ((![v135, v7] : Fin 2 → IVec S16 32) a x).toNat < S1024x64.size a) ∧
  (∀ a x, ((![v135, v9] : Fin 2 → IVec S16 32) a x).toNat < S1024x64.size a) ∧
  (∀ a x, ((![v135, v11] : Fin 2 → IVec S16 32) a x).toNat < S1024x64.size a) ∧
  (∀ a x, ((![v135, v13] : Fin 2 → IVec S16 32) a x).toNat < S1024x64.size a)
theorem k0_idx31_inb : ∀ (v7 : IVec S16 32) (v9 : IVec S16 32) (v11 : IVec S16 32) (v13 : IVec S16 32) (v135 : IVec S16 32) (k0_hw7 : k0_chk7 v7 v9 v11 v13 v135), ∀ a x, ((![v135] : Fin 1 → IVec S16 32) a x).toNat < S1024.size a := fun v7 v9 v11 v13 v135 k0_hw7 => k0_hw7.1
theorem k0_idx32_inb : ∀ (v7 : IVec S16 32) (v9 : IVec S16 32) (v11 : IVec S16 32) (v13 : IVec S16 32) (v135 : IVec S16 32) (k0_hw7 : k0_chk7 v7 v9 v11 v13 v135), ∀ a x, ((![v135, v7] : Fin 2 → IVec S16 32) a x).toNat < S1024x64.size a := fun v7 v9 v11 v13 v135 k0_hw7 => k0_hw7.2.1
theorem k0_idx33_inb : ∀ (v7 : IVec S16 32) (v9 : IVec S16 32) (v11 : IVec S16 32) (v13 : IVec S16 32) (v135 : IVec S16 32) (k0_hw7 : k0_chk7 v7 v9 v11 v13 v135), ∀ a x, ((![v135, v9] : Fin 2 → IVec S16 32) a x).toNat < S1024x64.size a := fun v7 v9 v11 v13 v135 k0_hw7 => k0_hw7.2.2.1
theorem k0_idx34_inb : ∀ (v7 : IVec S16 32) (v9 : IVec S16 32) (v11 : IVec S16 32) (v13 : IVec S16 32) (v135 : IVec S16 32) (k0_hw7 : k0_chk7 v7 v9 v11 v13 v135), ∀ a x, ((![v135, v11] : Fin 2 → IVec S16 32) a x).toNat < S1024x64.size a := fun v7 v9 v11 v13 v135 k0_hw7 => k0_hw7.2.2.2.1
theorem k0_idx35_inb : ∀ (v7 : IVec S16 32) (v9 : IVec S16 32) (v11 : IVec S16 32) (v13 : IVec S16 32) (v135 : IVec S16 32) (k0_hw7 : k0_chk7 v7 v9 v11 v13 v135), ∀ a x, ((![v135, v13] : Fin 2 → IVec S16 32) a x).toNat < S1024x64.size a := fun v7 v9 v11 v13 v135 k0_hw7 => k0_hw7.2.2.2.2

def k0_chk8 (v7 : IVec S16 32) (v9 : IVec S16 32) (v11 : IVec S16 32) (v13 : IVec S16 32) (v150 : IVec S16 32) : Prop :=
  (∀ a x, ((![v150] : Fin 1 → IVec S16 32) a x).toNat < S1024.size a) ∧
  (∀ a x, ((![v150, v7] : Fin 2 → IVec S16 32) a x).toNat < S1024x64.size a) ∧
  (∀ a x, ((![v150, v9] : Fin 2 → IVec S16 32) a x).toNat < S1024x64.size a) ∧
  (∀ a x, ((![v150, v11] : Fin 2 → IVec S16 32) a x).toNat < S1024x64.size a) ∧
  (∀ a x, ((![v150, v13] : Fin 2 → IVec S16 32) a x).toNat < S1024x64.size a)
theorem k0_idx36_inb : ∀ (v7 : IVec S16 32) (v9 : IVec S16 32) (v11 : IVec S16 32) (v13 : IVec S16 32) (v150 : IVec S16 32) (k0_hw8 : k0_chk8 v7 v9 v11 v13 v150), ∀ a x, ((![v150] : Fin 1 → IVec S16 32) a x).toNat < S1024.size a := fun v7 v9 v11 v13 v150 k0_hw8 => k0_hw8.1
theorem k0_idx37_inb : ∀ (v7 : IVec S16 32) (v9 : IVec S16 32) (v11 : IVec S16 32) (v13 : IVec S16 32) (v150 : IVec S16 32) (k0_hw8 : k0_chk8 v7 v9 v11 v13 v150), ∀ a x, ((![v150, v7] : Fin 2 → IVec S16 32) a x).toNat < S1024x64.size a := fun v7 v9 v11 v13 v150 k0_hw8 => k0_hw8.2.1
theorem k0_idx38_inb : ∀ (v7 : IVec S16 32) (v9 : IVec S16 32) (v11 : IVec S16 32) (v13 : IVec S16 32) (v150 : IVec S16 32) (k0_hw8 : k0_chk8 v7 v9 v11 v13 v150), ∀ a x, ((![v150, v9] : Fin 2 → IVec S16 32) a x).toNat < S1024x64.size a := fun v7 v9 v11 v13 v150 k0_hw8 => k0_hw8.2.2.1
theorem k0_idx39_inb : ∀ (v7 : IVec S16 32) (v9 : IVec S16 32) (v11 : IVec S16 32) (v13 : IVec S16 32) (v150 : IVec S16 32) (k0_hw8 : k0_chk8 v7 v9 v11 v13 v150), ∀ a x, ((![v150, v11] : Fin 2 → IVec S16 32) a x).toNat < S1024x64.size a := fun v7 v9 v11 v13 v150 k0_hw8 => k0_hw8.2.2.2.1
theorem k0_idx40_inb : ∀ (v7 : IVec S16 32) (v9 : IVec S16 32) (v11 : IVec S16 32) (v13 : IVec S16 32) (v150 : IVec S16 32) (k0_hw8 : k0_chk8 v7 v9 v11 v13 v150), ∀ a x, ((![v150, v13] : Fin 2 → IVec S16 32) a x).toNat < S1024x64.size a := fun v7 v9 v11 v13 v150 k0_hw8 => k0_hw8.2.2.2.2

def k0_chk9 (v166 : IVec S16 32) : Prop :=
  (∀ a x, ((![v166] : Fin 1 → IVec S16 32) a x).toNat < S8192.size a)
theorem k0_idx41_inb : ∀ (v166 : IVec S16 32) (k0_hw9 : k0_chk9 v166), ∀ a x, ((![v166] : Fin 1 → IVec S16 32) a x).toNat < S8192.size a := fun v166 k0_hw9 => k0_hw9

def k0_chk10 (v168 : IVec S16 32) : Prop :=
  (∀ a x, ((![v168] : Fin 1 → IVec S16 32) a x).toNat < S8192.size a)
theorem k0_idx42_inb : ∀ (v168 : IVec S16 32) (k0_hw10 : k0_chk10 v168), ∀ a x, ((![v168] : Fin 1 → IVec S16 32) a x).toNat < S8192.size a := fun v168 k0_hw10 => k0_hw10

def k0_chk11 (v170 : IVec S16 32) : Prop :=
  (∀ a x, ((![v170] : Fin 1 → IVec S16 32) a x).toNat < S8192.size a)
theorem k0_idx43_inb : ∀ (v170 : IVec S16 32) (k0_hw11 : k0_chk11 v170), ∀ a x, ((![v170] : Fin 1 → IVec S16 32) a x).toNat < S8192.size a := fun v170 k0_hw11 => k0_hw11

def k0_chk12 (v172 : IVec S16 32) : Prop :=
  (∀ a x, ((![v172] : Fin 1 → IVec S16 32) a x).toNat < S8192.size a)
theorem k0_idx44_inb : ∀ (v172 : IVec S16 32) (k0_hw12 : k0_chk12 v172), ∀ a x, ((![v172] : Fin 1 → IVec S16 32) a x).toNat < S8192.size a := fun v172 k0_hw12 => k0_hw12
def k0_off1 (i : grid0.Coords) (k0_t1 : Fin k0_t1_loop.trips) : Fin 2 → Nat :=
  let c0_i32_2 : BitVec 32 := 0#32
  let c1_i32 : BitVec 32 := 1#32
  let arg22 : BitVec 32 := Scf.iv c0_i32_2 c1_i32 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v39 : BitVec 32 := Scalar.muli v2 c64_i32
  ![arg22.toNat, v39.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Front.lean ====
abbrev S1x4096x768 : Shape := ⟨3, ![1, 4096, 768]⟩
abbrev S768x768 : Shape := ⟨2, ![768, 768]⟩
abbrev S256x768 : Shape := ⟨2, ![256, 768]⟩
abbrev S4096x768 : Shape := ⟨2, ![4096, 768]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x12x64 : Shape := ⟨4, ![1, 4096, 12, 64]⟩
abbrev S1x4096x4x64 : Shape := ⟨4, ![1, 4096, 4, 64]⟩
abbrev S4096x256 : Shape := ⟨2, ![4096, 256]⟩
abbrev S768x256 : Shape := ⟨2, ![768, 256]⟩
abbrev S768x12x2x32 : Shape := ⟨4, ![768, 12, 2, 32]⟩
abbrev S768x12x1x32 : Shape := ⟨4, ![768, 12, 1, 32]⟩
abbrev S768x4x2x32 : Shape := ⟨4, ![768, 4, 2, 32]⟩
abbrev S768x4x1x32 : Shape := ⟨4, ![768, 4, 1, 32]⟩
abbrev S64 : Shape := ⟨1, ![64]⟩
abbrev S1x4096 : Shape := ⟨2, ![1, 4096]⟩
abbrev S64x1 : Shape := ⟨2, ![64, 1]⟩
abbrev S64x4096 : Shape := ⟨2, ![64, 4096]⟩
abbrev S12x4096x64 : Shape := ⟨3, ![12, 4096, 64]⟩
abbrev S4x4096x64 : Shape := ⟨3, ![4, 4096, 64]⟩
abbrev S512x768 : Shape := ⟨2, ![512, 768]⟩
abbrev S512x256 : Shape := ⟨2, ![512, 256]⟩
abbrev S12x512x64 : Shape := ⟨3, ![12, 512, 64]⟩
abbrev S4x512x64 : Shape := ⟨3, ![4, 512, 64]⟩
abbrev S512x64 : Shape := ⟨2, ![512, 64]⟩
abbrev S1x512x64 : Shape := ⟨3, ![1, 512, 64]⟩
abbrev S12x64x4096 : Shape := ⟨3, ![12, 64, 4096]⟩
abbrev S1x4096x64 : Shape := ⟨3, ![1, 4096, 64]⟩
abbrev S1x64x4096 : Shape := ⟨3, ![1, 64, 4096]⟩
abbrev S64x32 : Shape := ⟨2, ![64, 32]⟩

abbrev nBuf : Space → Nat
  | .hbm => 124
  | .vmem => 35
  | .smem => 0
  | _ => 0

abbrev bufTy : (tb : Table) → Fin (tcTables nBuf tb) → BufTy
  | .hbm, ⟨0, _⟩ => ⟨S1x4096x768, .f32⟩
  | .hbm, ⟨1, _⟩ => ⟨S768x768, .f32⟩
  | .hbm, ⟨2, _⟩ => ⟨S256x768, .f32⟩
  | .hbm, ⟨3, _⟩ => ⟨S256x768, .f32⟩
  | .hbm, ⟨4, _⟩ => ⟨S4096x768, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S1x4096x1x64, .f32⟩
  | .hbm, ⟨31, _⟩ => ⟨S1x4096x12x64, .f32⟩
  | .hbm, ⟨32, _⟩ => ⟨S4096x768, .f32⟩
  | .hbm, ⟨33, _⟩ => ⟨S1x4096x1x64, .f32⟩
  | .hbm, ⟨34, _⟩ => ⟨S1x4096x12x64, .f32⟩
  | .hbm, ⟨35, _⟩ => ⟨S4096x768, .f32⟩
  | .hbm, ⟨36, _⟩ => ⟨S1x4096x1x64, .f32⟩
  | .hbm, ⟨37, _⟩ => ⟨S1x4096x4x64, .f32⟩
  | .hbm, ⟨38, _⟩ => ⟨S4096x256, .f32⟩
  | .hbm, ⟨39, _⟩ => ⟨S1x4096x1x64, .f32⟩
  | .hbm, ⟨40, _⟩ => ⟨S1x4096x4x64, .f32⟩
  | .hbm, ⟨41, _⟩ => ⟨S4096x256, .f32⟩
  | .hbm, ⟨42, _⟩ => ⟨S768x768, .f32⟩
  | .hbm, ⟨43, _⟩ => ⟨S768x256, .f32⟩
  | .hbm, ⟨44, _⟩ => ⟨S768x256, .f32⟩
  | .hbm, ⟨45, _⟩ => ⟨S768x12x2x32, .f32⟩
  | .hbm, ⟨46, _⟩ => ⟨S768x12x1x32, .f32⟩
  | .hbm, ⟨47, _⟩ => ⟨S768x12x1x32, .f32⟩
  | .hbm, ⟨48, _⟩ => ⟨S768x12x1x32, .f32⟩
  | .hbm, ⟨49, _⟩ => ⟨S768x12x2x32, .f32⟩
  | .hbm, ⟨50, _⟩ => ⟨S768x768, .f32⟩
  | .hbm, ⟨51, _⟩ => ⟨S768x4x2x32, .f32⟩
  | .hbm, ⟨52, _⟩ => ⟨S768x4x1x32, .f32⟩
  | .hbm, ⟨53, _⟩ => ⟨S768x4x1x32, .f32⟩
  | .hbm, ⟨54, _⟩ => ⟨S768x4x1x32, .f32⟩
  | .hbm, ⟨55, _⟩ => ⟨S768x4x2x32, .f32⟩
  | .hbm, ⟨56, _⟩ => ⟨S768x256, .f32⟩
  | .hbm, ⟨57, _⟩ => ⟨S4096x768, .bf16⟩
  | .hbm, ⟨58, _⟩ => ⟨S768x768, .bf16⟩
  | .hbm, ⟨59, _⟩ => ⟨S768x768, .bf16⟩
  | .hbm, ⟨60, _⟩ => ⟨S768x256, .bf16⟩
  | .hbm, ⟨61, _⟩ => ⟨S768x256, .bf16⟩
  | .hbm, ⟨62, _⟩ => ⟨S768x256, .bf16⟩
  | .hbm, ⟨63, _⟩ => ⟨S4096, .i32⟩
  | .hbm, ⟨64, _⟩ => ⟨S64, .i32⟩
  | .hbm, ⟨65, _⟩ => ⟨S1x4096, .i32⟩
  | .hbm, ⟨66, _⟩ => ⟨S_, .i32⟩
  | .hbm, ⟨67, _⟩ => ⟨S_, .i32⟩
  | .hbm, ⟨68, _⟩ => ⟨S1x4096, .i32⟩
  | .hbm, ⟨69, _⟩ => ⟨S1x4096, .i32⟩
  | .hbm, ⟨70, _⟩ => ⟨S1x4096, .i32⟩
  | .hbm, ⟨71, _⟩ => ⟨S_, .i32⟩
  | .hbm, ⟨72, _⟩ => ⟨S1x4096, .i32⟩
  | .hbm, ⟨73, _⟩ => ⟨S1x4096, .i1⟩
  | .hbm, ⟨74, _⟩ => ⟨S1x4096, .i32⟩
  | .hbm, ⟨75, _⟩ => ⟨S1x4096, .i32⟩
  | .hbm, ⟨76, _⟩ => ⟨S_, .i32⟩
  | .hbm, ⟨77, _⟩ => ⟨S1x4096, .i32⟩
  | .hbm, ⟨78, _⟩ => ⟨S1x4096, .i1⟩
  | .hbm, ⟨79, _⟩ => ⟨S1x4096, .i1⟩
  | .hbm, ⟨80, _⟩ => ⟨S_, .i32⟩
  | .hbm, ⟨81, _⟩ => ⟨S1x4096, .i32⟩
  | .hbm, ⟨82, _⟩ => ⟨S1x4096, .i32⟩
  | .hbm, ⟨83, _⟩ => ⟨S1x4096, .i32⟩
  | .hbm, ⟨84, _⟩ => ⟨S64x1, .i32⟩
  | .hbm, ⟨85, _⟩ => ⟨S64x4096, .i32⟩
  | .hbm, ⟨86, _⟩ => ⟨S64x4096, .i32⟩
  | .hbm, ⟨87, _⟩ => ⟨S64x4096, .i1⟩
  | .hbm, ⟨88, _⟩ => ⟨S64x4096, .f32⟩
  | .hbm, ⟨89, _⟩ => ⟨S1x4096, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S1x4096, .i32⟩
  | .hbm, ⟨97, _⟩ => ⟨S1x4096, .i32⟩
  | .hbm, ⟨98, _⟩ => ⟨S_, .i32⟩
  | .hbm, ⟨99, _⟩ => ⟨S1x4096, .i32⟩
  | .hbm, ⟨100, _⟩ => ⟨S1x4096, .i1⟩
  | .hbm, ⟨101, _⟩ => ⟨S_, .i32⟩
  | .hbm, ⟨102, _⟩ => ⟨S1x4096, .i32⟩
  | .hbm, ⟨103, _⟩ => ⟨S1x4096, .i1⟩
  | .hbm, ⟨104, _⟩ => ⟨S_, .i32⟩
  | .hbm, ⟨105, _⟩ => ⟨S_, .i1⟩
  | .hbm, ⟨106, _⟩ => ⟨S1x4096, .i1⟩
  | .hbm, ⟨107, _⟩ => ⟨S1x4096, .i1⟩
  | .hbm, ⟨108, _⟩ => ⟨S1x4096, .i1⟩
  | .hbm, ⟨109, _⟩ => ⟨S1x4096, .i32⟩
  | .hbm, ⟨110, _⟩ => ⟨S1x4096, .i32⟩
  | .hbm, ⟨111, _⟩ => ⟨S1x4096, .i32⟩
  | .hbm, ⟨112, _⟩ => ⟨S64x1, .i32⟩
  | .hbm, ⟨113, _⟩ => ⟨S64x4096, .i32⟩
  | .hbm, ⟨114, _⟩ => ⟨S64x4096, .i32⟩
  | .hbm, ⟨115, _⟩ => ⟨S64x4096, .i1⟩
  | .hbm, ⟨116, _⟩ => ⟨S64x4096, .f32⟩
  | .hbm, ⟨117, _⟩ => ⟨S12x4096x64, .f32⟩
  | .hbm, ⟨118, _⟩ => ⟨S4x4096x64, .f32⟩
  | .hbm, ⟨119, _⟩ => ⟨S4x4096x64, .f32⟩
  | .hbm, ⟨120, _⟩ => ⟨S12x64x4096, .f32⟩
  | .hbm, ⟨121, _⟩ => ⟨S12x64x4096, .f32⟩
  | .hbm, ⟨122, _⟩ => ⟨S12x64x4096, .f32⟩
  | .hbm, ⟨123, _⟩ => ⟨S12x64x4096, .f32⟩
  | .local _ .vmem, ⟨0, _⟩ => ⟨S512x768, .bf16⟩
  | .local _ .vmem, ⟨1, _⟩ => ⟨S512x768, .bf16⟩
  | .local _ .vmem, ⟨2, _⟩ => ⟨S768x768, .bf16⟩
  | .local _ .vmem, ⟨3, _⟩ => ⟨S768x768, .bf16⟩
  | .local _ .vmem, ⟨4, _⟩ => ⟨S768x256, .bf16⟩
  | .local _ .vmem, ⟨5, _⟩ => ⟨S768x256, .bf16⟩
  | .local _ .vmem, ⟨6, _⟩ => ⟨S768x256, .bf16⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S12x512x64, .f32⟩
  | .local _ .vmem, ⟨16, _⟩ => ⟨S12x512x64, .f32⟩
  | .local _ .vmem, ⟨17, _⟩ => ⟨S4x512x64, .f32⟩
  | .local _ .vmem, ⟨18, _⟩ => ⟨S4x512x64, .f32⟩
  | .local _ .vmem, ⟨19, _⟩ => ⟨S4x512x64, .f32⟩
  | .local _ .vmem, ⟨20, _⟩ => ⟨S4x512x64, .f32⟩
  | .local _ .vmem, ⟨21, _⟩ => ⟨S1x4096x64, .f32⟩
  | .local _ .vmem, ⟨22, _⟩ => ⟨S1x4096x64, .f32⟩
  | .local _ .vmem, ⟨23, _⟩ => ⟨S1x4096x64, .f32⟩
  | .local _ .vmem, ⟨24, _⟩ => ⟨S1x4096x64, .f32⟩
  | .local _ .vmem, ⟨25, _⟩ => ⟨S64x4096, .f32⟩
  | .local _ .vmem, ⟨26, _⟩ => ⟨S64x4096, .f32⟩
  | .local _ .vmem, ⟨27, _⟩ => ⟨S1x64x4096, .f32⟩
  | .local _ .vmem, ⟨28, _⟩ => ⟨S1x64x4096, .f32⟩
  | .local _ .vmem, ⟨29, _⟩ => ⟨S1x64x4096, .f32⟩
  | .local _ .vmem, ⟨30, _⟩ => ⟨S1x64x4096, .f32⟩
  | .local _ .vmem, ⟨31, _⟩ => ⟨S1x64x4096, .f32⟩
  | .local _ .vmem, ⟨32, _⟩ => ⟨S1x64x4096, .f32⟩
  | .local _ .vmem, ⟨33, _⟩ => ⟨S1x64x4096, .f32⟩
  | .local _ .vmem, ⟨34, _⟩ => ⟨S1x64x4096, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_c : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_c : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_0 : Ref sig .tc := ⟨.hbm, 80, rfl⟩
abbrev main_call0_v12 : Ref sig .tc := ⟨.hbm, 81, rfl⟩
abbrev main_call0_v13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_4 : Ref sig .tc := ⟨.hbm, 90, rfl⟩
abbrev main_call1_v0 : Ref sig .tc := ⟨.hbm, 91, rfl⟩
abbrev main_call1_c : Ref sig .tc := ⟨.hbm, 92, rfl⟩
abbrev main_call1_v1 : Ref sig .tc := ⟨.hbm, 93, rfl⟩
abbrev main_call1_c_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_c_1 : Ref sig .tc := ⟨.hbm, 98, rfl⟩
abbrev main_call1_v5 : Ref sig .tc := ⟨.hbm, 99, rfl⟩
abbrev main_call1_v6 : Ref sig .tc := ⟨.hbm, 100, rfl⟩
abbrev main_call1_c_2 : Ref sig .tc := ⟨.hbm, 101, rfl⟩
abbrev main_call1_v7 : Ref sig .tc := ⟨.hbm, 102, rfl⟩
abbrev main_call1_v8 : Ref sig .tc := ⟨.hbm, 103, rfl⟩
abbrev main_call1_c_3 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_v12 : Ref sig .tc := ⟨.hbm, 108, rfl⟩
abbrev main_call1_v13 : Ref sig .tc := ⟨.hbm, 109, rfl⟩
abbrev main_call1_v14 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70_0 : Ref sig .tc := ⟨.hbm, 117, rfl⟩
abbrev main_v70_1 : Ref sig .tc := ⟨.hbm, 118, rfl⟩
abbrev main_v70_2 : Ref sig .tc := ⟨.hbm, 119, rfl⟩
abbrev main_v71_0 : Ref sig .tc := ⟨.hbm, 120, rfl⟩
abbrev main_v71_1 : Ref sig .tc := ⟨.hbm, 121, rfl⟩
abbrev main_v71_2 : Ref sig .tc := ⟨.hbm, 122, rfl⟩
abbrev main_v71_3 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S12x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== FrontRefIdeal.lean ====
abbrev S1x4096x768 : Shape := ⟨3, ![1, 4096, 768]⟩
abbrev S768x768 : Shape := ⟨2, ![768, 768]⟩
abbrev S256x768 : Shape := ⟨2, ![256, 768]⟩
abbrev S1x4096x12x64 : Shape := ⟨4, ![1, 4096, 12, 64]⟩
abbrev S1x12x4096x64 : Shape := ⟨4, ![1, 12, 4096, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x1x4096x64 : Shape := ⟨4, ![1, 1, 4096, 64]⟩
abbrev S1x12x4096x32 : Shape := ⟨4, ![1, 12, 4096, 32]⟩
abbrev S768x256 : Shape := ⟨2, ![768, 256]⟩
abbrev S1x4096x256 : Shape := ⟨3, ![1, 4096, 256]⟩
abbrev S1x4096x4x64 : Shape := ⟨4, ![1, 4096, 4, 64]⟩
abbrev S1x4x4096x64 : Shape := ⟨4, ![1, 4, 4096, 64]⟩
abbrev S1x4x4096x32 : Shape := ⟨4, ![1, 4, 4096, 32]⟩
abbrev S1x4x3x4096x64 : Shape := ⟨5, ![1, 4, 3, 4096, 64]⟩
abbrev S1x12x64x64x64 : Shape := ⟨5, ![1, 12, 64, 64, 64]⟩
abbrev S1x12x64x64x32 : Shape := ⟨5, ![1, 12, 64, 64, 32]⟩
abbrev S1x12x64x32 : Shape := ⟨4, ![1, 12, 64, 32]⟩
abbrev S1x12x32x64 : Shape := ⟨4, ![1, 12, 32, 64]⟩
abbrev S12x4096x32 : Shape := ⟨3, ![12, 4096, 32]⟩
abbrev S12x32x64 : Shape := ⟨3, ![12, 32, 64]⟩
abbrev S12x4096x64 : Shape := ⟨3, ![12, 4096, 64]⟩
abbrev S1x12x64x4096 : Shape := ⟨4, ![1, 12, 64, 4096]⟩
abbrev S4x4096x64 : Shape := ⟨3, ![4, 4096, 64]⟩
abbrev S12x64x4096 : Shape := ⟨3, ![12, 64, 4096]⟩

abbrev nBuf : Space → Nat
  | .hbm => 118
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S768x768, .f32⟩
  | .hbm, ⟨2, _⟩ => ⟨S256x768, .f32⟩
  | .hbm, ⟨3, _⟩ => ⟨S256x768, .f32⟩
  | .hbm, ⟨4, _⟩ => ⟨S768x768, .f32⟩
  | .hbm, ⟨5, _⟩ => ⟨S1x4096x768, .f32⟩
  | .hbm, ⟨6, _⟩ => ⟨S1x4096x12x64, .f32⟩
  | .hbm, ⟨7, _⟩ => ⟨S1x12x4096x64, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x64, .f32⟩
  | .hbm, ⟨31, _⟩ => ⟨S4096x64, .f32⟩
  | .hbm, ⟨32, _⟩ => ⟨S1x1x4096x64, .f32⟩
  | .hbm, ⟨33, _⟩ => ⟨S4096x64, .f32⟩
  | .hbm, ⟨34, _⟩ => ⟨S1x1x4096x64, .f32⟩
  | .hbm, ⟨35, _⟩ => ⟨S1x12x4096x32, .f32⟩
  | .hbm, ⟨36, _⟩ => ⟨S1x12x4096x32, .f32⟩
  | .hbm, ⟨37, _⟩ => ⟨S1x12x4096x32, .f32⟩
  | .hbm, ⟨38, _⟩ => ⟨S1x12x4096x64, .f32⟩
  | .hbm, ⟨39, _⟩ => ⟨S1x12x4096x64, .f32⟩
  | .hbm, ⟨40, _⟩ => ⟨S1x12x4096x64, .f32⟩
  | .hbm, ⟨41, _⟩ => ⟨S1x12x4096x64, .f32⟩
  | .hbm, ⟨42, _⟩ => ⟨S1x12x4096x64, .f32⟩
  | .hbm, ⟨43, _⟩ => ⟨S1x12x4096x64, .f32⟩
  | .hbm, ⟨44, _⟩ => ⟨S768x256, .f32⟩
  | .hbm, ⟨45, _⟩ => ⟨S1x4096x256, .f32⟩
  | .hbm, ⟨46, _⟩ => ⟨S1x4096x4x64, .f32⟩
  | .hbm, ⟨47, _⟩ => ⟨S1x4x4096x64, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S4096, .f32⟩
  | .hbm, ⟨65, _⟩ => ⟨S4096x1, .f32⟩
  | .hbm, ⟨66, _⟩ => ⟨S1x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x64, .f32⟩
  | .hbm, ⟨71, _⟩ => ⟨S4096x64, .f32⟩
  | .hbm, ⟨72, _⟩ => ⟨S1x1x4096x64, .f32⟩
  | .hbm, ⟨73, _⟩ => ⟨S4096x64, .f32⟩
  | .hbm, ⟨74, _⟩ => ⟨S1x1x4096x64, .f32⟩
  | .hbm, ⟨75, _⟩ => ⟨S1x4x4096x32, .f32⟩
  | .hbm, ⟨76, _⟩ => ⟨S1x4x4096x32, .f32⟩
  | .hbm, ⟨77, _⟩ => ⟨S1x4x4096x32, .f32⟩
  | .hbm, ⟨78, _⟩ => ⟨S1x4x4096x64, .f32⟩
  | .hbm, ⟨79, _⟩ => ⟨S1x4x4096x64, .f32⟩
  | .hbm, ⟨80, _⟩ => ⟨S1x4x4096x64, .f32⟩
  | .hbm, ⟨81, _⟩ => ⟨S1x4x4096x64, .f32⟩
  | .hbm, ⟨82, _⟩ => ⟨S1x4x4096x64, .f32⟩
  | .hbm, ⟨83, _⟩ => ⟨S1x4x4096x64, .f32⟩
  | .hbm, ⟨84, _⟩ => ⟨S768x256, .f32⟩
  | .hbm, ⟨85, _⟩ => ⟨S1x4096x256, .f32⟩
  | .hbm, ⟨86, _⟩ => ⟨S1x4096x4x64, .f32⟩
  | .hbm, ⟨87, _⟩ => ⟨S1x4x4096x64, .f32⟩
  | .hbm, ⟨88, _⟩ => ⟨S1x4x3x4096x64, .f32⟩
  | .hbm, ⟨89, _⟩ => ⟨S1x12x4096x64, .f32⟩
  | .hbm, ⟨90, _⟩ => ⟨S1x12x64x64x64, .f32⟩
  | .hbm, ⟨91, _⟩ => ⟨S1x12x64x64x32, .f32⟩
  | .hbm, ⟨92, _⟩ => ⟨S_, .f32⟩
  | .hbm, ⟨93, _⟩ => ⟨S1x12x64x32, .f32⟩
  | .hbm, ⟨94, _⟩ => ⟨S1x12x64x64x32, .f32⟩
  | .hbm, ⟨95, _⟩ => ⟨S_, .f32⟩
  | .hbm, ⟨96, _⟩ => ⟨S1x12x64x32, .f32⟩
  | .hbm, ⟨97, _⟩ => ⟨S1x12x4096x32, .f32⟩
  | .hbm, ⟨98, _⟩ => ⟨S1x12x4096x32, .f32⟩
  | .hbm, ⟨99, _⟩ => ⟨S1x12x32x64, .f32⟩
  | .hbm, ⟨100, _⟩ => ⟨S12x4096x32, .f32⟩
  | .hbm, ⟨101, _⟩ => ⟨S12x32x64, .f32⟩
  | .hbm, ⟨102, _⟩ => ⟨S12x4096x64, .f32⟩
  | .hbm, ⟨103, _⟩ => ⟨S1x12x4096x64, .f32⟩
  | .hbm, ⟨104, _⟩ => ⟨S1x12x64x4096, .f32⟩
  | .hbm, ⟨105, _⟩ => ⟨S1x12x32x64, .f32⟩
  | .hbm, ⟨106, _⟩ => ⟨S12x4096x32, .f32⟩
  | .hbm, ⟨107, _⟩ => ⟨S12x32x64, .f32⟩
  | .hbm, ⟨108, _⟩ => ⟨S12x4096x64, .f32⟩
  | .hbm, ⟨109, _⟩ => ⟨S1x12x4096x64, .f32⟩
  | .hbm, ⟨110, _⟩ => ⟨S1x12x64x4096, .f32⟩
  | .hbm, ⟨111, _⟩ => ⟨S12x4096x64, .f32⟩
  | .hbm, ⟨112, _⟩ => ⟨S4x4096x64, .f32⟩
  | .hbm, ⟨113, _⟩ => ⟨S4x4096x64, .f32⟩
  | .hbm, ⟨114, _⟩ => ⟨S12x64x4096, .f32⟩
  | .hbm, ⟨115, _⟩ => ⟨S12x64x4096, .f32⟩
  | .hbm, ⟨116, _⟩ => ⟨S12x64x4096, .f32⟩
  | .hbm, ⟨117, _⟩ => ⟨S12x64x4096, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_cst_10 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩

abbrev nD : Nat := 1
abbrev τ : Topo := Topo.v7x

variable {F : FTy → Type} [FloatOps F]
-- ==== Outproj.lean ====
abbrev S12x4096x64 : Shape := ⟨3, ![12, 4096, 64]⟩
abbrev S768x768 : Shape := ⟨2, ![768, 768]⟩
abbrev S4096x768 : Shape := ⟨2, ![4096, 768]⟩
abbrev S12x512x64 : Shape := ⟨3, ![12, 512, 64]⟩
abbrev S512x768 : Shape := ⟨2, ![512, 768]⟩
abbrev S1x512x64 : Shape := ⟨3, ![1, 512, 64]⟩
abbrev S512x64 : Shape := ⟨2, ![512, 64]⟩
abbrev S768x64 : Shape := ⟨2, ![768, 64]⟩

abbrev nBuf : Space → Nat
  | .hbm => 4
  | .vmem => 5
  | .smem => 0
  | _ => 0

abbrev bufTy : (tb : Table) → Fin (tcTables nBuf tb) → BufTy
  | .hbm, ⟨0, _⟩ => ⟨S12x4096x64, .f32⟩
  | .hbm, ⟨1, _⟩ => ⟨S768x768, .f32⟩
  | .hbm, ⟨2, _⟩ => ⟨S768x768, .bf16⟩
  | .hbm, ⟨3, _⟩ => ⟨S4096x768, .f32⟩
  | .local _ .vmem, ⟨0, _⟩ => ⟨S12x512x64, .f32⟩
  | .local _ .vmem, ⟨1, _⟩ => ⟨S12x512x64, .f32⟩
  | .local _ .vmem, ⟨2, _⟩ => ⟨S768x768, .bf16⟩
  | .local _ .vmem, ⟨3, _⟩ => ⟨S512x768, .f32⟩
  | .local _ .vmem, ⟨4, _⟩ => ⟨S512x768, .f32⟩
  | _, _ => ⟨S12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutprojRefIdeal.lean ====
abbrev S12x4096x64 : Shape := ⟨3, ![12, 4096, 64]⟩
abbrev S768x768 : Shape := ⟨2, ![768, 768]⟩
abbrev S1x12x4096x64 : Shape := ⟨4, ![1, 12, 4096, 64]⟩
abbrev S1x4096x12x64 : Shape := ⟨4, ![1, 4096, 12, 64]⟩
abbrev S1x4096x768 : Shape := ⟨3, ![1, 4096, 768]⟩
abbrev S4096x768 : Shape := ⟨2, ![4096, 768]⟩

abbrev nBuf : Space → Nat
  | .hbm => 8
  | .vmem => 0
  | .smem => 0
  | _ => 0

abbrev bufTy : (tb : Table) → Fin (tcTables nBuf tb) → BufTy
  | .hbm, ⟨0, _⟩ => ⟨S12x4096x64, .f32⟩
  | .hbm, ⟨1, _⟩ => ⟨S768x768, .f32⟩
  | .hbm, ⟨2, _⟩ => ⟨S1x12x4096x64, .f32⟩
  | .hbm, ⟨3, _⟩ => ⟨S1x4096x12x64, .f32⟩
  | .hbm, ⟨4, _⟩ => ⟨S1x4096x768, .f32⟩
  | .hbm, ⟨5, _⟩ => ⟨S768x768, .f32⟩
  | .hbm, ⟨6, _⟩ => ⟨S1x4096x768, .f32⟩
  | .hbm, ⟨7, _⟩ => ⟨S4096x768, .f32⟩
  | _, _ => ⟨S12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.FrontWords.lean ====
module

public import proofs.«01_k».proof.Proof.Gen.FrontIdeal.Frame
public import Idealize.ShloMosaic.Lib.Pipeline.ValueKit

@[expose] public section

set_option maxRecDepth 16384
noncomputable section
open Idealize.ShloMosaic Idealize.ShloMosaic.TcCoe

/-! The table of angles, and positions below 4096 divided by 64 as the host's words compute them. -/

namespace Cert.FrontIdeal.HostValue
open Cert.FrontIdeal Cert.FrontIdeal.Gen

/-- The angles: position times inverse frequency, the 32 columns twice over. -/
def angles : FVec Ideal S4096x64 .f32 :=
  let inv := Host.divf (broadcastInDim S32 ![] bcast_S_S32 (constant S_ .f32 0x3F800000#32))
    (Host.powf (broadcastInDim S32 ![] bcast_S_S32 (constant S_ .f32 0x461C4000#32))
      (Host.divf (addf (broadcastInDim S32 ![] bcast_S_S32 (constant S_ .f32 0x00000000#32))
        (mulf (broadcastInDim S32 ![] bcast_S_S32 (constant S_ .f32 0x40000000#32)) (sitofp (F := Ideal) .f32 (iotaInDim S32 32 0))))
        (broadcastInDim S32 ![] bcast_S_S32 (constant S_ .f32 0x42800000#32))))
  let f := mulf (broadcastInDim S4096x32 ![0, 1] bcast_S4096x1_S4096x32_0_1 (broadcastInDim S4096x1 ![0] bcast_S4096_S4096x1_0 (sitofp (F := Ideal) .f32 (iotaInDim S4096 32 0))))
    (broadcastInDim S4096x32 ![0, 1] bcast_S1x32_S4096x32_0_1 (broadcastInDim S1x32 ![1] bcast_S32_S1x32_1 inv))
  concatenate S4096x64 1 [⟨S4096x32, f⟩, ⟨S4096x32, f⟩] concatenates_S4096x32_S4096x32_S4096x64_d1

theorem msb_small (n : ℕ) (h : n < 4096) : (BitVec.ofNat 32 n).msb = false := by
  rw [BitVec.msb_eq_false_iff_two_mul_lt, BitVec.toNat_ofNat]; omega

theorem no_corner (n : ℕ) : ¬ IntOp.SDivCorner (BitVec.ofNat 32 n) 64#32 := by
  unfold IntOp.SDivCorner
  simp

theorem div_word (n : ℕ) (h : n < 4096) : IntOp.divsi .host (BitVec.ofNat 32 n) 64#32 = BitVec.ofNat 32 (n / 64) := by
  unfold IntOp.divsi
  rw [if_neg (no_corner n), BitVec.sdiv_eq, msb_small n h]
  show (BitVec.ofNat 32 n).udiv 64#32 = _
  apply BitVec.eq_of_toNat_eq
  simp
  omega

theorem rem_word (n : ℕ) (h : n < 4096) : IntOp.remsi .host (BitVec.ofNat 32 n) 64#32 = BitVec.ofNat 32 (n % 64) := by
  unfold IntOp.remsi
  rw [if_neg (no_corner n), BitVec.srem_eq, msb_small n h]
  show (BitVec.ofNat 32 n).umod 64#32 = _
  apply BitVec.eq_of_toNat_eq
  simp
  omega

/-- The floor of the quotient: the correction for operands of two signs never applies. -/
theorem floor_word (n : ℕ) (h : n < 4096) :
    Scalar.select
      (IntOp.andi
        (IntOp.cmpi CmpIPredicate.ne
          (if BitVec.ofNat 32 n = 0 then (0 : BitVec 32) else if (BitVec.ofNat 32 n).msb = true then -1 else 1)
          (if 64#32 = 0 then (0 : BitVec 32) else if (64#32).msb = true then -1 else 1))
        (IntOp.cmpi CmpIPredicate.ne (IntOp.remsi ArithUnit.host (BitVec.ofNat 32 n) 64#32) 0#32))
      (IntOp.subi (IntOp.divsi ArithUnit.host (BitVec.ofNat 32 n) 64#32) 1#32)
      (IntOp.divsi ArithUnit.host (BitVec.ofNat 32 n) 64#32) =
    BitVec.ofNat 32 (n / 64) := by
  rw [div_word n h, rem_word n h, msb_small n h]
  by_cases h0 : BitVec.ofNat 32 n = 0
  · have : n = 0 := by
      have := congrArg BitVec.toNat h0
      simp at this; omega
    subst this
    decide
  · rw [if_neg h0]
    have e : IntOp.cmpi CmpIPredicate.ne (if false = true then (-1 : BitVec 32) else 1) (if 64#32 = 0 then (0 : BitVec 32) else if (64#32).msb = true then -1 else 1) = 0#1 := by decide
    rw [e]
    have : IntOp.andi 0#1 (IntOp.cmpi CmpIPredicate.ne (BitVec.ofNat 32 (n % 64)) 0#32) = 0#1 := by
      unfold IntOp.andi; simp
    rw [this]; rfl

theorem slt_zero (n : ℕ) (h : n < 4096) : (BitVec.ofNat 32 n).slt 0#32 = false := by
  rw [BitVec.slt_zero_eq_msb, msb_small n h]

/-- The remainder of the positive divisor: the correction for operands of two signs never applies. -/
theorem rem_floor_word (n : ℕ) (h : n < 4096) :
    Scalar.select
      (IntOp.andi
        (IntOp.cmpi CmpIPredicate.ne
          (IntOp.cmpi CmpIPredicate.slt
            (IntOp.remsi ArithUnit.host (BitVec.ofNat 32 n)
              (Scalar.select (IntOp.cmpi CmpIPredicate.eq 64#32 0#32) 1#32 64#32))
            0#32)
          (IntOp.cmpi CmpIPredicate.slt (Scalar.select (IntOp.cmpi CmpIPredicate.eq 64#32 0#32) 1#32 64#32) 0#32))
        (IntOp.cmpi CmpIPredicate.ne
          (IntOp.remsi ArithUnit.host (BitVec.ofNat 32 n)
            (Scalar.select (IntOp.cmpi CmpIPredicate.eq 64#32 0#32) 1#32 64#32))
          0#32))
      (IntOp.addi
        (IntOp.remsi ArithUnit.host (BitVec.ofNat 32 n)
          (Scalar.select (IntOp.cmpi CmpIPredicate.eq 64#32 0#32) 1#32 64#32))
        (Scalar.select (IntOp.cmpi CmpIPredicate.eq 64#32 0#32) 1#32 64#32))
      (IntOp.remsi ArithUnit.host (BitVec.ofNat 32 n)
        (Scalar.select (IntOp.cmpi CmpIPredicate.eq 64#32 0#32) 1#32 64#32)) =
    BitVec.ofNat 32 (n % 64) := by
  have e : Scalar.select (IntOp.cmpi CmpIPredicate.eq 64#32 0#32) 1#32 64#32 = 64#32 := by decide
  rw [e, rem_word n h]
  have e1 : IntOp.cmpi CmpIPredicate.slt (BitVec.ofNat 32 (n % 64)) 0#32 = 0#1 := by
    show BitVec.ofBool ((BitVec.ofNat 32 (n % 64)).slt 0#32) = _
    rw [slt_zero _ (by omega)]; rfl
  have e2 : IntOp.cmpi CmpIPredicate.slt 64#32 0#32 = 0#1 := by decide
  rw [e1, e2]
  have : IntOp.andi (IntOp.cmpi CmpIPredicate.ne 0#1 0#1) (IntOp.cmpi CmpIPredicate.ne (BitVec.ofNat 32 (n % 64)) 0#32) = 0#1 := by
    have e3 : IntOp.cmpi CmpIPredicate.ne 0#1 0#1 = 0#1 := by decide
    rw [e3]; unfold IntOp.andi; simp
  rw [this]; rfl

theorem eq_word {φ : FTy} (a b : ℕ) (ha : a < 4096) (hb : b < 4096) : (FloatOps.uitofp φ (IntOp.cmpi .eq (BitVec.ofNat 32 a) (BitVec.ofNat 32 b)) : Ideal φ) = (if a = b then 1 else 0 : EReal) := by
  show (((IntOp.cmpi .eq (BitVec.ofNat 32 a) (BitVec.ofNat 32 b)).toNat : ℝ) : EReal) = _
  by_cases h : a = b
  · subst h; rw [if_pos rfl]; simp [IntOp.cmpi]
  · have : BitVec.ofNat 32 a ≠ BitVec.ofNat 32 b := fun e => h (by
      have := congrArg BitVec.toNat e
      simp at this; omega)
    rw [if_neg h]; simp [IntOp.cmpi, this]
end Cert.FrontIdeal.HostValue

end

end
-- ==== Proof.FrontHost.lean ====
module

public import proofs.«01_k».proof.Proof.Gen.FrontIdeal.Frame
public import proofs.«01_k».proof.Proof.Gen.FrontRefIdeal.Run
public import proofs.«01_k».proof.Proof.FrontWords
public import Idealize.ShloMosaic.Lib.Pipeline.ValueKit
public import Idealize.ShloMosaic.Lib.Tactic.CleanTypes

@[expose] public section

set_option maxRecDepth 16384
noncomputable section
open Idealize.ShloMosaic Idealize.ShloMosaic.TcCoe Idealize.SL.Sem
namespace Cert.FrontIdeal.HostValue
open Cert.FrontIdeal Cert.FrontIdeal.Gen Idealize.ShloMosaic.StableHlo
variable (m : (ℓ : Loc nD τ sig) → Buf (Elt Ideal) ℓ) (ρ : Dev nD → PrngReg)

/-- The input rows as the first call takes them. -/
theorem v48 (c : Dev nD) (r : Fin 4096) (k : Fin 768) : (show FVec Ideal S4096x768 .bf16 from W1 m ρ c main_v48) (ix2 r k)
    = (show FVec Ideal S1x4096x768 .f32 from m ((c : Thread nD τ).loc main_arg0)) (ix3 0 r k) := by
  show (show FVec Ideal S4096x768 .bf16 from StableHlo.after hostOps0 (W0 m ρ c) main_v48) _ = _
  after_results
  clean_types
  pointwise

/-- The query weights as the first call takes them: transposed. -/
theorem v49 (c : Dev nD) (k : Fin 768) (j : Fin 768) : (show FVec Ideal S768x768 .bf16 from W1 m ρ c main_v49) (ix2 k j)
    = (show FVec Ideal S768x768 .f32 from m ((c : Thread nD τ).loc main_arg1)) (ix2 j k) := by
  show (show FVec Ideal S768x768 .bf16 from StableHlo.after hostOps0 (W0 m ρ c) main_v49) _ = _
  after_results
  clean_types
  pointwise

/-- The key weights as the first call takes them: transposed. -/
theorem v51 (c : Dev nD) (k : Fin 768) (j : Fin 256) : (show FVec Ideal S768x256 .bf16 from W1 m ρ c main_v51) (ix2 k j)
    = (show FVec Ideal S256x768 .f32 from m ((c : Thread nD τ).loc main_arg2)) (ix2 j k) := by
  show (show FVec Ideal S768x256 .bf16 from StableHlo.after hostOps0 (W0 m ρ c) main_v51) _ = _
  after_results
  clean_types
  pointwise

/-- The value weights as the first call takes them: transposed. -/
theorem v53 (c : Dev nD) (k : Fin 768) (j : Fin 256) : (show FVec Ideal S768x256 .bf16 from W1 m ρ c main_v53) (ix2 k j)
    = (show FVec Ideal S256x768 .f32 from m ((c : Thread nD τ).loc main_arg3)) (ix2 j k) := by
  show (show FVec Ideal S768x256 .bf16 from StableHlo.after hostOps0 (W0 m ρ c) main_v53) _ = _
  after_results
  clean_types
  pointwise

set_option maxHeartbeats 1000000 in
/-- The rotated query weights, first half of a head's columns. -/
theorem v50_lo (c : Dev nD) (k : Fin 768) (j : Fin 768) (hj : j.val % 64 < 32) :
    (show FVec Ideal S768x768 .bf16 from W1 m ρ c main_v50) (ix2 k j)
    = -(show FVec Ideal S768x768 .f32 from m ((c : Thread nD τ).loc main_arg1)) (ix2 ⟨j.val + 32, by omega⟩ k) := by
  have h0 : W0 m ρ c main_arg1 = m ((c : Thread nD τ).loc main_arg1) := rfl
  rw [← h0]
  show (show FVec Ideal S768x768 .bf16 from StableHlo.after hostOps0 (W0 m ρ c) main_v50) _ = _
  after_results
  clear h0
  generalize W0 m ρ c main_arg1 = w
  clean_types
  pointwise
  rw [dif_pos (show _ < 1 by omega)]
  refine congrArg Neg.neg ?_
  refine congrArg (fun x : Fin 768 => (show FVec Ideal S768x768 .f32 from w) (ix2 x k)) (Fin.ext ?_)
  dsimp only
  omega

set_option maxHeartbeats 1000000 in
/-- The rotated query weights, second half of a head's columns. -/
theorem v50_hi (c : Dev nD) (k : Fin 768) (j : Fin 768) (hj : ¬ j.val % 64 < 32) :
    (show FVec Ideal S768x768 .bf16 from W1 m ρ c main_v50) (ix2 k j)
    = (show FVec Ideal S768x768 .f32 from m ((c : Thread nD τ).loc main_arg1)) (ix2 ⟨j.val - 32, by omega⟩ k) := by
  have h0 : W0 m ρ c main_arg1 = m ((c : Thread nD τ).loc main_arg1) := rfl
  rw [← h0]
  show (show FVec Ideal S768x768 .bf16 from StableHlo.after hostOps0 (W0 m ρ c) main_v50) _ = _
  after_results
  clear h0
  generalize W0 m ρ c main_arg1 = w
  clean_types
  pointwise
  rw [dif_neg (show ¬ _ < 1 by omega)]
  skip
  refine congrArg (fun x : Fin 768 => (show FVec Ideal S768x768 .f32 from w) (ix2 x k)) (Fin.ext ?_)
  dsimp only
  omega

set_option maxHeartbeats 1000000 in
/-- The rotated key weights, first half of a head's columns. -/
theorem v52_lo (c : Dev nD) (k : Fin 768) (j : Fin 256) (hj : j.val % 64 < 32) :
    (show FVec Ideal S768x256 .bf16 from W1 m ρ c main_v52) (ix2 k j)
    = -(show FVec Ideal S256x768 .f32 from m ((c : Thread nD τ).loc main_arg2)) (ix2 ⟨j.val + 32, by omega⟩ k) := by
  have h0 : W0 m ρ c main_arg2 = m ((c : Thread nD τ).loc main_arg2) := rfl
  rw [← h0]
  show (show FVec Ideal S768x256 .bf16 from StableHlo.after hostOps0 (W0 m ρ c) main_v52) _ = _
  after_results
  clear h0
  generalize W0 m ρ c main_arg2 = w
  clean_types
  pointwise
  rw [dif_pos (show _ < 1 by omega)]
  refine congrArg Neg.neg ?_
  refine congrArg (fun x : Fin 256 => (show FVec Ideal S256x768 .f32 from w) (ix2 x k)) (Fin.ext ?_)
  dsimp only
  omega

set_option maxHeartbeats 1000000 in
/-- The rotated key weights, second half of a head's columns. -/
theorem v52_hi (c : Dev nD) (k : Fin 768) (j : Fin 256) (hj : ¬ j.val % 64 < 32) :
    (show FVec Ideal S768x256 .bf16 from W1 m ρ c main_v52) (ix2 k j)
    = (show FVec Ideal S256x768 .f32 from m ((c : Thread nD τ).loc main_arg2)) (ix2 ⟨j.val - 32, by omega⟩ k) := by
  have h0 : W0 m ρ c main_arg2 = m ((c : Thread nD τ).loc main_arg2) := rfl
  rw [← h0]
  show (show FVec Ideal S768x256 .bf16 from StableHlo.after hostOps0 (W0 m ρ c) main_v52) _ = _
  after_results
  clear h0
  generalize W0 m ρ c main_arg2 = w
  clean_types
  pointwise
  rw [dif_neg (show ¬ _ < 1 by omega)]
  skip
  refine congrArg (fun x : Fin 256 => (show FVec Ideal S256x768 .f32 from w) (ix2 x k)) (Fin.ext ?_)
  dsimp only
  omega

/-- The cos table as the first call takes it for the query columns. -/
theorem v23 (c : Dev nD) (s : Fin 4096) (j : Fin 768) : (show FVec Ideal S4096x768 .f32 from W1 m ρ c main_v23) (ix2 s j)
    = Host.cos angles (ix2 s ⟨j.val % 64, Nat.mod_lt _ (by decide)⟩) := by
  have e : StableHlo.after hostOps0 (W0 m ρ c) main_v23 =
      shapeCast S4096x768 (broadcastInDim S1x4096x12x64 ![0, 1, 2, 3] bcast_S1x4096x1x64_S1x4096x12x64_0_1_2_3
        (shapeCast S1x4096x1x64 (Host.cos angles) shapeCasts_S4096x64_S1x4096x1x64)) shapeCasts_S1x4096x12x64_S4096x768 := by
    after_results
    rfl
  show (show FVec Ideal S4096x768 .f32 from StableHlo.after hostOps0 (W0 m ρ c) main_v23) _ = _
  rw [e]
  generalize Host.cos angles = A
  pointwise

/-- The sin table as the first call takes it for the query columns. -/
theorem v26 (c : Dev nD) (s : Fin 4096) (j : Fin 768) : (show FVec Ideal S4096x768 .f32 from W1 m ρ c main_v26) (ix2 s j)
    = Host.sin angles (ix2 s ⟨j.val % 64, Nat.mod_lt _ (by decide)⟩) := by
  have e : StableHlo.after hostOps0 (W0 m ρ c) main_v26 =
      shapeCast S4096x768 (broadcastInDim S1x4096x12x64 ![0, 1, 2, 3] bcast_S1x4096x1x64_S1x4096x12x64_0_1_2_3
        (shapeCast S1x4096x1x64 (Host.sin angles) shapeCasts_S4096x64_S1x4096x1x64)) shapeCasts_S1x4096x12x64_S4096x768 := by
    after_results
    rfl
  show (show FVec Ideal S4096x768 .f32 from StableHlo.after hostOps0 (W0 m ρ c) main_v26) _ = _
  rw [e]
  generalize Host.sin angles = A
  pointwise

/-- The cos table as the first call takes it for the key columns. -/
theorem v29 (c : Dev nD) (s : Fin 4096) (j : Fin 256) : (show FVec Ideal S4096x256 .f32 from W1 m ρ c main_v29) (ix2 s j)
    = Host.cos angles (ix2 s ⟨j.val % 64, Nat.mod_lt _ (by decide)⟩) := by
  have e : StableHlo.after hostOps0 (W0 m ρ c) main_v29 =
      shapeCast S4096x256 (broadcastInDim S1x4096x4x64 ![0, 1, 2, 3] bcast_S1x4096x1x64_S1x4096x4x64_0_1_2_3
        (shapeCast S1x4096x1x64 (Host.cos angles) shapeCasts_S4096x64_S1x4096x1x64)) shapeCasts_S1x4096x4x64_S4096x256 := by
    after_results
    rfl
  show (show FVec Ideal S4096x256 .f32 from StableHlo.after hostOps0 (W0 m ρ c) main_v29) _ = _
  rw [e]
  generalize Host.cos angles = A
  pointwise

/-- The sin table as the first call takes it for the key columns. -/
theorem v32 (c : Dev nD) (s : Fin 4096) (j : Fin 256) : (show FVec Ideal S4096x256 .f32 from W1 m ρ c main_v32) (ix2 s j)
    = Host.sin angles (ix2 s ⟨j.val % 64, Nat.mod_lt _ (by decide)⟩) := by
  have e : StableHlo.after hostOps0 (W0 m ρ c) main_v32 =
      shapeCast S4096x256 (broadcastInDim S1x4096x4x64 ![0, 1, 2, 3] bcast_S1x4096x1x64_S1x4096x4x64_0_1_2_3
        (shapeCast S1x4096x1x64 (Host.sin angles) shapeCasts_S4096x64_S1x4096x1x64)) shapeCasts_S1x4096x4x64_S4096x256 := by
    after_results
    rfl
  show (show FVec Ideal S4096x256 .f32 from StableHlo.after hostOps0 (W0 m ρ c) main_v32) _ = _
  rw [e]
  generalize Host.sin angles = A
  pointwise

theorem w1_v54 (c : Dev nD) : W1 m ρ c main_v54 = iotaInDim S4096 32 0 := by
  show StableHlo.after hostOps0 (W0 m ρ c) main_v54 = _
  after_results

theorem w1_v55 (c : Dev nD) : W1 m ρ c main_v55 = iotaInDim S64 32 0 := by
  show StableHlo.after hostOps0 (W0 m ρ c) main_v55 = _
  after_results

theorem w1_v56 (c : Dev nD) : W1 m ρ c main_v56 = broadcastInDim S1x4096 ![1] bcast_S4096_S1x4096_1 (iotaInDim S4096 32 0) := by
  show StableHlo.after hostOps0 (W0 m ρ c) main_v56 = _
  after_results

theorem w1_c (c : Dev nD) : W1 m ρ c main_c = constantI S_ 32 64#32 := by
  show StableHlo.after hostOps0 (W0 m ρ c) main_c = _
  after_results

theorem w2_v57 (c : Dev nD) (r : Fin 4096) : (show IVec S1x4096 32 from W2 m ρ c main_v57) (ix2 0 r) = BitVec.ofNat 32 (r.val / 64) := by
  have e : W2 m ρ c main_v57 = (let C := W1 m ρ c main_c; let A := W1 m ρ c main_v56; let B := broadcastInDim S1x4096 ![] bcast_S_S1x4096 C
      let q := Host.divsi A B
      select (andi (cmpi .ne (signi A) (broadcastInDim S1x4096 ![] bcast_S_S1x4096 (signi C)))
         (cmpi .ne (Host.remsi A B) (broadcastInDim S1x4096 ![] bcast_S_S1x4096 (constantI S_ 32 0#32))))
         (subi q (broadcastInDim S1x4096 ![] bcast_S_S1x4096 (constantI S_ 32 1#32))) q) := by
    show StableHlo.after hostOps0_1 (W1 m ρ c) main_v57 = _
    generalize W1 m ρ c = V
    after_results
    rfl
  rw [e, w1_v56, w1_c]
  dsimp only
  pointwise
  exact floor_word r.val r.isLt

/-- The one-hot table of the block of 64 a position lies in. -/
theorem w3_v62 (c : Dev nD) (a : Fin 64) (r : Fin 4096) : (show FVec Ideal S64x4096 .f32 from W3 m ρ c main_v62) (ix2 a r)
    = if r.val / 64 = a.val then 1 else 0 := by
  have e : W3 m ρ c main_v62 = uitofp (F := Ideal) .f32 (cmpi .eq (broadcastInDim S64x4096 ![0, 1] bcast_S1x4096_S64x4096_0_1 (W2 m ρ c main_v57))
     (broadcastInDim S64x4096 ![0, 1] bcast_S64x1_S64x4096_0_1 (broadcastInDim S64x1 ![0] bcast_S64_S64x1_0 (W2 m ρ c main_v55)))) := by
    show StableHlo.after hostOps0_2 (W2 m ρ c) main_v62 = _
    generalize W2 m ρ c = V
    after_results
  rw [e, show W2 m ρ c main_v55 = _ from W2_of m ρ c main_v55 (by decide), w1_v55]
  pointwise
  rw [show W2 m ρ c main_v57 (ix2 0 r) = _ from w2_v57 m ρ c r]
  exact eq_word _ _ (by omega) (by omega)

theorem w3_v63 (c : Dev nD) : W3 m ρ c main_v63 = broadcastInDim S1x4096 ![1] bcast_S4096_S1x4096_1 (iotaInDim S4096 32 0) := by
  have e : W3 m ρ c main_v63 = broadcastInDim S1x4096 ![1] bcast_S4096_S1x4096_1 (W2 m ρ c main_v54) := by
    show StableHlo.after hostOps0_2 (W2 m ρ c) main_v63 = _
    generalize W2 m ρ c = V
    after_results
  rw [e, show W2 m ρ c main_v54 = _ from W2_of m ρ c main_v54 (by decide), w1_v54]

theorem w3_c4 (c : Dev nD) : W3 m ρ c main_c_4 = constantI S_ 32 64#32 := by
  show StableHlo.after hostOps0_2 (W2 m ρ c) main_c_4 = _
  after_results

set_option maxHeartbeats 2000000 in
theorem w4_v64 (c : Dev nD) (r : Fin 4096) : (show IVec S1x4096 32 from W4 m ρ c main_v64) (ix2 0 r) = BitVec.ofNat 32 (r.val % 64) := by
  have e : W4 m ρ c main_v64 = (let C : IVec S_ 32 := W3 m ρ c main_c_4; let A : IVec S1x4096 32 := W3 m ρ c main_v63
      let z : IVec S_ 32 := select (cmpi .eq C (constantI S_ 32 0#32)) (constantI S_ 32 1#32) C
      let B := broadcastInDim S1x4096 ![] bcast_S_S1x4096 z
      let q := Host.remsi A B
      let Z := broadcastInDim S1x4096 ![] bcast_S_S1x4096 (constantI S_ 32 0#32)
      select (andi (cmpi .ne (cmpi .slt q Z) (broadcastInDim S1x4096 ![] bcast_S_S1x4096 (cmpi .slt z (constantI S_ 32 0#32))))
         (cmpi .ne q Z)) (addi q B) q) := by
    show StableHlo.after hostOps0_3 (W3 m ρ c) main_v64 = _
    generalize W3 m ρ c = V
    after_results
    simp only [StableHlo.TRef.ofBuf_toBuf]
    rfl
  rw [e, w3_v63, w3_c4]
  dsimp only
  pointwise
  exact rem_floor_word r.val r.isLt

/-- The one-hot table of the position within its block of 64. -/
theorem v69 (c : Dev nD) (a : Fin 64) (r : Fin 4096) : (show FVec Ideal S64x4096 .f32 from W5 m ρ c main_v69) (ix2 a r)
    = if r.val % 64 = a.val then 1 else 0 := by
  have e : W5 m ρ c main_v69 = uitofp (F := Ideal) .f32 (cmpi .eq (broadcastInDim S64x4096 ![0, 1] bcast_S1x4096_S64x4096_0_1 (W4 m ρ c main_v64))
     (broadcastInDim S64x4096 ![0, 1] bcast_S64x1_S64x4096_0_1 (broadcastInDim S64x1 ![0] bcast_S64_S64x1_0 (W4 m ρ c main_v55)))) := by
    show StableHlo.after hostOps0_4 (W4 m ρ c) main_v69 = _
    generalize W4 m ρ c = V
    after_results
  rw [e, show W4 m ρ c main_v55 = _ from (W4_of m ρ c main_v55 (by decide)).trans ((W3_of m ρ c main_v55 (by decide)).trans (W2_of m ρ c main_v55 (by decide))), w1_v55]
  pointwise
  rw [show W4 m ρ c main_v64 (ix2 0 r) = _ from w4_v64 m ρ c r]
  exact eq_word _ _ (by omega) (by omega)

/-- The one-hot table of the block of 64 at the first call's entry. -/
theorem v62 (c : Dev nD) (a : Fin 64) (r : Fin 4096) : (show FVec Ideal S64x4096 .f32 from W5 m ρ c main_v62) (ix2 a r)
    = if r.val / 64 = a.val then 1 else 0 := by
  rw [show W5 m ρ c main_v62 = W3 m ρ c main_v62 from (W5_of m ρ c main_v62 (by decide)).trans (W4_of m ρ c main_v62 (by decide))]
  exact w3_v62 m ρ c a r

/-- What the first stretch of host operations leaves in its own arrays stands at the first call's entry. -/
theorem w5_w1 (c : Dev nD) (r : Ref sig .tc) (h1 : r ∉ hostOps0_1_W) (h2 : r ∉ hostOps0_2_W) (h3 : r ∉ hostOps0_3_W) (h4 : r ∉ hostOps0_4_W) :
    W5 m ρ c (Proc.devRef .tc r) = W1 m ρ c (Proc.devRef .tc r) :=
  (W5_of m ρ c r h4).trans ((W4_of m ρ c r h3).trans ((W3_of m ρ c r h2).trans (W2_of m ρ c r h1)))

end Cert.FrontIdeal.HostValue

end

end
-- ==== Proof.FrontProj.lean ====
module

public import proofs.«01_k».proof.Proof.Gen.FrontIdeal.Frame
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.FrontIdeal.ProjValue
open Cert.FrontIdeal Cert.FrontIdeal.Gen
variable (V : (c : Dev nD) → (b : Ref sig .tc) → Buf (Elt Ideal) ((c : Thread nD τ).loc b))

/-- The projection of row `r` on column `n`. -/
def col {n : ℕ} (X : FVec Ideal S4096x768 .bf16) (w : FVec Ideal ⟨2, ![768, n]⟩ .bf16) (r : Fin 4096) (j : Fin n) : EReal :=
  ∑ k : Fin 768, X (ix2 r k) * w (ix2 k j)

/-- A projection and its rotated projection, weighted by the two tables, at row `r` and column `n`. -/
def mix {n : ℕ} (X : FVec Ideal S4096x768 .bf16) (w wr : FVec Ideal ⟨2, ![768, n]⟩ .bf16)
    (cc ss : FVec Ideal ⟨2, ![4096, n]⟩ .f32) (r : Fin 4096) (j : Fin n) : EReal :=
  col X w r j * cc (ix2 r j) + col X wr r j * ss (ix2 r j)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0]
    ∧ win0_10.index t = ![0, t.val, 0] ∧ win0_11.index t = ![0, t.val, 0] ∧ win0_12.index t = ![0, t.val, 0] :=
  (by decide +kernel : ∀ t : Fin grid0.N, _)

/-- The rows of 512 the kernel computes at point `t` before it cuts them into heads. -/
theorem core_q (c : Dev nD) (t : Fin cfg0.N) (i : S512x768.Idx) (r : Fin 4096) (j : Fin 768)
    (hr : r.val = 512 * t.val + (i 0).val) (hj : j.val = (i 1).val) :
    k0_pay7 (F := Ideal) (iblk0 V c 0 t) (iblk0 V c 1 t) (iblk0 V c 2 t) (iblk0 V c 6 t) (iblk0 V c 7 t) i
      = mix (V c main_v48) (V c main_v49) (V c main_v50) (V c main_v23) (V c main_v26) r j := by
  unfold mix col
  pointwise [k0_pay7, k0_pay6]
  blk_point [iblk0, idx t]

/-- The key rows the kernel computes at point `t` before it cuts them into heads. -/
theorem core_k (c : Dev nD) (t : Fin cfg0.N) (i : S512x256.Idx) (r : Fin 4096) (j : Fin 256)
    (hr : r.val = 512 * t.val + (i 0).val) (hj : j.val = (i 1).val) :
    k0_pay21 (F := Ideal) (k0_pay6 (iblk0 V c 0 t)) (iblk0 V c 3 t) (iblk0 V c 4 t) (iblk0 V c 8 t) (iblk0 V c 9 t) i
      = mix (V c main_v48) (V c main_v51) (V c main_v52) (V c main_v29) (V c main_v32) r j := by
  unfold mix col
  pointwise [k0_pay21, k0_pay6]
  blk_point [iblk0, idx t]

/-- The value rows the kernel computes at point `t` before it cuts them into heads. -/
theorem core_v (c : Dev nD) (t : Fin cfg0.N) (i : S512x256.Idx) (r : Fin 4096) (j : Fin 256)
    (hr : r.val = 512 * t.val + (i 0).val) (hj : j.val = (i 1).val) :
    k0_pay1 (F := Ideal) (k0_pay6 (iblk0 V c 0 t)) (iblk0 V c 5 t) i
      = col (V c main_v48) (V c main_v53) r j := by
  unfold col
  pointwise [k0_pay1, k0_pay6]
  blk_point [iblk0, idx t]

/-- The query heads after the first call. -/
theorem final_q (c : Dev nD) : (dat0 V c).arrAt 10 cfg0.N
    = fun i : S12x4096x64.Idx => mix (V c main_v48) (V c main_v49) (V c main_v50) (V c main_v23) (V c main_v26) (i 1) ⟨64 * (i 0).val + (i 2).val, by idx_bounds; omega⟩ := by
  refine (dat0 V c).arrAt_eq_of_covers 10 _ (by decide +kernel) fun t _ y => ?_
  blk_simp
  rw [after0_10]
  have hw : win0_10.index t = ![0, t.val, 0] := by simp only [idx t]
  obtain_idx i : S512x768 := [(y 1 : ℕ), 64 * (y 0 : ℕ) + (y 2 : ℕ)] with hi
  refine Eq.trans (b := k0_pay7 (F := Ideal) (iblk0 V c 0 t) (iblk0 V c 1 t) (iblk0 V c 2 t) (iblk0 V c 6 t) (iblk0 V c 7 t) i) ?_ (core_q V c t i _ _ ?_ ?_)
  · canon_tiles x h
    all_goals (open_payloads; pointwise; blk_ext)
  · blk_simp [hw] <;> try omega
  · show 64 * (win0_10.index t 0 * 12 + (y 0 : ℕ)) + (win0_10.index t 2 * 64 + (y 2 : ℕ)) = (i 1 : ℕ)
    rw [hw, hi1]
    show 64 * (0 * 12 + (y 0 : ℕ)) + (0 * 64 + (y 2 : ℕ)) = 64 * (y 0 : ℕ) + (y 2 : ℕ)
    omega

/-- The key heads after the first call. -/
theorem final_k (c : Dev nD) : (dat0 V c).arrAt 11 cfg0.N
    = fun i : S4x4096x64.Idx => mix (V c main_v48) (V c main_v51) (V c main_v52) (V c main_v29) (V c main_v32) (i 1) ⟨64 * (i 0).val + (i 2).val, by idx_bounds; omega⟩ := by
  refine (dat0 V c).arrAt_eq_of_covers 11 _ (by decide +kernel) fun t _ y => ?_
  blk_simp
  rw [after0_11]
  have hw : win0_11.index t = ![0, t.val, 0] := by simp only [idx t]
  obtain_idx i : S512x256 := [(y 1 : ℕ), 64 * (y 0 : ℕ) + (y 2 : ℕ)] with hi
  refine Eq.trans (b := k0_pay21 (F := Ideal) (k0_pay6 (iblk0 V c 0 t)) (iblk0 V c 3 t) (iblk0 V c 4 t) (iblk0 V c 8 t) (iblk0 V c 9 t) i) ?_ (core_k V c t i _ _ ?_ ?_)
  · canon_tiles x h
    all_goals (open_payloads; pointwise; blk_ext)
  · blk_simp [hw] <;> try omega
  · show 64 * (win0_11.index t 0 * 4 + (y 0 : ℕ)) + (win0_11.index t 2 * 64 + (y 2 : ℕ)) = (i 1 : ℕ)
    rw [hw, hi1]
    show 64 * (0 * 4 + (y 0 : ℕ)) + (0 * 64 + (y 2 : ℕ)) = 64 * (y 0 : ℕ) + (y 2 : ℕ)
    omega

/-- The value heads after the first call. -/
theorem final_v (c : Dev nD) : (dat0 V c).arrAt 12 cfg0.N
    = fun i : S4x4096x64.Idx => col (V c main_v48) (V c main_v53) (i 1) ⟨64 * (i 0).val + (i 2).val, by idx_bounds; omega⟩ := by
  refine (dat0 V c).arrAt_eq_of_covers 12 _ (by decide +kernel) fun t _ y => ?_
  blk_simp
  rw [after0_12]
  have hw : win0_12.index t = ![0, t.val, 0] := by simp only [idx t]
  obtain_idx i : S512x256 := [(y 1 : ℕ), 64 * (y 0 : ℕ) + (y 2 : ℕ)] with hi
  refine Eq.trans (b := k0_pay1 (F := Ideal) (k0_pay6 (iblk0 V c 0 t)) (iblk0 V c 5 t) i) ?_ (core_v V c t i _ _ ?_ ?_)
  · canon_tiles x h
    all_goals (open_payloads; pointwise; blk_ext)
  · blk_simp [hw] <;> try omega
  · show 64 * (win0_12.index t 0 * 4 + (y 0 : ℕ)) + (win0_12.index t 2 * 64 + (y 2 : ℕ)) = (i 1 : ℕ)
    rw [hw, hi1]
    show 64 * (0 * 4 + (y 0 : ℕ)) + (0 * 64 + (y 2 : ℕ)) = 64 * (y 0 : ℕ) + (y 2 : ℕ)
    omega

end Cert.FrontIdeal.ProjValue

end

end
-- ==== Proof.FrontMix.lean ====
module

public import proofs.«01_k».proof.Proof.FrontHost
public import proofs.«01_k».proof.Proof.FrontProj

@[expose] public section

set_option maxRecDepth 16384
noncomputable section
open Idealize.ShloMosaic Idealize.ShloMosaic.TcCoe Idealize.SL.Sem
namespace Cert.FrontIdeal.MixValue
open Cert.FrontIdeal Cert.FrontIdeal.Gen Cert.FrontIdeal.HostValue Cert.FrontIdeal.ProjValue
variable (m : (ℓ : Loc nD τ sig) → Buf (Elt Ideal) ℓ) (ρ : Dev nD → PrngReg)

/-- The inner product of a row of the input with a row of a weight matrix. -/
def lin {n : ℕ} (X : FVec Ideal S1x4096x768 .f32) (W : FVec Ideal ⟨2, ![n, 768]⟩ .f32) (s : Fin 4096) (j : Fin n) : EReal :=
  ∑ k : Fin 768, X (ix3 0 s k) * W (ix2 j k)

/-- The rotary embedding of such a product: within a head of 64 columns, column `d` meets column `d + 32` negated or
    column `d - 32`. -/
def rope {n : ℕ} (hn : n % 64 = 0) (X : FVec Ideal S1x4096x768 .f32) (W : FVec Ideal ⟨2, ![n, 768]⟩ .f32) (s : Fin 4096) (j : Fin n) : EReal :=
  lin X W s j * (Host.cos angles (ix2 s ⟨j.val % 64, Nat.mod_lt _ (by decide)⟩) : EReal)
    + (if h : j.val % 64 < 32 then -(lin X W s ⟨j.val + 32, by omega⟩) else lin X W s ⟨j.val - 32, by omega⟩)
      * (Host.sin angles (ix2 s ⟨j.val % 64, Nat.mod_lt _ (by decide)⟩) : EReal)

/-- Over finite entries a sum of products with negated factors is the negated sum. -/
theorem sum_neg {ι : Type} [Fintype ι] (f g : ι → EReal) (hf : ∀ i, f i ≠ ⊤ ∧ f i ≠ ⊥) (hg : ∀ i, g i ≠ ⊤ ∧ g i ≠ ⊥) :
    ∑ i, f i * -(g i) = -(∑ i, f i * g i) := by
  have e : ∀ i, f i * g i = (((f i).toReal * (g i).toReal : ℝ) : EReal) := fun i => by
    rw [EReal.coe_mul, EReal.coe_toReal (hf i).1 (hf i).2, EReal.coe_toReal (hg i).1 (hg i).2]
  have e' : ∀ i, f i * -(g i) = ((-((f i).toReal * (g i).toReal) : ℝ) : EReal) := fun i => by
    rw [EReal.coe_neg, ← e i, mul_neg]
  have cs : ∀ h : ι → ℝ, ∑ i, ((h i : ℝ) : EReal) = ((∑ i, h i : ℝ) : EReal) := fun h => by
    classical
    induction (Finset.univ : Finset ι) using Finset.induction_on with
    | empty => simp
    | insert a s ha ih => rw [Finset.sum_insert ha, Finset.sum_insert ha, ih, EReal.coe_add]
  simp only [e, e', cs]
  rw [← EReal.coe_neg, Finset.sum_neg_distrib]

/-- Every entry is a real number. -/
def Fin' {s : Shape} (X : FVec Ideal s .f32) : Prop := ∀ i, (X i : EReal) ≠ ⊤ ∧ (X i : EReal) ≠ ⊥

theorem mix_q (c : Dev nD) (hX : Fin' (show FVec Ideal S1x4096x768 .f32 from m ((c : Thread nD τ).loc main_arg0)))
    (hW : Fin' (show FVec Ideal S768x768 .f32 from m ((c : Thread nD τ).loc main_arg1))) (s : Fin 4096) (j : Fin 768) :
    mix (n := 768) (V5 m ρ c main_v48) (V5 m ρ c main_v49) (V5 m ρ c main_v50) (V5 m ρ c main_v23) (V5 m ρ c main_v26) s j
      = rope (n := 768) (by decide) (m ((c : Thread nD τ).loc main_arg0)) (m ((c : Thread nD τ).loc main_arg1)) s j := by
  rw [show V5 m ρ c main_v48 = W1 m ρ c main_v48 from w5_w1 m ρ c main_v48 (by decide) (by decide) (by decide) (by decide),
    show V5 m ρ c main_v49 = W1 m ρ c main_v49 from w5_w1 m ρ c main_v49 (by decide) (by decide) (by decide) (by decide),
    show V5 m ρ c main_v50 = W1 m ρ c main_v50 from w5_w1 m ρ c main_v50 (by decide) (by decide) (by decide) (by decide),
    show V5 m ρ c main_v23 = W1 m ρ c main_v23 from w5_w1 m ρ c main_v23 (by decide) (by decide) (by decide) (by decide),
    show V5 m ρ c main_v26 = W1 m ρ c main_v26 from w5_w1 m ρ c main_v26 (by decide) (by decide) (by decide) (by decide)]
  unfold mix rope
  refine congrArg₂ (· + ·) (congrArg₂ (· * ·) ?_ (v23 m ρ c s j)) (congrArg₂ (· * ·) ?_ (v26 m ρ c s j))
  · exact Finset.sum_congr rfl fun k _ => congrArg₂ (· * ·) (v48 m ρ c s k) (v49 m ρ c k j)
  · split
    · rename_i hj
      rw [lin, ← sum_neg _ _ (fun k => hX _) (fun k => hW _)]
      exact Finset.sum_congr rfl fun k _ => congrArg₂ (· * ·) (v48 m ρ c s k) (v50_lo m ρ c k j hj)
    · rename_i hj
      exact Finset.sum_congr rfl fun k _ => congrArg₂ (· * ·) (v48 m ρ c s k) (v50_hi m ρ c k j hj)

theorem mix_k (c : Dev nD) (hX : Fin' (show FVec Ideal S1x4096x768 .f32 from m ((c : Thread nD τ).loc main_arg0)))
    (hW : Fin' (show FVec Ideal S256x768 .f32 from m ((c : Thread nD τ).loc main_arg2))) (s : Fin 4096) (j : Fin 256) :
    mix (n := 256) (V5 m ρ c main_v48) (V5 m ρ c main_v51) (V5 m ρ c main_v52) (V5 m ρ c main_v29) (V5 m ρ c main_v32) s j
      = rope (n := 256) (by decide) (m ((c : Thread nD τ).loc main_arg0)) (m ((c : Thread nD τ).loc main_arg2)) s j := by
  rw [show V5 m ρ c main_v48 = W1 m ρ c main_v48 from w5_w1 m ρ c main_v48 (by decide) (by decide) (by decide) (by decide),
    show V5 m ρ c main_v51 = W1 m ρ c main_v51 from w5_w1 m ρ c main_v51 (by decide) (by decide) (by decide) (by decide),
    show V5 m ρ c main_v52 = W1 m ρ c main_v52 from w5_w1 m ρ c main_v52 (by decide) (by decide) (by decide) (by decide),
    show V5 m ρ c main_v29 = W1 m ρ c main_v29 from w5_w1 m ρ c main_v29 (by decide) (by decide) (by decide) (by decide),
    show V5 m ρ c main_v32 = W1 m ρ c main_v32 from w5_w1 m ρ c main_v32 (by decide) (by decide) (by decide) (by decide)]
  unfold mix rope
  refine congrArg₂ (· + ·) (congrArg₂ (· * ·) ?_ (v29 m ρ c s j)) (congrArg₂ (· * ·) ?_ (v32 m ρ c s j))
  · exact Finset.sum_congr rfl fun k _ => congrArg₂ (· * ·) (v48 m ρ c s k) (v51 m ρ c k j)
  · split
    · rename_i hj
      rw [lin, ← sum_neg _ _ (fun k => hX _) (fun k => hW _)]
      exact Finset.sum_congr rfl fun k _ => congrArg₂ (· * ·) (v48 m ρ c s k) (v52_lo m ρ c k j hj)
    · rename_i hj
      exact Finset.sum_congr rfl fun k _ => congrArg₂ (· * ·) (v48 m ρ c s k) (v52_hi m ρ c k j hj)

theorem col_v (c : Dev nD) (s : Fin 4096) (j : Fin 256) :
    col (n := 256) (V5 m ρ c main_v48) (V5 m ρ c main_v53) s j
      = lin (n := 256) (m ((c : Thread nD τ).loc main_arg0)) (m ((c : Thread nD τ).loc main_arg3)) s j := by
  rw [show V5 m ρ c main_v48 = W1 m ρ c main_v48 from w5_w1 m ρ c main_v48 (by decide) (by decide) (by decide) (by decide),
    show V5 m ρ c main_v53 = W1 m ρ c main_v53 from w5_w1 m ρ c main_v53 (by decide) (by decide) (by decide) (by decide)]
  exact Finset.sum_congr rfl fun k _ => congrArg₂ (· * ·) (v48 m ρ c s k) (v53 m ρ c k j)

end Cert.FrontIdeal.MixValue

end

end
-- ==== Proof.FrontFinite.lean ====
module

public import proofs.«01_k».proof.Proof.FrontMix
public import proofs.«01_k».proof.Proof.Gen.Pre_finite
public import Idealize.ShloMosaic.Lib.ReduceAll

@[expose] public section

set_option maxRecDepth 16384
noncomputable section
open Idealize.ShloMosaic Idealize.ShloMosaic.TcCoe Idealize.SL.Sem
namespace Cert.FrontIdeal.FiniteValue
open Cert.FrontIdeal.MixValue

/-- An absolute value below the top is of a real number. -/
theorem real_of_abs {x : EReal} (h : max x (-x) < ⊤) : x ≠ ⊤ ∧ x ≠ ⊥ := by
  refine ⟨fun e => ?_, fun e => ?_⟩
  · rw [e] at h; simp at h
  · rw [e] at h; simp at h

/-- The pattern of the positive infinity. -/
theorem top_bits : Ideal.ofBits .f32 0x7F800000#32 = ⊤ := by simp [Ideal.ofBits, Ideal.ieee]

/-- One array of the precondition: where the conjunction of the comparisons is one, every entry is a real number. -/
theorem fin_of {s u t : Shape} {axes : List (Fin s.rank)} [Subsingleton t.Idx] (x : FVec Ideal s .f32) (T : FVec Ideal s .f32) (hT : ∀ i, (T i : EReal) = ⊤)
    (init : u.Idx → BitVec 1) (h : s.ReducesTo axes t) (hu : 0 < u.numel) (j : t.Idx)
    (e : Host.reduce IntOp.andi (cmpf .olt (Host.absf x) T) init h hu j = 1#1) : Fin' x := fun i => by
  have h1 := Host.reduce_andi_all _ _ h hu j e i
  have h2 : Ideal.cmp .olt (max (x i : EReal) (-(x i : EReal))) (T i) = 1#1 := h1
  rw [hT i] at h2
  refine real_of_abs ?_
  by_contra hn
  have h3 : Ideal.cmp .olt (max (x i : EReal) (-(x i : EReal))) ⊤ = 0#1 := by
    simp only [Ideal.cmp]
    simp [hn]
  rw [h3] at h2
  exact absurd h2 (by decide)

instance : Subsingleton (Cert.Pre_finite.S_).Idx := ⟨fun a b => funext fun k => k.elim0⟩

theorem finite_args (a0 : FVec Ideal Cert.Pre_finite.S1x4096x768 .f32) (a1 : FVec Ideal Cert.Pre_finite.S768x768 .f32) (a2 a3 : FVec Ideal Cert.Pre_finite.S256x768 .f32)
    (h : Cert.Pre_finite.fn (F := Ideal) a0 a1 a2 a3 = fun _ => 1#1) : Fin' a0 ∧ Fin' a1 ∧ Fin' a2 := by
  have h0 := congrFun h (fun k => k.elim0)
  unfold Cert.Pre_finite.fn at h0
  obtain ⟨h01, h2⟩ := IntOp.andi_eq_one.1 h0
  obtain ⟨h0, h1⟩ := IntOp.andi_eq_one.1 h01
  refine ⟨fin_of _ _ ?_ _ _ _ _ h0, fin_of _ _ ?_ _ _ _ _ h1, fin_of _ _ ?_ _ _ _ _ h2⟩ <;> exact fun i => top_bits

end Cert.FrontIdeal.FiniteValue

end

end
-- ==== Proof.FrontRef.lean ====
module

public import proofs.«01_k».proof.Proof.FrontWords
public import proofs.«01_k».proof.Proof.Gen.FrontRefIdeal.Run
public import Idealize.ShloMosaic.Lib.Pipeline.ValueKit
public import Idealize.ShloMosaic.Lib.Tactic.CleanTypes

@[expose] public section

set_option maxRecDepth 16384
noncomputable section
open Idealize.ShloMosaic Idealize.ShloMosaic.TcCoe Idealize.SL.Sem
namespace Cert.FrontRefIdeal.At
open Cert.FrontRefIdeal Cert.FrontRefIdeal.Gen Cert.FrontRefIdeal.Value
open Cert.FrontIdeal.HostValue (angles)
variable (m : (ℓ : Loc nD τ sig) → Buf (Elt Ideal) ℓ)

/-- The rotated query heads, over the two tables. -/
abbrev rotQ (X : FVec Ideal S1x4096x768 .f32) (W : FVec Ideal S768x768 .f32) (C S : FVec Ideal S4096x64 .f32) : FVec Ideal S1x12x4096x64 .f32 :=
  let q : FVec Ideal S1x12x4096x64 .f32 := transpose S1x12x4096x64 [0, 2, 1, 3] (shapeCast S1x4096x12x64 (Host.dotGeneral dot_S1x4096x768_S768x768_S1x4096x768_2_0_01_1_n_n none X
    (transpose S768x768 [1, 0] W transposes_S768x768_S768x768_1_0)) shapeCasts_S1x4096x768_S1x4096x12x64) transposes_S1x4096x12x64_S1x12x4096x64_0_2_1_3
  addf (mulf q (broadcastInDim S1x12x4096x64 ![0, 1, 2, 3] bcast_S1x1x4096x64_S1x12x4096x64_0_1_2_3 (broadcastInDim S1x1x4096x64 ![2, 3] bcast_S4096x64_S1x1x4096x64_2_3 C)))
    (mulf (concatenate S1x12x4096x64 3 [⟨S1x12x4096x32, Host.negf (extractStridedSlice S1x12x4096x32 ![0, 0, 0, 32] q slices_S1x12x4096x64_S1x12x4096x32_0_0_0_32)⟩,
        ⟨S1x12x4096x32, extractStridedSlice S1x12x4096x32 ![0, 0, 0, 0] q slices_S1x12x4096x64_S1x12x4096x32_0_0_0_0⟩] concatenates_S1x12x4096x32_S1x12x4096x32_S1x12x4096x64_d3)
      (broadcastInDim S1x12x4096x64 ![0, 1, 2, 3] bcast_S1x1x4096x64_S1x12x4096x64_0_1_2_3 (broadcastInDim S1x1x4096x64 ![2, 3] bcast_S4096x64_S1x1x4096x64_2_3 S)))

theorem q_term (c : Dev nD) : res_main_v95 m c = shapeCast S12x4096x64 (rotQ (m ((c : Thread nD τ).loc main_arg0)) (m ((c : Thread nD τ).loc main_arg1)) (Host.cos angles) (Host.sin angles))
    shapeCasts_S1x12x4096x64_S12x4096x64 := by
  unfold res_main_v95
  rfl

/-- The rotated query heads at an index. -/
theorem rotQ_at (X : FVec Ideal S1x4096x768 .f32) (W : FVec Ideal S768x768 .f32) (C S : FVec Ideal S4096x64 .f32) (h : Fin 12) (s : Fin 4096) (d : Fin 64) :
    (rotQ X W C S (ix4 0 h s d) : EReal) = (∑ k : Fin 768, X (ix3 0 s k) * W (ix2 ⟨64 * h.val + d.val, by omega⟩ k)) * C (ix2 s d)
      + (if hd : d.val < 32 then -(∑ k : Fin 768, X (ix3 0 s k) * W (ix2 ⟨64 * h.val + d.val + 32, by omega⟩ k))
          else (∑ k : Fin 768, X (ix3 0 s k) * W (ix2 ⟨64 * h.val + d.val - 32, by omega⟩ k))) * S (ix2 s d) := by
  pointwise [rotQ]
  let g : Fin 768 → EReal := fun j => ∑ k : Fin 768, X (ix3 0 s k) * W (ix2 j k)
  refine congrArg₂ (· + ·) (congrArg (· * _) (congrArg g (Fin.ext ?_))) (congrArg (· * _) ?_)
  · dsimp only; omega
  by_cases hd : d.val < 32
  · rw [dif_pos hd, dif_pos hd]
    refine congrArg Neg.neg (congrArg g (Fin.ext ?_))
    dsimp only; omega
  · rw [dif_neg hd, dif_neg hd]
    refine congrArg g (Fin.ext ?_)
    dsimp only; omega

/-- The rotated key heads, over the two tables. -/
abbrev rotK (X : FVec Ideal S1x4096x768 .f32) (W : FVec Ideal S256x768 .f32) (C S : FVec Ideal S4096x64 .f32) : FVec Ideal S1x4x4096x64 .f32 :=
  let q : FVec Ideal S1x4x4096x64 .f32 := transpose S1x4x4096x64 [0, 2, 1, 3] (shapeCast S1x4096x4x64 (Host.dotGeneral dot_S1x4096x768_S768x256_S1x4096x256_2_0_01_1_n_n none X
    (transpose S768x256 [1, 0] W transposes_S256x768_S768x256_1_0)) shapeCasts_S1x4096x256_S1x4096x4x64) transposes_S1x4096x4x64_S1x4x4096x64_0_2_1_3
  addf (mulf q (broadcastInDim S1x4x4096x64 ![0, 1, 2, 3] bcast_S1x1x4096x64_S1x4x4096x64_0_1_2_3 (broadcastInDim S1x1x4096x64 ![2, 3] bcast_S4096x64_S1x1x4096x64_2_3 C)))
    (mulf (concatenate S1x4x4096x64 3 [⟨S1x4x4096x32, Host.negf (extractStridedSlice S1x4x4096x32 ![0, 0, 0, 32] q slices_S1x4x4096x64_S1x4x4096x32_0_0_0_32)⟩,
        ⟨S1x4x4096x32, extractStridedSlice S1x4x4096x32 ![0, 0, 0, 0] q slices_S1x4x4096x64_S1x4x4096x32_0_0_0_0⟩] concatenates_S1x4x4096x32_S1x4x4096x32_S1x4x4096x64_d3)
      (broadcastInDim S1x4x4096x64 ![0, 1, 2, 3] bcast_S1x1x4096x64_S1x4x4096x64_0_1_2_3 (broadcastInDim S1x1x4096x64 ![2, 3] bcast_S4096x64_S1x1x4096x64_2_3 S)))

theorem k_term (c : Dev nD) : res_main_v96 m c = shapeCast S4x4096x64 (rotK (m ((c : Thread nD τ).loc main_arg0)) (m ((c : Thread nD τ).loc main_arg2)) (Host.cos angles) (Host.sin angles))
    shapeCasts_S1x4x4096x64_S4x4096x64 := by
  unfold res_main_v96
  rfl

/-- The rotated key heads at an index. -/
theorem rotK_at (X : FVec Ideal S1x4096x768 .f32) (W : FVec Ideal S256x768 .f32) (C S : FVec Ideal S4096x64 .f32) (h : Fin 4) (s : Fin 4096) (d : Fin 64) :
    (rotK X W C S (ix4 0 h s d) : EReal) = (∑ k : Fin 768, X (ix3 0 s k) * W (ix2 ⟨64 * h.val + d.val, by omega⟩ k)) * C (ix2 s d)
      + (if hd : d.val < 32 then -(∑ k : Fin 768, X (ix3 0 s k) * W (ix2 ⟨64 * h.val + d.val + 32, by omega⟩ k))
          else (∑ k : Fin 768, X (ix3 0 s k) * W (ix2 ⟨64 * h.val + d.val - 32, by omega⟩ k))) * S (ix2 s d) := by
  pointwise [rotK]
  let g : Fin 256 → EReal := fun j => ∑ k : Fin 768, X (ix3 0 s k) * W (ix2 j k)
  refine congrArg₂ (· + ·) (congrArg (· * _) (congrArg g (Fin.ext ?_))) (congrArg (· * _) ?_)
  · dsimp only; omega
  by_cases hd : d.val < 32
  · rw [dif_pos hd, dif_pos hd]
    refine congrArg Neg.neg (congrArg g (Fin.ext ?_))
    dsimp only; omega
  · rw [dif_neg hd, dif_neg hd]
    refine congrArg g (Fin.ext ?_)
    dsimp only; omega

/-- The value heads at an index. -/
theorem v_at (X : FVec Ideal S1x4096x768 .f32) (W : FVec Ideal S256x768 .f32) (h : Fin 4) (s : Fin 4096) (d : Fin 64) :
    (shapeCast S4x4096x64 (transpose S1x4x4096x64 [0, 2, 1, 3] (shapeCast S1x4096x4x64 (Host.dotGeneral dot_S1x4096x768_S768x256_S1x4096x256_2_0_01_1_n_n none X
      (transpose S768x256 [1, 0] W transposes_S256x768_S768x256_1_0)) shapeCasts_S1x4096x256_S1x4096x4x64) transposes_S1x4096x4x64_S1x4x4096x64_0_2_1_3) shapeCasts_S1x4x4096x64_S4x4096x64 (ix3 h s d) : EReal)
      = ∑ k : Fin 768, X (ix3 0 s k) * W (ix2 ⟨64 * h.val + d.val, by omega⟩ k) := by
  pointwise
  refine congrArg (fun j : Fin 256 => ∑ k : Fin 768, X (ix3 0 s k) * W (ix2 j k)) (Fin.ext ?_)
  dsimp only; omega

/-- The first summary scores, over the rotated queries and keys. -/
abbrev sc1 (Q : FVec Ideal S1x12x4096x64 .f32) (K : FVec Ideal S1x4x4096x64 .f32) : FVec Ideal S12x64x4096 .f32 :=
  shapeCast S12x64x4096 (transpose S1x12x64x4096 [0, 1, 3, 2] (broadcastInDim S1x12x4096x64 ![1, 2, 3] bcast_S12x4096x64_S1x12x4096x64_1_2_3
    (Host.dotGeneral dot_S12x4096x32_S12x32x64_S12x4096x64_2_1_1_2_0_0 none
      (shapeCast S12x4096x32 (extractStridedSlice S1x12x4096x32 ![0, 0, 0, 0] Q slices_S1x12x4096x64_S1x12x4096x32_0_0_0_0) shapeCasts_S1x12x4096x32_S12x4096x32)
      (shapeCast S12x32x64 (transpose S1x12x32x64 [0, 1, 3, 2] (Host.reduceAdd (extractStridedSlice S1x12x64x64x32 ![0, 0, 0, 0, 0]
          (shapeCast S1x12x64x64x64 (shapeCast S1x12x4096x64 (broadcastInDim S1x4x3x4096x64 ![0, 1, 3, 4] bcast_S1x4x4096x64_S1x4x3x4096x64_0_1_3_4 K)
            shapeCasts_S1x4x3x4096x64_S1x12x4096x64) shapeCasts_S1x12x4096x64_S1x12x64x64x64) slices_S1x12x64x64x64_S1x12x64x64x32_0_0_0_0_0)
          (constant S_ .f32 0x00000000#32) reducesTo_S1x12x64x64x32_S1x12x64x32_d3 h_S_) transposes_S1x12x64x32_S1x12x32x64_0_1_3_2) shapeCasts_S1x12x32x64_S12x32x64)))
    transposes_S1x12x4096x64_S1x12x64x4096_0_1_3_2) shapeCasts_S1x12x64x4096_S12x64x4096

theorem s98_term (c : Dev nD) : res_main_v98 m c = sc1 (rotQ (m ((c : Thread nD τ).loc main_arg0)) (m ((c : Thread nD τ).loc main_arg1)) (Host.cos angles) (Host.sin angles))
    (rotK (m ((c : Thread nD τ).loc main_arg0)) (m ((c : Thread nD τ).loc main_arg2)) (Host.cos angles) (Host.sin angles)) := by
  unfold res_main_v98
  rfl

theorem s100_term (c : Dev nD) : res_main_v100 m c = sc1 (rotQ (m ((c : Thread nD τ).loc main_arg0)) (m ((c : Thread nD τ).loc main_arg1)) (Host.cos angles) (Host.sin angles))
    (rotK (m ((c : Thread nD τ).loc main_arg0)) (m ((c : Thread nD τ).loc main_arg2)) (Host.cos angles) (Host.sin angles)) := by
  unfold res_main_v100
  rfl

/-- The first summary scores at an index. -/
theorem sc1_at (Q : FVec Ideal S1x12x4096x64 .f32) (K : FVec Ideal S1x4x4096x64 .f32) (h : Fin 12) (a : Fin 64) (s : Fin 4096) :
    (sc1 Q K (ix3 h a s) : EReal) = ∑ d : Fin 32, Q (ix4 0 h s ⟨0 + d.val, by omega⟩) * ∑ b : Fin 64, K (ix4 0 ⟨h.val / 3, by omega⟩ ⟨a.val * 64 + b.val, by omega⟩ ⟨0 + d.val, by omega⟩) := by
  pointwise [sc1]

/-- The second summary scores, over the rotated queries and keys. -/
abbrev sc2 (Q : FVec Ideal S1x12x4096x64 .f32) (K : FVec Ideal S1x4x4096x64 .f32) : FVec Ideal S12x64x4096 .f32 :=
  shapeCast S12x64x4096 (transpose S1x12x64x4096 [0, 1, 3, 2] (broadcastInDim S1x12x4096x64 ![1, 2, 3] bcast_S12x4096x64_S1x12x4096x64_1_2_3
    (Host.dotGeneral dot_S12x4096x32_S12x32x64_S12x4096x64_2_1_1_2_0_0 none
      (shapeCast S12x4096x32 (extractStridedSlice S1x12x4096x32 ![0, 0, 0, 32] Q slices_S1x12x4096x64_S1x12x4096x32_0_0_0_32) shapeCasts_S1x12x4096x32_S12x4096x32)
      (shapeCast S12x32x64 (transpose S1x12x32x64 [0, 1, 3, 2] (Host.reduceAdd (extractStridedSlice S1x12x64x64x32 ![0, 0, 0, 0, 32]
          (shapeCast S1x12x64x64x64 (shapeCast S1x12x4096x64 (broadcastInDim S1x4x3x4096x64 ![0, 1, 3, 4] bcast_S1x4x4096x64_S1x4x3x4096x64_0_1_3_4 K)
            shapeCasts_S1x4x3x4096x64_S1x12x4096x64) shapeCasts_S1x12x4096x64_S1x12x64x64x64) slices_S1x12x64x64x64_S1x12x64x64x32_0_0_0_0_32)
          (constant S_ .f32 0x00000000#32) reducesTo_S1x12x64x64x32_S1x12x64x32_d2 h_S_) transposes_S1x12x64x32_S1x12x32x64_0_1_3_2) shapeCasts_S1x12x32x64_S12x32x64)))
    transposes_S1x12x4096x64_S1x12x64x4096_0_1_3_2) shapeCasts_S1x12x64x4096_S12x64x4096

theorem s99_term (c : Dev nD) : res_main_v99 m c = sc2 (rotQ (m ((c : Thread nD τ).loc main_arg0)) (m ((c : Thread nD τ).loc main_arg1)) (Host.cos angles) (Host.sin angles))
    (rotK (m ((c : Thread nD τ).loc main_arg0)) (m ((c : Thread nD τ).loc main_arg2)) (Host.cos angles) (Host.sin angles)) := by
  unfold res_main_v99
  rfl

theorem s101_term (c : Dev nD) : res_main_v101 m c = sc2 (rotQ (m ((c : Thread nD τ).loc main_arg0)) (m ((c : Thread nD τ).loc main_arg1)) (Host.cos angles) (Host.sin angles))
    (rotK (m ((c : Thread nD τ).loc main_arg0)) (m ((c : Thread nD τ).loc main_arg2)) (Host.cos angles) (Host.sin angles)) := by
  unfold res_main_v101
  rfl

/-- The second summary scores at an index. -/
theorem sc2_at (Q : FVec Ideal S1x12x4096x64 .f32) (K : FVec Ideal S1x4x4096x64 .f32) (h : Fin 12) (a : Fin 64) (s : Fin 4096) :
    (sc2 Q K (ix3 h a s) : EReal) = ∑ d : Fin 32, Q (ix4 0 h s ⟨32 + d.val, by omega⟩) * ∑ b : Fin 64, K (ix4 0 ⟨h.val / 3, by omega⟩ ⟨b.val * 64 + a.val, by omega⟩ ⟨32 + d.val, by omega⟩) := by
  pointwise [sc2]

end Cert.FrontRefIdeal.At

end

end
-- ==== Proof.FrontRun.lean ====
module

public import proofs.«01_k».proof.Proof.Gen.FrontIdeal.Frame

@[expose] public section

set_option maxRecDepth 16384
noncomputable section
namespace Cert.FrontIdeal.RunAll
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FrontIdeal Cert.FrontIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every unscoped buffer ends at the contents of the last boundary: the frame's launch, its final state read whole. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.FrontIdeal.RunAll

end

end
-- ==== Proof.FrontScores.lean ====
module

public import proofs.«01_k».proof.Proof.Gen.FrontIdeal.Frame
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.FrontIdeal.ScoreValue
open Cert.FrontIdeal Cert.FrontIdeal.Gen
variable (V : (c : Dev nD) → (b : Ref sig .tc) → Buf (Elt Ideal) ((c : Thread nD τ).loc b))

/-- A head's score of query `s` against summary row `a`: the summary is the product of the selection matrix with the
    key head, both halves of the lanes starting at lane `o`. -/
def score (q : FVec Ideal S12x4096x64 .f32) (k : FVec Ideal S4x4096x64 .f32) (sel : FVec Ideal S64x4096 .f32)
    (o : ℕ) (ho : o + 32 ≤ 64) (h : Fin 12) (a : Fin 64) (s : Fin 4096) : EReal :=
  ∑ d : Fin 32, (∑ r : Fin 4096, sel (ix2 a r) * k (ix3 ⟨h.val / 3, by omega⟩ r ⟨o + d.val, by omega⟩)) * q (ix3 h s ⟨o + d.val, by omega⟩)

theorem idx : ∀ t : Fin cfg1.N, win1_0.index t = ![t.val, 0, 0] ∧ win1_1.index t = ![t.val / 3, 0, 0] ∧ win1_2.index t = ![0, 0]
    ∧ win1_3.index t = ![0, 0] ∧ win1_4.index t = ![t.val, 0, 0] ∧ win1_5.index t = ![t.val, 0, 0]
    ∧ win1_6.index t = ![t.val, 0, 0] ∧ win1_7.index t = ![t.val, 0, 0] :=
  (by decide +kernel : ∀ t : Fin grid1.N, _)

/-- The first scores, from rounded operands, after the second call. -/
theorem final_1b (c : Dev nD) : (dat1 V c).arrAt 4 cfg1.N
    = fun i : S12x64x4096.Idx => score (V c main_v70_0) (V c main_v70_1) (V c main_v62) 0 (by omega) (i 0) (i 1) (i 2) := by
  refine (dat1 V c).arrAt_eq_of_covers 4 _ (by decide +kernel) fun t _ y => ?_
  blk_simp
  rw [after1_4]; frame_out
  idx_vars y
  unfold_payloads
  pointwise [score]
  blk_point [iblk1, idx t]

/-- The second scores, from rounded operands, after the second call. -/
theorem final_2b (c : Dev nD) : (dat1 V c).arrAt 5 cfg1.N
    = fun i : S12x64x4096.Idx => score (V c main_v70_0) (V c main_v70_1) (V c main_v69) 32 (by omega) (i 0) (i 1) (i 2) := by
  refine (dat1 V c).arrAt_eq_of_covers 5 _ (by decide +kernel) fun t _ y => ?_
  blk_simp
  rw [after1_5]; frame_out
  idx_vars y
  unfold_payloads
  pointwise [score]
  blk_point [iblk1, idx t]

end Cert.FrontIdeal.ScoreValue

end

end
-- ==== Proof.FrontScoresExact.lean ====
module

public import proofs.«01_k».proof.Proof.FrontScores
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.FrontIdeal.ScoreValue
open Cert.FrontIdeal Cert.FrontIdeal.Gen
variable (V : (c : Dev nD) → (b : Ref sig .tc) → Buf (Elt Ideal) ((c : Thread nD τ).loc b))

/-- The first scores, from the operands as they are, after the second call. -/
theorem final_1h (c : Dev nD) : (dat1 V c).arrAt 6 cfg1.N
    = fun i : S12x64x4096.Idx => score (V c main_v70_0) (V c main_v70_1) (V c main_v62) 0 (by omega) (i 0) (i 1) (i 2) := by
  refine (dat1 V c).arrAt_eq_of_covers 6 _ (by decide +kernel) fun t _ y => ?_
  blk_simp
  rw [after1_6]; frame_out
  idx_vars y
  unfold_payloads
  pointwise [score]
  blk_point [iblk1, idx t]

/-- The second scores, from the operands as they are, after the second call. -/
theorem final_2h (c : Dev nD) : (dat1 V c).arrAt 7 cfg1.N
    = fun i : S12x64x4096.Idx => score (V c main_v70_0) (V c main_v70_1) (V c main_v69) 32 (by omega) (i 0) (i 1) (i 2) := by
  refine (dat1 V c).arrAt_eq_of_covers 7 _ (by decide +kernel) fun t _ y => ?_
  blk_simp
  rw [after1_7]; frame_out
  idx_vars y
  unfold_payloads
  pointwise [score]
  blk_point [iblk1, idx t]

end Cert.FrontIdeal.ScoreValue

end

end
-- ==== Proof.FrontClaim.lean ====
module

public import proofs.«01_k».proof.Proof.FrontFinite
public import proofs.«01_k».proof.Proof.FrontRef
public import proofs.«01_k».proof.Proof.FrontRun
public import proofs.«01_k».proof.Proof.FrontScores
public import proofs.«01_k».proof.Proof.FrontScoresExact
public import proofs.«01_k».proof.Proof.Gen.OutprojIdeal
public import proofs.«01_k».proof.Defs

@[expose] public section

set_option maxRecDepth 16384
noncomputable section
open Idealize.ShloMosaic Idealize.ShloMosaic.TcCoe Idealize.SL.Sem
namespace Cert.FrontIdeal.Claim
open Cert.FrontIdeal Cert.FrontIdeal.Gen Cert.FrontIdeal.HostValue Cert.FrontIdeal.ProjValue Cert.FrontIdeal.MixValue Cert.FrontIdeal.ScoreValue
open Cert.FrontRefIdeal.At (rotQ rotK rotQ_at rotK_at sc1 sc2 sc1_at sc2_at)

/-! ## The rotated heads of the two programs -/

theorem rot_q (X : FVec Ideal S1x4096x768 .f32) (W : FVec Ideal S768x768 .f32) (h : Fin 12) (s : Fin 4096) (d : Fin 64) :
    (rotQ X W (Host.cos angles) (Host.sin angles) (ix4 0 h s d) : EReal) = rope (n := 768) (by decide) X W s ⟨64 * h.val + d.val, by omega⟩ := by
  rw [rotQ_at]
  have e : (64 * h.val + d.val) % 64 = d.val := by omega
  have e' : (⟨(64 * h.val + d.val) % 64, Nat.mod_lt _ (by decide)⟩ : Fin 64) = d := Fin.ext e
  unfold rope lin
  dsimp only
  rw [e']
  by_cases hd : d.val < 32
  · rw [dif_pos hd, dif_pos (show (64 * h.val + d.val) % 64 < 32 by omega)]
  · rw [dif_neg hd, dif_neg (show ¬ (64 * h.val + d.val) % 64 < 32 by omega)]

theorem rot_k (X : FVec Ideal S1x4096x768 .f32) (W : FVec Ideal S256x768 .f32) (h : Fin 4) (s : Fin 4096) (d : Fin 64) :
    (rotK X W (Host.cos angles) (Host.sin angles) (ix4 0 h s d) : EReal) = rope (n := 256) (by decide) X W s ⟨64 * h.val + d.val, by omega⟩ := by
  rw [rotK_at]
  have e : (64 * h.val + d.val) % 64 = d.val := by omega
  have e' : (⟨(64 * h.val + d.val) % 64, Nat.mod_lt _ (by decide)⟩ : Fin 64) = d := Fin.ext e
  unfold rope lin
  dsimp only
  rw [e']
  by_cases hd : d.val < 32
  · rw [dif_pos hd, dif_pos (show (64 * h.val + d.val) % 64 < 32 by omega)]
  · rw [dif_neg hd, dif_neg (show ¬ (64 * h.val + d.val) % 64 < 32 by omega)]

/-! ## A sum over the rows that a zero-one matrix selects -/

/-- A sum over 4096 rows, as a sum over 64 groups of 64. -/
theorem sum_rows (g : Fin 4096 → EReal) : ∑ r : Fin 4096, g r = ∑ a : Fin 64, ∑ b : Fin 64, g ⟨a.val * 64 + b.val, by omega⟩ := by
  rw [← Finset.sum_product' (f := fun (a b : Fin 64) => g ⟨a.val * 64 + b.val, by omega⟩)]
  refine Finset.sum_bij' (fun r _ => ((⟨r.val / 64, by omega⟩ : Fin 64), (⟨r.val % 64, by omega⟩ : Fin 64)))
    (fun p _ => ⟨p.1.val * 64 + p.2.val, by omega⟩) ?_ ?_ ?_ ?_ ?_
  · intros; simp
  · intros; simp
  · intro r _; apply Fin.ext; dsimp only; omega
  · rintro ⟨a, b⟩ _
    refine Prod.ext (Fin.ext ?_) (Fin.ext ?_) <;> dsimp only <;> omega
  · intro r _
    refine congrArg g (Fin.ext ?_); dsimp only; omega

theorem sum_group (a : Fin 64) (g : Fin 4096 → EReal) :
    ∑ r : Fin 4096, (if r.val / 64 = a.val then (1 : EReal) else 0) * g r = ∑ b : Fin 64, g ⟨a.val * 64 + b.val, by omega⟩ := by
  rw [sum_rows, Finset.sum_eq_single a]
  · refine Finset.sum_congr rfl fun b _ => ?_
    dsimp only
    rw [if_pos (show (a.val * 64 + b.val) / 64 = a.val by omega), one_mul]
  · intro a' _ ne
    refine Finset.sum_eq_zero fun b _ => ?_
    dsimp only
    rw [if_neg (show ¬ (a'.val * 64 + b.val) / 64 = a.val from fun e => ne (Fin.ext (by omega))), zero_mul]
  · intro hn; exact absurd (Finset.mem_univ _) hn

theorem sum_stride (a : Fin 64) (g : Fin 4096 → EReal) :
    ∑ r : Fin 4096, (if r.val % 64 = a.val then (1 : EReal) else 0) * g r = ∑ b : Fin 64, g ⟨b.val * 64 + a.val, by omega⟩ := by
  rw [sum_rows]
  refine Finset.sum_congr rfl fun b _ => ?_
  rw [Finset.sum_eq_single a]
  · dsimp only
    rw [if_pos (show (b.val * 64 + a.val) % 64 = a.val by omega), one_mul]
  · intro a' _ ne
    dsimp only
    rw [if_neg (show ¬ (b.val * 64 + a'.val) % 64 = a.val from fun e => ne (Fin.ext (by omega))), zero_mul]
  · intro hn; exact absurd (Finset.mem_univ _) hn

/-! ## The program's results -/

variable (m : (ℓ : Loc nD τ sig) → Buf (Elt Ideal) ℓ) (ρ : Dev nD → PrngReg)

/-- The input, and the weights of the queries, the keys and the values. -/
abbrev X (c : Dev nD) : FVec Ideal S1x4096x768 .f32 := m ((c : Thread nD τ).loc main_arg0)
abbrev Wq (c : Dev nD) : FVec Ideal S768x768 .f32 := m ((c : Thread nD τ).loc main_arg1)
abbrev Wk (c : Dev nD) : FVec Ideal S256x768 .f32 := m ((c : Thread nD τ).loc main_arg2)
abbrev Wv (c : Dev nD) : FVec Ideal S256x768 .f32 := m ((c : Thread nD τ).loc main_arg3)
/-- The rotated queries and keys of the reference, of this program's arguments. -/
abbrev Q (c : Dev nD) := rotQ (X m c) (Wq m c) (Host.cos angles) (Host.sin angles)
abbrev K (c : Dev nD) := rotK (X m c) (Wk m c) (Host.cos angles) (Host.sin angles)

variable (c : Dev nD) (hX : Fin' (X m c)) (hq : Fin' (Wq m c)) (hk : Fin' (Wk m c))
include hX hq in
theorem q_at (h : Fin 12) (s : Fin 4096) (d : Fin 64) :
    ((show FVec Ideal S12x4096x64 .f32 from W6 m ρ c main_v70_0) (ix3 h s d) : EReal) = Q m c (ix4 0 h s d) := by
  have e : W6 m ρ c main_v70_0 = _ := (W6_arr m ρ c 10).trans (final_q (V5 m ρ) c)
  exact (congrFun e (ix3 h s d)).trans ((mix_q m ρ c hX hq s _).trans (rot_q _ _ h s d).symm)

include hX hk in
theorem k_at (h : Fin 4) (s : Fin 4096) (d : Fin 64) :
    ((show FVec Ideal S4x4096x64 .f32 from W6 m ρ c main_v70_1) (ix3 h s d) : EReal) = K m c (ix4 0 h s d) := by
  have e : W6 m ρ c main_v70_1 = _ := (W6_arr m ρ c 11).trans (final_k (V5 m ρ) c)
  exact (congrFun e (ix3 h s d)).trans ((mix_k m ρ c hX hk s _).trans (rot_k _ _ h s d).symm)

theorem v_at (h : Fin 4) (s : Fin 4096) (d : Fin 64) :
    ((show FVec Ideal S4x4096x64 .f32 from W6 m ρ c main_v70_2) (ix3 h s d) : EReal) = ∑ k : Fin 768, X m c (ix3 0 s k) * Wv m c (ix2 ⟨64 * h.val + d.val, by omega⟩ k) := by
  have e : W6 m ρ c main_v70_2 = _ := (W6_arr m ρ c 12).trans (final_v (V5 m ρ) c)
  exact (congrFun e (ix3 h s d)).trans (col_v m ρ c s _)

include hX hq hk in
/-- A score over the groups of 64 rows. -/
theorem score_group (o : ℕ) (ho : o + 32 ≤ 64) (h : Fin 12) (a : Fin 64) (s : Fin 4096) :
    score (V6 m ρ c main_v70_0) (V6 m ρ c main_v70_1) (V6 m ρ c main_v62) o ho h a s
      = ∑ d : Fin 32, Q m c (ix4 0 h s ⟨o + d.val, by omega⟩) * ∑ b : Fin 64, K m c (ix4 0 ⟨h.val / 3, by omega⟩ ⟨a.val * 64 + b.val, by omega⟩ ⟨o + d.val, by omega⟩) := by
  unfold score
  refine Finset.sum_congr rfl fun d _ => ?_
  refine (mul_comm _ _).trans (congrArg₂ (· * ·) (q_at m ρ c hX hq h s _) ?_)
  refine Eq.trans (Finset.sum_congr rfl fun r _ => congrArg₂ (· * ·) ?_ (k_at m ρ c hX hk _ r _)) (sum_group a _)
  rw [show V6 m ρ c main_v62 = W5 m ρ c main_v62 from W6_of m ρ c main_v62 (by decide)]
  exact v62 m ρ c a r

include hX hq hk in
/-- A score over every 64th row. -/
theorem score_stride (o : ℕ) (ho : o + 32 ≤ 64) (h : Fin 12) (a : Fin 64) (s : Fin 4096) :
    score (V6 m ρ c main_v70_0) (V6 m ρ c main_v70_1) (V6 m ρ c main_v69) o ho h a s
      = ∑ d : Fin 32, Q m c (ix4 0 h s ⟨o + d.val, by omega⟩) * ∑ b : Fin 64, K m c (ix4 0 ⟨h.val / 3, by omega⟩ ⟨b.val * 64 + a.val, by omega⟩ ⟨o + d.val, by omega⟩) := by
  unfold score
  refine Finset.sum_congr rfl fun d _ => ?_
  refine (mul_comm _ _).trans (congrArg₂ (· * ·) (q_at m ρ c hX hq h s _) ?_)
  refine Eq.trans (Finset.sum_congr rfl fun r _ => congrArg₂ (· * ·) ?_ (k_at m ρ c hX hk _ r _)) (sum_stride a _)
  rw [show V6 m ρ c main_v69 = W5 m ρ c main_v69 from W6_of m ρ c main_v69 (by decide)]
  exact v69 m ρ c a r

/-- The four score arrays at the end. -/
theorem s_of (w : Fin cfg1.W) : W7 m ρ c (Proc.devRef .tc (Pipeline.arrRef spec1 w)) = (dat1 (V6 m ρ) c).arrAt w cfg1.N := W7_arr m ρ c w

include hX hq hk in
theorem s1b : W7 m ρ c main_v71_0 = sc1 (Q m c) (K m c) := by
  refine ((W7_arr m ρ c 4).trans (final_1b (V6 m ρ) c)).trans (funext fun i => ?_)
  obtain ⟨a, b, s, rfl⟩ : ∃ a b s, i = ix3 a b s := ⟨i 0, i 1, i 2, eq_ix3 i⟩
  rw [sc1_at]
  exact score_group m ρ c hX hq hk 0 (by omega) a b s

include hX hq hk in
theorem s1h : W7 m ρ c main_v71_2 = sc1 (Q m c) (K m c) := by
  refine ((W7_arr m ρ c 6).trans (final_1h (V6 m ρ) c)).trans (funext fun i => ?_)
  obtain ⟨a, b, s, rfl⟩ : ∃ a b s, i = ix3 a b s := ⟨i 0, i 1, i 2, eq_ix3 i⟩
  rw [sc1_at]
  exact score_group m ρ c hX hq hk 0 (by omega) a b s

include hX hq hk in
theorem s2b : W7 m ρ c main_v71_1 = sc2 (Q m c) (K m c) := by
  refine ((W7_arr m ρ c 5).trans (final_2b (V6 m ρ) c)).trans (funext fun i => ?_)
  obtain ⟨a, b, s, rfl⟩ : ∃ a b s, i = ix3 a b s := ⟨i 0, i 1, i 2, eq_ix3 i⟩
  rw [sc2_at]
  exact score_stride m ρ c hX hq hk 32 (by omega) a b s

include hX hq hk in
theorem s2h : W7 m ρ c main_v71_3 = sc2 (Q m c) (K m c) := by
  refine ((W7_arr m ρ c 7).trans (final_2h (V6 m ρ) c)).trans (funext fun i => ?_)
  obtain ⟨a, b, s, rfl⟩ : ∃ a b s, i = ix3 a b s := ⟨i 0, i 1, i 2, eq_ix3 i⟩
  rw [sc2_at]
  exact score_stride m ρ c hX hq hk 32 (by omega) a b s

/-- The heads of the end are those at the first region's exit. -/
theorem w70_0 : W7 m ρ c main_v70_0 = W6 m ρ c main_v70_0 := W7_of m ρ c main_v70_0 (by decide)
theorem w70_1 : W7 m ρ c main_v70_1 = W6 m ρ c main_v70_1 := W7_of m ρ c main_v70_1 (by decide)
theorem w70_2 : W7 m ρ c main_v70_2 = W6 m ρ c main_v70_2 := W7_of m ρ c main_v70_2 (by decide)

include hX hq in
theorem q_all : W7 m ρ c main_v70_0 = shapeCast S12x4096x64 (Q m c) Cert.FrontRefIdeal.Gen.shapeCasts_S1x12x4096x64_S12x4096x64 := by
  rw [w70_0]
  funext i
  obtain ⟨a, b, s, rfl⟩ : ∃ a b s, i = ix3 a b s := ⟨i 0, i 1, i 2, eq_ix3 i⟩
  refine (q_at m ρ c hX hq a b s).trans (Eq.symm ?_)
  generalize Q m c = q
  pointwise

include hX hk in
theorem k_all : W7 m ρ c main_v70_1 = shapeCast S4x4096x64 (K m c) Cert.FrontRefIdeal.Gen.shapeCasts_S1x4x4096x64_S4x4096x64 := by
  rw [w70_1]
  funext i
  obtain ⟨a, b, s, rfl⟩ : ∃ a b s, i = ix3 a b s := ⟨i 0, i 1, i 2, eq_ix3 i⟩
  refine (k_at m ρ c hX hk a b s).trans (Eq.symm ?_)
  generalize K m c = k
  pointwise

/-- The value heads of the reference, of this program's arguments. -/
abbrev V (c : Dev nD) : FVec Ideal S4x4096x64 .f32 := shapeCast S4x4096x64 (transpose Cert.FrontRefIdeal.S1x4x4096x64 [0, 2, 1, 3] (shapeCast Cert.FrontRefIdeal.S1x4096x4x64
  (Host.dotGeneral (F := Ideal) Cert.FrontRefIdeal.dot_S1x4096x768_S768x256_S1x4096x256_2_0_01_1_n_n none (X m c)
      (transpose Cert.FrontRefIdeal.S768x256 [1, 0] (Wv m c) Cert.FrontRefIdeal.Gen.transposes_S256x768_S768x256_1_0))
    Cert.FrontRefIdeal.Gen.shapeCasts_S1x4096x256_S1x4096x4x64) Cert.FrontRefIdeal.Gen.transposes_S1x4096x4x64_S1x4x4096x64_0_2_1_3) Cert.FrontRefIdeal.Gen.shapeCasts_S1x4x4096x64_S4x4096x64

theorem v_all : W7 m ρ c main_v70_2 = V m c := by
  rw [w70_2]
  funext i
  obtain ⟨a, b, s, rfl⟩ : ∃ a b s, i = ix3 a b s := ⟨i 0, i 1, i 2, eq_ix3 i⟩
  exact (v_at m ρ c a b s).trans (Cert.FrontRefIdeal.At.v_at (X m c) (Wv m c) a b s).symm

/-! ## The claim -/

/-- On finite inputs and weights of the queries and keys, the two calls compute the reference's heads and scores. -/
theorem equal : Cert.algebraic_FrontIdeal_FrontRefIdeal_pre_finite := by
  intro m g m' g' hpre harg
  have hf : ∀ c : Dev nD, Fin' (X m c) ∧ Fin' (Wq m c) ∧ Fin' (Wk m c) := fun c => FiniteValue.finite_args _ _ _ _ (hpre c)
  refine ⟨fun c => shapeCast S12x4096x64 (Q m c) Cert.FrontRefIdeal.Gen.shapeCasts_S1x12x4096x64_S12x4096x64,
    fun c => shapeCast S4x4096x64 (K m c) Cert.FrontRefIdeal.Gen.shapeCasts_S1x4x4096x64_S4x4096x64, fun c => V m c,
    fun c => sc1 (Q m c) (K m c), fun c => sc2 (Q m c) (K m c), fun c => sc1 (Q m c) (K m c), fun c => sc2 (Q m c) (K m c), ?_, ?_⟩
  · refine (θ_run defs _ _).mono (fun r h c => ?_) (RunAll.run_all m g)
    obtain ⟨hX, hq, hk⟩ := hf c
    exact ⟨(h c _ (mem_uc main_v70_0 (by decide))).trans (q_all m g c hX hq), (h c _ (mem_uc main_v70_1 (by decide))).trans (k_all m g c hX hk),
      (h c _ (mem_uc main_v70_2 (by decide))).trans (v_all m g c), (h c _ (mem_uc main_v71_0 (by decide))).trans (s1b m g c hX hq hk),
      (h c _ (mem_uc main_v71_1 (by decide))).trans (s2b m g c hX hq hk), (h c _ (mem_uc main_v71_2 (by decide))).trans (s1h m g c hX hq hk),
      (h c _ (mem_uc main_v71_3 (by decide))).trans (s2h m g c hX hq hk),
      (h c _ (mem_uc main_arg0 (by decide))).trans (W7_main_arg0 m g c), (h c _ (mem_uc main_arg1 (by decide))).trans (W7_main_arg1 m g c),
      (h c _ (mem_uc main_arg2 (by decide))).trans (W7_main_arg2 m g c), (h c _ (mem_uc main_arg3 (by decide))).trans (W7_main_arg3 m g c)⟩
  · refine (θ_run Cert.FrontRefIdeal.defs _ _).mono (fun r h c => ?_) (Cert.FrontRefIdeal.Value.run (F := Ideal) m' g')
    obtain ⟨a0, a1, a2, a3⟩ := harg c
    obtain ⟨h0, h1, h2, h3, h4, h5, h6, k0, k1, k2, k3⟩ := h c
    have eQ : rotQ (m' ((c : Thread Cert.FrontRefIdeal.nD Cert.FrontRefIdeal.τ).loc Cert.FrontRefIdeal.main_arg0)) (m' ((c : Thread Cert.FrontRefIdeal.nD Cert.FrontRefIdeal.τ).loc Cert.FrontRefIdeal.main_arg1)) (Host.cos angles) (Host.sin angles) = Q m c :=
      congrArg₂ (fun x w => rotQ x w (Host.cos angles) (Host.sin angles)) a0 a1
    have eK : rotK (m' ((c : Thread Cert.FrontRefIdeal.nD Cert.FrontRefIdeal.τ).loc Cert.FrontRefIdeal.main_arg0)) (m' ((c : Thread Cert.FrontRefIdeal.nD Cert.FrontRefIdeal.τ).loc Cert.FrontRefIdeal.main_arg2)) (Host.cos angles) (Host.sin angles) = K m c :=
      congrArg₂ (fun x w => rotK x w (Host.cos angles) (Host.sin angles)) a0 a2
    refine ⟨h0.trans ?_, h1.trans ?_, h2.trans ?_, h3.trans ?_, h4.trans ?_, h5.trans ?_, h6.trans ?_, k0, k1, k2, k3⟩
    · exact (Cert.FrontRefIdeal.At.q_term m' c).trans (congrArg (fun q => shapeCast S12x4096x64 q Cert.FrontRefIdeal.Gen.shapeCasts_S1x12x4096x64_S12x4096x64) eQ)
    · exact (Cert.FrontRefIdeal.At.k_term m' c).trans (congrArg (fun q => shapeCast S4x4096x64 q Cert.FrontRefIdeal.Gen.shapeCasts_S1x4x4096x64_S4x4096x64) eK)
    · rw [a0, a3]
    · exact (Cert.FrontRefIdeal.At.s98_term m' c).trans (congrArg₂ sc1 eQ eK)
    · exact (Cert.FrontRefIdeal.At.s99_term m' c).trans (congrArg₂ sc2 eQ eK)
    · exact (Cert.FrontRefIdeal.At.s100_term m' c).trans (congrArg₂ sc1 eQ eK)
    · exact (Cert.FrontRefIdeal.At.s101_term m' c).trans (congrArg₂ sc2 eQ eK)

end Cert.FrontIdeal.Claim

end

end
-- ==== Proof.OutprojValue.lean ====
module

public import proofs.«01_k».proof.Proof.Gen.OutprojIdeal.Frame
public import proofs.«01_k».proof.Proof.Gen.OutprojIdeal.Value
public import proofs.«01_k».proof.Proof.Gen.OutprojRefIdeal.Run
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.OutprojIdeal.RefValue
open Cert.OutprojIdeal Cert.OutprojIdeal.Gen
variable (m : (ℓ : Loc nD τ sig) → Buf (Elt Ideal) ℓ)

/-- The reference's composed term over the two arguments: head axis inside, laid out as rows of 768, times the
    transposed weights. -/
abbrev REF (X : FVec Ideal S12x4096x64 .f32) (W : FVec Ideal S768x768 .f32) : FVec Ideal S4096x768 .f32 :=
  shapeCast _ (Host.dotGeneral Cert.OutprojRefIdeal.dot_S1x4096x768_S768x768_S1x4096x768_2_0_01_1_n_n none
    (shapeCast _ (transpose Cert.OutprojRefIdeal.S1x4096x12x64 [0, 2, 1, 3]
      (broadcastInDim Cert.OutprojRefIdeal.S1x12x4096x64 ![1, 2, 3] Cert.OutprojRefIdeal.Gen.bcast_S12x4096x64_S1x12x4096x64_1_2_3 X)
      Cert.OutprojRefIdeal.Gen.transposes_S1x12x4096x64_S1x4096x12x64_0_2_1_3)
      Cert.OutprojRefIdeal.Gen.shapeCasts_S1x4096x12x64_S1x4096x768)
    (transpose Cert.OutprojRefIdeal.S768x768 [1, 0] W Cert.OutprojRefIdeal.Gen.transposes_S768x768_S768x768_1_0))
    Cert.OutprojRefIdeal.Gen.shapeCasts_S1x4096x768_S4096x768

theorem idx : ∀ t : Fin cfg0.N, win0_0.index t = ![0, t.val, 0] ∧ win0_1.index t = ![0, 0]
    ∧ win0_2.index t = ![t.val, 0] :=
  (by decide +kernel : ∀ t : Fin grid0.N, _)

/-- A sum over the 768 columns of a row is the sum over the heads of the sums over a head's 64 lanes. -/
theorem sum_heads (f : Fin 768 → EReal) :
    ∑ x, f x = ∑ h : Fin 12, ∑ d : Fin 64, f ⟨64 * h.val + d.val, by omega⟩ := by
  rw [← Equiv.sum_comp (finProdFinEquiv (m := 12) (n := 64)) f, Fintype.sum_prod_type]
  refine Finset.sum_congr rfl fun h _ => Finset.sum_congr rfl fun d _ => congrArg f (Fin.ext ?_)
  simp [finProdFinEquiv]; omega

/-- Twelve summands written out, added from the left as the kernel adds the heads' products. -/
theorem sum_twelve (g : Fin 12 → EReal) :
    ∑ h, g h = g 0 + g 1 + g 2 + g 3 + g 4 + g 5 + g 6 + g 7 + g 8 + g 9 + g 10 + g 11 := by
  simp only [Fin.sum_univ_castSucc, Fin.sum_univ_zero, zero_add]
  rfl

/-- The output array after the run is the reference's term of the two arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  pointwise [k0_pay1, k0_pay2, k0_pay3, k0_pay4, REF]
  rw [sum_heads, sum_twelve]
  beta_reduce
  blk_point [iblk, V, idx t]

end Cert.OutprojIdeal.RefValue

end

end
-- ==== Proof.OutprojClaim.lean ====
module

public import proofs.«01_k».proof.Proof.OutprojValue
public import proofs.«01_k».proof.Proof.Gen.OutprojRefIdeal.Run
public import proofs.«01_k».proof.Proof.Gen.OutprojIdeal.Value
public import proofs.«01_k».proof.Defs

@[expose] public section

set_option maxRecDepth 16384
noncomputable section
open Idealize.ShloMosaic Idealize.ShloMosaic.TcCoe Idealize.SL.Sem
namespace Cert.OutprojIdeal.Claim
open Cert.OutprojIdeal Cert.OutprojIdeal.Gen Cert.OutprojIdeal.RefValue

/-- The output projection's call computes the reference's product. -/
theorem equal : Cert.algebraic_OutprojIdeal_OutprojRefIdeal := by
  intro m g m' g' hpre harg
  refine ⟨fun c => REF (m ((c : Thread nD τ).loc main_arg0)) (m ((c : Thread nD τ).loc main_arg1)), ?_, ?_⟩
  · refine (θ_run defs _ _).mono (fun r h c => ?_) (Cert.OutprojIdeal.Value.run_blocks (F := Ideal) m g)
    obtain ⟨h0, k⟩ := h c
    exact ⟨h0.trans (final m c), k⟩
  · refine (θ_run Cert.OutprojRefIdeal.defs _ _).mono (fun r h c => ?_) (Cert.OutprojRefIdeal.Value.run (F := Ideal) m' g')
    obtain ⟨a0, a1⟩ := harg c
    obtain ⟨h0, k⟩ := h c
    refine ⟨h0.trans ?_, k⟩
    rw [a0, a1]

end Cert.OutprojIdeal.Claim

end

end
-- ==== Proof.KernelIdealTc.lean ====
/-
  The three TensorCore kernels of `kernel`, as the proof of the whole program needs them: at any contents `V` of the
  TensorCore's buffers when a kernel is entered, each window's block at a grid point, the kernel body's triple, and
  the proof data of its pipeline. They differ from the parts' own only in what the TensorCore owes meanwhile: the
  handshakes of the SparseCore calls still to come (`K.Otc c n`, `n` calls made).
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.SparseCore.Quiescent
public import Idealize.ShloMosaic.Lib.SparseCore.Ops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The program as the launch theorem sees it, and the ghost state -/

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the staging cells' rounds, the counts of a task's own copies. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- What a kernel body may use and need not describe: the scoped buffers that are no staging buffer, the generator register. -/
def ΦS {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Regions
-- the TensorCore's buffer contents when a kernel is entered, and the number of SparseCore calls made by then
variable (V : (c : Dev nD) → (b : Ref sig .tc) → Buf (Elt F) ((c : Thread nD τ).loc b)) (n : ℕ)

/-! # REGION 0 of @main: custom_call 0, `cc0__k1_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) (HIx 1) ℕ UU ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) (HIx 1) ℕ UU ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) (HIx 1) ℕ UU ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) (HIx 1) ℕ UU ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) (HIx 1) ℕ UU ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x768 := Rect.unit (s := S512x768) ![0, 0] S512x768.size inb_S512x768_S512x768_0_0
abbrev r0_1 : Rect S768x768 := Rect.unit (s := S768x768) ![0, 0] S768x768.size inb_S768x768_S768x768_0_0
abbrev r0_2 : Rect S12x512x64 := Rect.unit (s := S12x512x64) ![0, 0, 0] S1x512x64.size inb_S12x512x64_S1x512x64_0_0_0
abbrev r0_3 : Rect S12x512x64 := Rect.unit (s := S12x512x64) ![1, 0, 0] S1x512x64.size inb_S12x512x64_S1x512x64_1_0_0
abbrev r0_4 : Rect S12x512x64 := Rect.unit (s := S12x512x64) ![2, 0, 0] S1x512x64.size inb_S12x512x64_S1x512x64_2_0_0
abbrev r0_5 : Rect S12x512x64 := Rect.unit (s := S12x512x64) ![3, 0, 0] S1x512x64.size inb_S12x512x64_S1x512x64_3_0_0
abbrev r0_6 : Rect S12x512x64 := Rect.unit (s := S12x512x64) ![4, 0, 0] S1x512x64.size inb_S12x512x64_S1x512x64_4_0_0
abbrev r0_7 : Rect S12x512x64 := Rect.unit (s := S12x512x64) ![5, 0, 0] S1x512x64.size inb_S12x512x64_S1x512x64_5_0_0
abbrev r0_8 : Rect S12x512x64 := Rect.unit (s := S12x512x64) ![6, 0, 0] S1x512x64.size inb_S12x512x64_S1x512x64_6_0_0
abbrev r0_9 : Rect S12x512x64 := Rect.unit (s := S12x512x64) ![7, 0, 0] S1x512x64.size inb_S12x512x64_S1x512x64_7_0_0
abbrev r0_10 : Rect S12x512x64 := Rect.unit (s := S12x512x64) ![8, 0, 0] S1x512x64.size inb_S12x512x64_S1x512x64_8_0_0
abbrev r0_11 : Rect S12x512x64 := Rect.unit (s := S12x512x64) ![9, 0, 0] S1x512x64.size inb_S12x512x64_S1x512x64_9_0_0
abbrev r0_12 : Rect S12x512x64 := Rect.unit (s := S12x512x64) ![10, 0, 0] S1x512x64.size inb_S12x512x64_S1x512x64_10_0_0
abbrev r0_13 : Rect S12x512x64 := Rect.unit (s := S12x512x64) ![11, 0, 0] S1x512x64.size inb_S12x512x64_S1x512x64_11_0_0
abbrev r0_14 : Rect S768x256 := Rect.unit (s := S768x256) ![0, 0] S768x256.size inb_S768x256_S768x256_0_0
abbrev r0_15 : Rect S512x256 := Rect.unit (s := S512x256) ![0, 0] S512x256.size inb_S512x256_S512x256_0_0
abbrev r0_16 : Rect S4x512x64 := Rect.unit (s := S4x512x64) ![0, 0, 0] S1x512x64.size inb_S4x512x64_S1x512x64_0_0_0
abbrev r0_17 : Rect S4x512x64 := Rect.unit (s := S4x512x64) ![1, 0, 0] S1x512x64.size inb_S4x512x64_S1x512x64_1_0_0
abbrev r0_18 : Rect S4x512x64 := Rect.unit (s := S4x512x64) ![2, 0, 0] S1x512x64.size inb_S4x512x64_S1x512x64_2_0_0
abbrev r0_19 : Rect S4x512x64 := Rect.unit (s := S4x512x64) ![3, 0, 0] S1x512x64.size inb_S4x512x64_S1x512x64_3_0_0

/-! ## What the body leaves in each output window's buffer -/

/-! ### Values of the body that the stores' payloads, spelt out, would write more than once

    Each is a vector the body binds (often a part call's result), stated over the input windows' blocks and
    numbered on from the skeleton's payload functions (`k0_pay26` …, after `k0_pay25`), so that
    `out0_W` and the values after it name it instead of spelling it out (`unfold_out out0_W` opens a canon
    with them, `unfold_payloads` opens them with the payloads); the comment after each is the printed function's
    name for the value (a count appended where that name is bound again). -/

def k0_pay26 (x0 : Vec F S512x768 .bf16) (x1 : Vec F S768x768 .bf16) (x2 : Vec F S768x768 .bf16) (x3 : Vec F S768x256 .bf16) (x4 : Vec F S768x256 .bf16) (x5 : Vec F S768x256 .bf16) (x6 : Vec F S512x768 .f32) (x7 : Vec F S512x768 .f32) (x8 : Vec F S512x256 .f32) (x9 : Vec F S512x256 .f32) : FVec F S512x768 .bf16 :=
  k0_pay6 (View.ld x0 r0_0) -- `v1`
def k0_pay27 (x0 : Vec F S512x768 .bf16) (x1 : Vec F S768x768 .bf16) (x2 : Vec F S768x768 .bf16) (x3 : Vec F S768x256 .bf16) (x4 : Vec F S768x256 .bf16) (x5 : Vec F S768x256 .bf16) (x6 : Vec F S512x768 .f32) (x7 : Vec F S512x768 .f32) (x8 : Vec F S512x256 .f32) (x9 : Vec F S512x256 .f32) : FVec F S512x768 .f32 :=
  k0_pay7 (View.ld x0 r0_0) (View.ld x1 r0_1) (View.ld x2 r0_1) (View.ld x6 r0_0) (View.ld x7 r0_0) -- `v14`

/-- Window 10's staging buffer after the body, from the input windows' blocks: its 12 stores as pieces, LAST
    FIRST (Lib/Pipeline/FrameBody.lean `View.canon`; the payloads are the skeleton's and the values stated above). -/
def out0_10 (x0 : Vec F S512x768 .bf16) (x1 : Vec F S768x768 .bf16) (x2 : Vec F S768x768 .bf16) (x3 : Vec F S768x256 .bf16) (x4 : Vec F S768x256 .bf16) (x5 : Vec F S768x256 .bf16) (x6 : Vec F S512x768 .f32) (x7 : Vec F S512x768 .f32) (x8 : Vec F S512x256 .f32) (x9 : Vec F S512x256 .f32) : Vec F S12x512x64 .f32 :=
  View.canon [⟨r0_13, k0_pay20 (k0_pay19 (k0_pay27 x0 x1 x2 x3 x4 x5 x6 x7 x8 x9))⟩,
    ⟨r0_12, k0_pay18 (k0_pay27 x0 x1 x2 x3 x4 x5 x6 x7 x8 x9)⟩,
    ⟨r0_11, k0_pay17 (k0_pay27 x0 x1 x2 x3 x4 x5 x6 x7 x8 x9)⟩,
    ⟨r0_10, k0_pay16 (k0_pay27 x0 x1 x2 x3 x4 x5 x6 x7 x8 x9)⟩,
    ⟨r0_9, k0_pay15 (k0_pay27 x0 x1 x2 x3 x4 x5 x6 x7 x8 x9)⟩,
    ⟨r0_8, k0_pay14 (k0_pay27 x0 x1 x2 x3 x4 x5 x6 x7 x8 x9)⟩,
    ⟨r0_7, k0_pay13 (k0_pay27 x0 x1 x2 x3 x4 x5 x6 x7 x8 x9)⟩,
    ⟨r0_6, k0_pay12 (k0_pay27 x0 x1 x2 x3 x4 x5 x6 x7 x8 x9)⟩,
    ⟨r0_5, k0_pay11 (View.ld x0 r0_0) (View.ld x1 r0_1) (View.ld x2 r0_1) (View.ld x6 r0_0) (View.ld x7 r0_0)⟩,
    ⟨r0_4, k0_pay10 (View.ld x0 r0_0) (View.ld x1 r0_1) (View.ld x2 r0_1) (View.ld x6 r0_0) (View.ld x7 r0_0)⟩,
    ⟨r0_3, k0_pay9 (View.ld x0 r0_0) (View.ld x1 r0_1) (View.ld x2 r0_1) (View.ld x6 r0_0) (View.ld x7 r0_0)⟩,
    ⟨r0_2, k0_pay8 (View.ld x0 r0_0) (View.ld x1 r0_1) (View.ld x2 r0_1) (View.ld x6 r0_0) (View.ld x7 r0_0)⟩]

/-- Its stores tile the buffer (checked by evaluation), so they cover it. -/
theorem cover0_10 (p0 : Vec F S1x512x64 .f32) (p1 : Vec F S1x512x64 .f32) (p2 : Vec F S1x512x64 .f32) (p3 : Vec F S1x512x64 .f32) (p4 : Vec F S1x512x64 .f32) (p5 : Vec F S1x512x64 .f32) (p6 : Vec F S1x512x64 .f32) (p7 : Vec F S1x512x64 .f32) (p8 : Vec F S1x512x64 .f32) (p9 : Vec F S1x512x64 .f32) (p10 : Vec F S1x512x64 .f32) (p11 : Vec F S1x512x64 .f32) (y : S12x512x64.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩, ⟨r0_5, p8⟩, ⟨r0_4, p9⟩, ⟨r0_3, p10⟩, ⟨r0_2, p11⟩] : List (View.Piece (Elt F) S12x512x64 .f32)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩, ⟨r0_5, p8⟩, ⟨r0_4, p9⟩, ⟨r0_3, p10⟩, ⟨r0_2, p11⟩] S1x512x64.size (by rfl) y

/-- Window 11's staging buffer after the body, from the input windows' blocks: its 4 stores as pieces, LAST
    FIRST (Lib/Pipeline/FrameBody.lean `View.canon`; the payloads are the skeleton's and the values stated above). -/
def out0_11 (x0 : Vec F S512x768 .bf16) (x1 : Vec F S768x768 .bf16) (x2 : Vec F S768x768 .bf16) (x3 : Vec F S768x256 .bf16) (x4 : Vec F S768x256 .bf16) (x5 : Vec F S768x256 .bf16) (x6 : Vec F S512x768 .f32) (x7 : Vec F S512x768 .f32) (x8 : Vec F S512x256 .f32) (x9 : Vec F S512x256 .f32) : Vec F S4x512x64 .f32 :=
  View.canon [⟨r0_19, k0_pay25 (k0_pay26 x0 x1 x2 x3 x4 x5 x6 x7 x8 x9) (View.ld x3 r0_14) (View.ld x4 r0_14) (View.ld x8 r0_15) (View.ld x9 r0_15)⟩,
    ⟨r0_18, k0_pay24 (k0_pay26 x0 x1 x2 x3 x4 x5 x6 x7 x8 x9) (View.ld x3 r0_14) (View.ld x4 r0_14) (View.ld x8 r0_15) (View.ld x9 r0_15)⟩,
    ⟨r0_17, k0_pay23 (k0_pay26 x0 x1 x2 x3 x4 x5 x6 x7 x8 x9) (View.ld x3 r0_14) (View.ld x4 r0_14) (View.ld x8 r0_15) (View.ld x9 r0_15)⟩,
    ⟨r0_16, k0_pay22 (k0_pay26 x0 x1 x2 x3 x4 x5 x6 x7 x8 x9) (View.ld x3 r0_14) (View.ld x4 r0_14) (View.ld x8 r0_15) (View.ld x9 r0_15)⟩]

/-- Its stores tile the buffer (checked by evaluation), so they cover it. -/
theorem cover0_11 (p0 : Vec F S1x512x64 .f32) (p1 : Vec F S1x512x64 .f32) (p2 : Vec F S1x512x64 .f32) (p3 : Vec F S1x512x64 .f32) (y : S4x512x64.Idx) :
    ∃ pc ∈ ([⟨r0_19, p0⟩, ⟨r0_18, p1⟩, ⟨r0_17, p2⟩, ⟨r0_16, p3⟩] : List (View.Piece (Elt F) S4x512x64 .f32)), y ∈ pc.1.set :=
  View.cover_of_tiled [⟨r0_19, p0⟩, ⟨r0_18, p1⟩, ⟨r0_17, p2⟩, ⟨r0_16, p3⟩] S1x512x64.size (by rfl) y

/-- Window 12's staging buffer after the body, from the input windows' blocks: its 4 stores as pieces, LAST
    FIRST (Lib/Pipeline/FrameBody.lean `View.canon`; the payloads are the skeleton's and the values stated above). -/
def out0_12 (x0 : Vec F S512x768 .bf16) (x1 : Vec F S768x768 .bf16) (x2 : Vec F S768x768 .bf16) (x3 : Vec F S768x256 .bf16) (x4 : Vec F S768x256 .bf16) (x5 : Vec F S768x256 .bf16) (x6 : Vec F S512x768 .f32) (x7 : Vec F S512x768 .f32) (x8 : Vec F S512x256 .f32) (x9 : Vec F S512x256 .f32) : Vec F S4x512x64 .f32 :=
  View.canon [⟨r0_19, k0_pay5 (k0_pay26 x0 x1 x2 x3 x4 x5 x6 x7 x8 x9) (View.ld x5 r0_14)⟩,
    ⟨r0_18, k0_pay4 (k0_pay26 x0 x1 x2 x3 x4 x5 x6 x7 x8 x9) (View.ld x5 r0_14)⟩,
    ⟨r0_17, k0_pay3 (k0_pay26 x0 x1 x2 x3 x4 x5 x6 x7 x8 x9) (View.ld x5 r0_14)⟩,
    ⟨r0_16, k0_pay2 (k0_pay26 x0 x1 x2 x3 x4 x5 x6 x7 x8 x9) (View.ld x5 r0_14)⟩]

/-- Its stores tile the buffer (checked by evaluation), so they cover it. -/
theorem cover0_12 (p0 : Vec F S1x512x64 .f32) (p1 : Vec F S1x512x64 .f32) (p2 : Vec F S1x512x64 .f32) (p3 : Vec F S1x512x64 .f32) (y : S4x512x64.Idx) :
    ∃ pc ∈ ([⟨r0_19, p0⟩, ⟨r0_18, p1⟩, ⟨r0_17, p2⟩, ⟨r0_16, p3⟩] : List (View.Piece (Elt F) S4x512x64 .f32)), y ∈ pc.1.set :=
  View.cover_of_tiled [⟨r0_19, p0⟩, ⟨r0_18, p1⟩, ⟨r0_17, p2⟩, ⟨r0_16, p3⟩] S1x512x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S512x768 .bf16) (harg1 : arg1.IsWhole) (arg2 : Memref sig .tc .vmem S768x768 .bf16) (harg2 : arg2.IsWhole) (arg3 : Memref sig .tc .vmem S768x768 .bf16) (harg3 : arg3.IsWhole) (arg4 : Memref sig .tc .vmem S768x256 .bf16) (harg4 : arg4.IsWhole) (arg5 : Memref sig .tc .vmem S768x256 .bf16) (harg5 : arg5.IsWhole) (arg6 : Memref sig .tc .vmem S768x256 .bf16) (harg6 : arg6.IsWhole) (arg7 : Memref sig .tc .vmem S512x768 .f32) (harg7 : arg7.IsWhole) (arg8 : Memref sig .tc .vmem S512x768 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S12x512x64 .f32) (harg11 : arg11.IsWhole) (arg12 : Memref sig .tc .vmem S4x512x64 .f32) (harg12 : arg12.IsWhole) (arg13 : Memref sig .tc .vmem S4x512x64 .f32) (harg13 : arg13.IsWhole)
    (x0 : Vec F S512x768 .bf16) (x1 : Vec F S768x768 .bf16) (x2 : Vec F S768x768 .bf16) (x3 : Vec F S768x256 .bf16) (x4 : Vec F S768x256 .bf16) (x5 : Vec F S768x256 .bf16) (x6 : Vec F S512x768 .f32) (x7 : Vec F S512x768 .f32) (x8 : Vec F S512x256 .f32) (x9 : Vec F S512x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9)) -∗ K ⟨⟩))
      ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12 arg13 harg13) K := by
  simp only [cc0__k1_body_eq_skeleton]; unfold cc0__k1_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _ _ _ _ _ _ _ _ _ _ _ _)).trans ?_
    rfl
  isplitl [H11]
  · iexists _; isplitr
    swap; · iexact H11
    ipureintro
    refine (View.read_writes_eq_canon _ _ _ (cover0_11 _ _ _ _)).trans ?_
    rfl
  iexists _; isplitr
  swap; · iexact H12
  ipureintro
  refine (View.read_writes_eq_canon _ _ _ (cover0_12 _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := ΦS spec0 c
  q _ := fullShare
  owed _ := (K (F := F)).Otc c n
  recorded _ := {p | (K (F := F)).lev ((c : Thread nD τ), p.1) p.2 ≤ 8 * n}

/-- The proof data's arrays are the region-entry contents, by projecting the definition (`dsimp`): a region record cites
    this for its arrays rather than have Lean unfold `V`, the fold through @main up to the region's entry. -/
theorem A_eq0 (c : Dev nD) (w : Fin cfg0.W) : (dat0 V n c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V n c).after 0 t = iblk0 V c 0 t := by dsimp only [dat0]
theorem after0_1 (c : Dev nD) (t : Fin cfg0.N) : (dat0 V n c).after 1 t = iblk0 V c 1 t := by dsimp only [dat0]
theorem after0_2 (c : Dev nD) (t : Fin cfg0.N) : (dat0 V n c).after 2 t = iblk0 V c 2 t := by dsimp only [dat0]
theorem after0_3 (c : Dev nD) (t : Fin cfg0.N) : (dat0 V n c).after 3 t = iblk0 V c 3 t := by dsimp only [dat0]
theorem after0_4 (c : Dev nD) (t : Fin cfg0.N) : (dat0 V n c).after 4 t = iblk0 V c 4 t := by dsimp only [dat0]
theorem after0_5 (c : Dev nD) (t : Fin cfg0.N) : (dat0 V n c).after 5 t = iblk0 V c 5 t := by dsimp only [dat0]
theorem after0_6 (c : Dev nD) (t : Fin cfg0.N) : (dat0 V n c).after 6 t = iblk0 V c 6 t := by dsimp only [dat0]
theorem after0_7 (c : Dev nD) (t : Fin cfg0.N) : (dat0 V n c).after 7 t = iblk0 V c 7 t := by dsimp only [dat0]
theorem after0_8 (c : Dev nD) (t : Fin cfg0.N) : (dat0 V n c).after 8 t = iblk0 V c 8 t := by dsimp only [dat0]
theorem after0_9 (c : Dev nD) (t : Fin cfg0.N) : (dat0 V n c).after 9 t = iblk0 V c 9 t := by dsimp only [dat0]
theorem after0_10 (c : Dev nD) (t : Fin cfg0.N) : (dat0 V n c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V n c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_12 (c : Dev nD) (t : Fin cfg0.N) : (dat0 V n c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-- Each input's current staging buffer holds its block at every point, fetched there or not (`beforeK_W_of`). -/
theorem before0_0 (c : Dev nD) (t : Fin cfg0.N) (d) : (dat0 V n c).before 0 t d = iblk0 V c 0 t :=
  before0_0_of V (dat0 V n c) (A_eq0 V n c 0) (after0_0 V n c) t d
theorem before0_1 (c : Dev nD) (t : Fin cfg0.N) (d) : (dat0 V n c).before 1 t d = iblk0 V c 1 t :=
  before0_1_of V (dat0 V n c) (A_eq0 V n c 1) (after0_1 V n c) t d
theorem before0_2 (c : Dev nD) (t : Fin cfg0.N) (d) : (dat0 V n c).before 2 t d = iblk0 V c 2 t :=
  before0_2_of V (dat0 V n c) (A_eq0 V n c 2) (after0_2 V n c) t d
theorem before0_3 (c : Dev nD) (t : Fin cfg0.N) (d) : (dat0 V n c).before 3 t d = iblk0 V c 3 t :=
  before0_3_of V (dat0 V n c) (A_eq0 V n c 3) (after0_3 V n c) t d
theorem before0_4 (c : Dev nD) (t : Fin cfg0.N) (d) : (dat0 V n c).before 4 t d = iblk0 V c 4 t :=
  before0_4_of V (dat0 V n c) (A_eq0 V n c 4) (after0_4 V n c) t d
theorem before0_5 (c : Dev nD) (t : Fin cfg0.N) (d) : (dat0 V n c).before 5 t d = iblk0 V c 5 t :=
  before0_5_of V (dat0 V n c) (A_eq0 V n c 5) (after0_5 V n c) t d
theorem before0_6 (c : Dev nD) (t : Fin cfg0.N) (d) : (dat0 V n c).before 6 t d = iblk0 V c 6 t :=
  before0_6_of V (dat0 V n c) (A_eq0 V n c 6) (after0_6 V n c) t d
theorem before0_7 (c : Dev nD) (t : Fin cfg0.N) (d) : (dat0 V n c).before 7 t d = iblk0 V c 7 t :=
  before0_7_of V (dat0 V n c) (A_eq0 V n c 7) (after0_7 V n c) t d
theorem before0_8 (c : Dev nD) (t : Fin cfg0.N) (d) : (dat0 V n c).before 8 t d = iblk0 V c 8 t :=
  before0_8_of V (dat0 V n c) (A_eq0 V n c 8) (after0_8 V n c) t d
theorem before0_9 (c : Dev nD) (t : Fin cfg0.N) (d) : (dat0 V n c).before 9 t d = iblk0 V c 9 t :=
  before0_9_of V (dat0 V n c) (A_eq0 V n c 9) (after0_9 V n c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V n c).Φ t.castSucc ∗ (dat0 V n c).owesAt none t.castSucc
    ∗ (∃ d, owns (c : Thread nD τ) (st0_0 t) fullShare ((dat0 V n c).before 0 t d))
    ∗ (∃ d, owns (c : Thread nD τ) (st0_1 t) fullShare ((dat0 V n c).before 1 t d))
    ∗ (∃ d, owns (c : Thread nD τ) (st0_2 t) fullShare ((dat0 V n c).before 2 t d))
    ∗ (∃ d, owns (c : Thread nD τ) (st0_3 t) fullShare ((dat0 V n c).before 3 t d))
    ∗ (∃ d, owns (c : Thread nD τ) (st0_4 t) fullShare ((dat0 V n c).before 4 t d))
    ∗ (∃ d, owns (c : Thread nD τ) (st0_5 t) fullShare ((dat0 V n c).before 5 t d))
    ∗ (∃ d, owns (c : Thread nD τ) (st0_6 t) fullShare ((dat0 V n c).before 6 t d))
    ∗ (∃ d, owns (c : Thread nD τ) (st0_7 t) fullShare ((dat0 V n c).before 7 t d))
    ∗ (∃ d, owns (c : Thread nD τ) (st0_8 t) fullShare ((dat0 V n c).before 8 t d))
    ∗ (∃ d, owns (c : Thread nD τ) (st0_9 t) fullShare ((dat0 V n c).before 9 t d))
    ∗ (∃ d, owns (c : Thread nD τ) (st0_10 t) fullShare ((dat0 V n c).before 10 t d))
    ∗ (∃ d, owns (c : Thread nD τ) (st0_11 t) fullShare ((dat0 V n c).before 11 t d))
    ∗ (∃ d, owns (c : Thread nD τ) (st0_12 t) fullShare ((dat0 V n c).before 12 t d)))

/-- and what it returns. -/
def bodyPost0 (c : Dev nD) (t : Fin cfg0.N) : sProp 𝕄 :=
  iprop((dat0 V n c).Φ t.succ ∗ (dat0 V n c).owesAt none t.succ
    ∗ owns (c : Thread nD τ) (st0_0 t) fullShare ((dat0 V n c).after 0 t)
    ∗ owns (c : Thread nD τ) (st0_1 t) fullShare ((dat0 V n c).after 1 t)
    ∗ owns (c : Thread nD τ) (st0_2 t) fullShare ((dat0 V n c).after 2 t)
    ∗ owns (c : Thread nD τ) (st0_3 t) fullShare ((dat0 V n c).after 3 t)
    ∗ owns (c : Thread nD τ) (st0_4 t) fullShare ((dat0 V n c).after 4 t)
    ∗ owns (c : Thread nD τ) (st0_5 t) fullShare ((dat0 V n c).after 5 t)
    ∗ owns (c : Thread nD τ) (st0_6 t) fullShare ((dat0 V n c).after 6 t)
    ∗ owns (c : Thread nD τ) (st0_7 t) fullShare ((dat0 V n c).after 7 t)
    ∗ owns (c : Thread nD τ) (st0_8 t) fullShare ((dat0 V n c).after 8 t)
    ∗ owns (c : Thread nD τ) (st0_9 t) fullShare ((dat0 V n c).after 9 t)
    ∗ owns (c : Thread nD τ) (st0_10 t) fullShare ((dat0 V n c).after 10 t)
    ∗ owns (c : Thread nD τ) (st0_11 t) fullShare ((dat0 V n c).after 11 t)
    ∗ owns (c : Thread nD τ) (st0_12 t) fullShare ((dat0 V n c).after 12 t))

/-- The body at any point: the inputs' memrefs hold their blocks (`before0_W`), so `sound_kernel0` applies; the invariant and
    the core's `owes` pass through unread. -/
theorem sound_body0 (c : Dev nD) (t : Fin cfg0.N) :
    bodyPre0 V n c t ⊢ wp frame (wpE (defs₀ (F := F)) Variants.none c none) Set.univ (bodyAt0 t) (fun _ => bodyPost0 V n c t) := by
  unfold bodyPre0 bodyPost0 bodyAt0
  simp only [before0_0, before0_1, before0_2, before0_3, before0_4, before0_5, before0_6, before0_7, before0_8, before0_9]
  rw [show (dat0 V n c).Φ t.succ = (dat0 V n c).Φ t.castSucc from rfl,
    show (dat0 V n c).owesAt none t.succ = (dat0 V n c).owesAt none t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  rfl

/-- The library's body obligation, at every point: the body's triple restated (Lib/Pipeline/FrameBody.lean `triple_restated`). -/
theorem body_obligation0 (c : Dev nD) : BodyObligation (dat0 (F := F) V n c) (defs₀ (F := F)) Variants.none none Set.univ := fun t => by
  rw [bigSep_W0, bigSep_W0, defs₀_row0]
  exact triple_restated (sound_body0 V n c t) rfl .rfl fun _ => .rfl

/-! # REGION 1 of @main: custom_call 1, `cc1__k2_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) (HIx 1) ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x4096x64 := Rect.unit (s := S1x4096x64) ![0, 0, 0] S1x4096x64.size inb_S1x4096x64_S1x4096x64_0_0_0
abbrev r1_1 : Rect S64x4096 := Rect.unit (s := S64x4096) ![0, 0] S64x4096.size inb_S64x4096_S64x4096_0_0
abbrev r1_2 : Rect S1x64x4096 := Rect.unit (s := S1x64x4096) ![0, 0, 0] S1x64x4096.size inb_S1x64x4096_S1x64x4096_0_0_0

/-! ## What the body leaves in each output window's buffer -/

/-- Window 4's staging buffer after the body, from the input windows' blocks: its 1 store as pieces, LAST
    FIRST (Lib/Pipeline/FrameBody.lean `View.canon`; the payloads are the skeleton's). -/
def out1_4 (x0 : Vec F S1x4096x64 .f32) (x1 : Vec F S1x4096x64 .f32) (x2 : Vec F S64x4096 .f32) (x3 : Vec F S64x4096 .f32) : Vec F S1x64x4096 .f32 :=
  View.canon [⟨r1_2, k1_pay7 (View.ld x0 r1_0) (View.ld x1 r1_0) (View.ld x2 r1_1)⟩]

/-- Its stores tile the buffer (checked by evaluation), so they cover it. -/
theorem cover1_4 (p0 : Vec F S1x64x4096 .f32) (y : S1x64x4096.Idx) :
    ∃ pc ∈ ([⟨r1_2, p0⟩] : List (View.Piece (Elt F) S1x64x4096 .f32)), y ∈ pc.1.set :=
  View.cover_of_tiled [⟨r1_2, p0⟩] S1x64x4096.size (by rfl) y

/-- Window 5's staging buffer after the body, from the input windows' blocks: its 1 store as pieces, LAST
    FIRST (Lib/Pipeline/FrameBody.lean `View.canon`; the payloads are the skeleton's). -/
def out1_5 (x0 : Vec F S1x4096x64 .f32) (x1 : Vec F S1x4096x64 .f32) (x2 : Vec F S64x4096 .f32) (x3 : Vec F S64x4096 .f32) : Vec F S1x64x4096 .f32 :=
  View.canon [⟨r1_2, k1_pay8 (View.ld x0 r1_0) (View.ld x1 r1_0) (View.ld x3 r1_1)⟩]

/-- Its stores tile the buffer (checked by evaluation), so they cover it. -/
theorem cover1_5 (p0 : Vec F S1x64x4096 .f32) (y : S1x64x4096.Idx) :
    ∃ pc ∈ ([⟨r1_2, p0⟩] : List (View.Piece (Elt F) S1x64x4096 .f32)), y ∈ pc.1.set :=
  View.cover_of_tiled [⟨r1_2, p0⟩] S1x64x4096.size (by rfl) y

/-- Window 6's staging buffer after the body, from the input windows' blocks: its 1 store as pieces, LAST
    FIRST (Lib/Pipeline/FrameBody.lean `View.canon`; the payloads are the skeleton's). -/
def out1_6 (x0 : Vec F S1x4096x64 .f32) (x1 : Vec F S1x4096x64 .f32) (x2 : Vec F S64x4096 .f32) (x3 : Vec F S64x4096 .f32) : Vec F S1x64x4096 .f32 :=
  View.canon [⟨r1_2, k1_pay9 (View.ld x0 r1_0) (View.ld x1 r1_0) (View.ld x2 r1_1)⟩]

/-- Its stores tile the buffer (checked by evaluation), so they cover it. -/
theorem cover1_6 (p0 : Vec F S1x64x4096 .f32) (y : S1x64x4096.Idx) :
    ∃ pc ∈ ([⟨r1_2, p0⟩] : List (View.Piece (Elt F) S1x64x4096 .f32)), y ∈ pc.1.set :=
  View.cover_of_tiled [⟨r1_2, p0⟩] S1x64x4096.size (by rfl) y

/-- Window 7's staging buffer after the body, from the input windows' blocks: its 1 store as pieces, LAST
    FIRST (Lib/Pipeline/FrameBody.lean `View.canon`; the payloads are the skeleton's). -/
def out1_7 (x0 : Vec F S1x4096x64 .f32) (x1 : Vec F S1x4096x64 .f32) (x2 : Vec F S64x4096 .f32) (x3 : Vec F S64x4096 .f32) : Vec F S1x64x4096 .f32 :=
  View.canon [⟨r1_2, k1_pay1 (k1_pay5 (View.ld x1 r1_0) (View.ld x3 r1_1)) (k1_pay10 (View.ld x0 r1_0)) (constant S64x4096 .f32 0x00000000#32)⟩]

/-- Its stores tile the buffer (checked by evaluation), so they cover it. -/
theorem cover1_7 (p0 : Vec F S1x64x4096 .f32) (y : S1x64x4096.Idx) :
    ∃ pc ∈ ([⟨r1_2, p0⟩] : List (View.Piece (Elt F) S1x64x4096 .f32)), y ∈ pc.1.set :=
  View.cover_of_tiled [⟨r1_2, p0⟩] S1x64x4096.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1x4096x64 .f32) (harg1 : arg1.IsWhole) (arg2 : Memref sig .tc .vmem S1x4096x64 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S1x64x4096 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S1x64x4096 .f32) (harg8 : arg8.IsWhole)
    (x0 : Vec F S1x4096x64 .f32) (x1 : Vec F S1x4096x64 .f32) (x2 : Vec F S64x4096 .f32) (x3 : Vec F S64x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3) ∗ owns (c : Thread nD τ) arg7 fullShare (out1_6 x0 x1 x2 x3) ∗ owns (c : Thread nD τ) arg8 fullShare (out1_7 x0 x1 x2 x3)) -∗ K ⟨⟩))
      ⊢ wp frame (wpE (defs₀ (F := F)) Variants.none c none) E (cc1__k2_body i arg1 harg1 arg2 harg2 arg3 harg3 arg4 harg4 arg5 harg5 arg6 harg6 arg7 harg7 arg8 harg8) K := by
  simp only [cc1__k2_body_eq_skeleton]; unfold cc1__k2_body_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t)
    | ⟨7, _⟩ => out1_7 (iblk1 V c 0 t) (iblk1 V c 1 t) (iblk1 V c 2 t) (iblk1 V c 3 t)
  Φ _ := ΦS spec1 c
  q _ := fullShare
  owed _ := (K (F := F)).Otc c n
  recorded _ := {p | (K (F := F)).lev ((c : Thread nD τ), p.1) p.2 ≤ 8 * n}

/-- The proof data's arrays are the region-entry contents, by projecting the definition (`dsimp`): a region record cites
    this for its arrays rather than have Lean unfold `V`, the fold through @main up to the region's entry. -/
theorem A_eq1 (c : Dev nD) (w : Fin cfg1.W) : (dat1 V n c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V n c).after 0 t = iblk1 V c 0 t := by dsimp only [dat1]
theorem after1_1 (c : Dev nD) (t : Fin cfg1.N) : (dat1 V n c).after 1 t = iblk1 V c 1 t := by dsimp only [dat1]
theorem after1_2 (c : Dev nD) (t : Fin cfg1.N) : (dat1 V n c).after 2 t = iblk1 V c 2 t := by dsimp only [dat1]
theorem after1_3 (c : Dev nD) (t : Fin cfg1.N) : (dat1 V n c).after 3 t = iblk1 V c 3 t := by dsimp only [dat1]
theorem after1_4 (c : Dev nD) (t : Fin cfg1.N) : (dat1 V n c).after 4 t = out1_4 (iblk1 V c 0 t) (iblk1 V c 1 t) (iblk1 V c 2 t) (iblk1 V c 3 t) := by dsimp only [dat1]
theorem after1_5 (c : Dev nD) (t : Fin cfg1.N) : (dat1 V n c).after 5 t = out1_5 (iblk1 V c 0 t) (iblk1 V c 1 t) (iblk1 V c 2 t) (iblk1 V c 3 t) := by dsimp only [dat1]
theorem after1_6 (c : Dev nD) (t : Fin cfg1.N) : (dat1 V n c).after 6 t = out1_6 (iblk1 V c 0 t) (iblk1 V c 1 t) (iblk1 V c 2 t) (iblk1 V c 3 t) := by dsimp only [dat1]
theorem after1_7 (c : Dev nD) (t : Fin cfg1.N) : (dat1 V n c).after 7 t = out1_7 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V n c).before 0 t d = iblk1 V c 0 t :=
  before1_0_of V (dat1 V n c) (A_eq1 V n c 0) (after1_0 V n c) t d
theorem before1_1 (c : Dev nD) (t : Fin cfg1.N) (d) : (dat1 V n c).before 1 t d = iblk1 V c 1 t :=
  before1_1_of V (dat1 V n c) (A_eq1 V n c 1) (after1_1 V n c) t d
theorem before1_2 (c : Dev nD) (t : Fin cfg1.N) (d) : (dat1 V n c).before 2 t d = iblk1 V c 2 t :=
  before1_2_of V (dat1 V n c) (A_eq1 V n c 2) (after1_2 V n c) t d
theorem before1_3 (c : Dev nD) (t : Fin cfg1.N) (d) : (dat1 V n c).before 3 t d = iblk1 V c 3 t :=
  before1_3_of V (dat1 V n c) (A_eq1 V n c 3) (after1_3 V n c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V n c).Φ t.castSucc ∗ (dat1 V n c).owesAt none t.castSucc
    ∗ (∃ d, owns (c : Thread nD τ) (st1_0 t) fullShare ((dat1 V n c).before 0 t d))
    ∗ (∃ d, owns (c : Thread nD τ) (st1_1 t) fullShare ((dat1 V n c).before 1 t d))
    ∗ (∃ d, owns (c : Thread nD τ) (st1_2 t) fullShare ((dat1 V n c).before 2 t d))
    ∗ (∃ d, owns (c : Thread nD τ) (st1_3 t) fullShare ((dat1 V n c).before 3 t d))
    ∗ (∃ d, owns (c : Thread nD τ) (st1_4 t) fullShare ((dat1 V n c).before 4 t d))
    ∗ (∃ d, owns (c : Thread nD τ) (st1_5 t) fullShare ((dat1 V n c).before 5 t d))
    ∗ (∃ d, owns (c : Thread nD τ) (st1_6 t) fullShare ((dat1 V n c).before 6 t d))
    ∗ (∃ d, owns (c : Thread nD τ) (st1_7 t) fullShare ((dat1 V n c).before 7 t d)))

/-- and what it returns. -/
def bodyPost1 (c : Dev nD) (t : Fin cfg1.N) : sProp 𝕄 :=
  iprop((dat1 V n c).Φ t.succ ∗ (dat1 V n c).owesAt none t.succ
    ∗ owns (c : Thread nD τ) (st1_0 t) fullShare ((dat1 V n c).after 0 t)
    ∗ owns (c : Thread nD τ) (st1_1 t) fullShare ((dat1 V n c).after 1 t)
    ∗ owns (c : Thread nD τ) (st1_2 t) fullShare ((dat1 V n c).after 2 t)
    ∗ owns (c : Thread nD τ) (st1_3 t) fullShare ((dat1 V n c).after 3 t)
    ∗ owns (c : Thread nD τ) (st1_4 t) fullShare ((dat1 V n c).after 4 t)
    ∗ owns (c : Thread nD τ) (st1_5 t) fullShare ((dat1 V n c).after 5 t)
    ∗ owns (c : Thread nD τ) (st1_6 t) fullShare ((dat1 V n c).after 6 t)
    ∗ owns (c : Thread nD τ) (st1_7 t) fullShare ((dat1 V n c).after 7 t))

/-- The body at any point: the inputs' memrefs hold their blocks (`before1_W`), so `sound_kernel1` applies; the invariant and
    the core's `owes` pass through unread. -/
theorem sound_body1 (c : Dev nD) (t : Fin cfg1.N) :
    bodyPre1 V n c t ⊢ wp frame (wpE (defs₀ (F := F)) Variants.none c none) Set.univ (bodyAt1 t) (fun _ => bodyPost1 V n c t) := by
  unfold bodyPre1 bodyPost1 bodyAt1
  simp only [before1_0, before1_1, before1_2, before1_3]
  rw [show (dat1 V n c).Φ t.succ = (dat1 V n c).Φ t.castSucc from rfl,
    show (dat1 V n c).owesAt none t.succ = (dat1 V n c).owesAt none t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  rfl

/-- The library's body obligation, at every point: the body's triple restated (Lib/Pipeline/FrameBody.lean `triple_restated`). -/
theorem body_obligation1 (c : Dev nD) : BodyObligation (dat1 (F := F) V n c) (defs₀ (F := F)) Variants.none none Set.univ := fun t => by
  rw [bigSep_W1, bigSep_W1, defs₀_row1]
  exact triple_restated (sound_body1 V n c t) rfl .rfl fun _ => .rfl

/-! # REGION 2 of @main: custom_call 3, `cc3__k4_body` (pipeline 2), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The frame claim's post from the frame run's -/

/-! ## The body's accesses -/

abbrev r3_0 : Rect S12x512x64 := Rect.unit (s := S12x512x64) ![0, 0, 0] S1x512x64.size inb_S12x512x64_S1x512x64_0_0_0
abbrev r3_1 : Rect S768x768 := Rect.unit (s := S768x768) ![0, 0] S768x64.size inb_S768x768_S768x64_0_0
abbrev r3_2 : Rect S12x512x64 := Rect.unit (s := S12x512x64) ![1, 0, 0] S1x512x64.size inb_S12x512x64_S1x512x64_1_0_0
abbrev r3_3 : Rect S768x768 := Rect.unit (s := S768x768) ![0, 64] S768x64.size inb_S768x768_S768x64_0_64
abbrev r3_4 : Rect S12x512x64 := Rect.unit (s := S12x512x64) ![2, 0, 0] S1x512x64.size inb_S12x512x64_S1x512x64_2_0_0
abbrev r3_5 : Rect S768x768 := Rect.unit (s := S768x768) ![0, 128] S768x64.size inb_S768x768_S768x64_0_128
abbrev r3_6 : Rect S12x512x64 := Rect.unit (s := S12x512x64) ![3, 0, 0] S1x512x64.size inb_S12x512x64_S1x512x64_3_0_0
abbrev r3_7 : Rect S768x768 := Rect.unit (s := S768x768) ![0, 192] S768x64.size inb_S768x768_S768x64_0_192
abbrev r3_8 : Rect S12x512x64 := Rect.unit (s := S12x512x64) ![4, 0, 0] S1x512x64.size inb_S12x512x64_S1x512x64_4_0_0
abbrev r3_9 : Rect S768x768 := Rect.unit (s := S768x768) ![0, 256] S768x64.size inb_S768x768_S768x64_0_256
abbrev r3_10 : Rect S12x512x64 := Rect.unit (s := S12x512x64) ![5, 0, 0] S1x512x64.size inb_S12x512x64_S1x512x64_5_0_0
abbrev r3_11 : Rect S768x768 := Rect.unit (s := S768x768) ![0, 320] S768x64.size inb_S768x768_S768x64_0_320
abbrev r3_12 : Rect S12x512x64 := Rect.unit (s := S12x512x64) ![6, 0, 0] S1x512x64.size inb_S12x512x64_S1x512x64_6_0_0
abbrev r3_13 : Rect S768x768 := Rect.unit (s := S768x768) ![0, 384] S768x64.size inb_S768x768_S768x64_0_384
abbrev r3_14 : Rect S12x512x64 := Rect.unit (s := S12x512x64) ![7, 0, 0] S1x512x64.size inb_S12x512x64_S1x512x64_7_0_0
abbrev r3_15 : Rect S768x768 := Rect.unit (s := S768x768) ![0, 448] S768x64.size inb_S768x768_S768x64_0_448
abbrev r3_16 : Rect S12x512x64 := Rect.unit (s := S12x512x64) ![8, 0, 0] S1x512x64.size inb_S12x512x64_S1x512x64_8_0_0
abbrev r3_17 : Rect S768x768 := Rect.unit (s := S768x768) ![0, 512] S768x64.size inb_S768x768_S768x64_0_512
abbrev r3_18 : Rect S12x512x64 := Rect.unit (s := S12x512x64) ![9, 0, 0] S1x512x64.size inb_S12x512x64_S1x512x64_9_0_0
abbrev r3_19 : Rect S768x768 := Rect.unit (s := S768x768) ![0, 576] S768x64.size inb_S768x768_S768x64_0_576
abbrev r3_20 : Rect S12x512x64 := Rect.unit (s := S12x512x64) ![10, 0, 0] S1x512x64.size inb_S12x512x64_S1x512x64_10_0_0
abbrev r3_21 : Rect S768x768 := Rect.unit (s := S768x768) ![0, 640] S768x64.size inb_S768x768_S768x64_0_640
abbrev r3_22 : Rect S12x512x64 := Rect.unit (s := S12x512x64) ![11, 0, 0] S1x512x64.size inb_S12x512x64_S1x512x64_11_0_0
abbrev r3_23 : Rect S768x768 := Rect.unit (s := S768x768) ![0, 704] S768x64.size inb_S768x768_S768x64_0_704
abbrev r3_24 : Rect S512x768 := Rect.unit (s := S512x768) ![0, 0] S512x768.size inb_S512x768_S512x768_0_0

/-! ## What the body leaves in each output window's buffer -/

/-- Window 2's staging buffer after the body, from the input windows' blocks: its 1 store as pieces, LAST
    FIRST (Lib/Pipeline/FrameBody.lean `View.canon`; the payloads are the skeleton's). -/
def out3_2 (x0 : Vec F S12x512x64 .f32) (x1 : Vec F S768x768 .bf16) : Vec F S512x768 .f32 :=
  View.canon [⟨r3_24, k3_pay1 (k3_pay4 (k3_pay2 (View.ld x0 r3_0) (View.ld x1 r3_1) (View.ld x0 r3_2) (View.ld x1 r3_3) (View.ld x0 r3_4) (View.ld x1 r3_5) (View.ld x0 r3_6) (View.ld x1 r3_7)) (k3_pay3 (View.ld x0 r3_8)) (View.ld x1 r3_9) (View.ld x0 r3_10) (View.ld x1 r3_11) (View.ld x0 r3_12) (View.ld x1 r3_13) (View.ld x0 r3_14) (View.ld x1 r3_15) (View.ld x0 r3_16) (View.ld x1 r3_17)) (View.ld x0 r3_18) (View.ld x1 r3_19) (View.ld x0 r3_20) (View.ld x1 r3_21) (View.ld x0 r3_22) (View.ld x1 r3_23)⟩]

/-- Its stores tile the buffer (checked by evaluation), so they cover it. -/
theorem cover3_2 (p0 : Vec F S512x768 .f32) (y : S512x768.Idx) :
    ∃ pc ∈ ([⟨r3_24, p0⟩] : List (View.Piece (Elt F) S512x768 .f32)), y ∈ pc.1.set :=
  View.cover_of_tiled [⟨r3_24, p0⟩] S512x768.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S12x512x64 .f32) (harg1 : arg1.IsWhole) (arg2 : Memref sig .tc .vmem S768x768 .bf16) (harg2 : arg2.IsWhole) (arg3 : Memref sig .tc .vmem S512x768 .f32) (harg3 : arg3.IsWhole)
    (x0 : Vec F S12x512x64 .f32) (x1 : Vec F S768x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__k4_body i arg1 harg1 arg2 harg2 arg3 harg3) K := by
  simp only [cc3__k4_body_eq_skeleton]; unfold cc3__k4_body_skel
  simp only [k3_part1_eq_skeleton, k3_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the one pipeline on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := ΦS spec3 c
  q _ := fullShare
  owed _ := (K (F := F)).Otc c n
  recorded _ := {p | (K (F := F)).lev ((c : Thread nD τ), p.1) p.2 ≤ 8 * n}

/-- The proof data's arrays are the region-entry contents: the proof data's definition projected (`dsimp`), so that
    `V` — a fold over @main's host prefix, long for some programs — is never unfolded to check it. -/
theorem A_eq3 (c : Dev nD) (w : Fin cfg3.W) : (dat3 V n c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V n c).after 0 t = iblk3 V c 0 t := by dsimp only [dat3]
theorem after3_1 (c : Dev nD) (t : Fin cfg3.N) : (dat3 V n c).after 1 t = iblk3 V c 1 t := by dsimp only [dat3]
theorem after3_2 (c : Dev nD) (t : Fin cfg3.N) : (dat3 V n c).after 2 t = out3_2 (iblk3 V c 0 t) (iblk3 V c 1 t) := by dsimp only [dat3]

/-- Each input's current staging buffer holds its block at every point, fetched there or not (`beforeK_W_of`). -/
theorem before3_0 (c : Dev nD) (t : Fin cfg3.N) (d) : (dat3 V n c).before 0 t d = iblk3 V c 0 t :=
  before3_0_of V (dat3 V n c) (A_eq3 V n c 0) (after3_0 V n c) t d
theorem before3_1 (c : Dev nD) (t : Fin cfg3.N) (d) : (dat3 V n c).before 1 t d = iblk3 V c 1 t :=
  before3_1_of V (dat3 V n c) (A_eq3 V n c 1) (after3_1 V n c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V n c).Φ t.castSucc ∗ (dat3 V n c).owesAt none t.castSucc
    ∗ (∃ d, owns (c : Thread nD τ) (st3_0 t) fullShare ((dat3 V n c).before 0 t d))
    ∗ (∃ d, owns (c : Thread nD τ) (st3_1 t) fullShare ((dat3 V n c).before 1 t d))
    ∗ (∃ d, owns (c : Thread nD τ) (st3_2 t) fullShare ((dat3 V n c).before 2 t d)))

/-- and what it returns. -/
def bodyPost3 (c : Dev nD) (t : Fin cfg3.N) : sProp 𝕄 :=
  iprop((dat3 V n c).Φ t.succ ∗ (dat3 V n c).owesAt none t.succ
    ∗ owns (c : Thread nD τ) (st3_0 t) fullShare ((dat3 V n c).after 0 t)
    ∗ owns (c : Thread nD τ) (st3_1 t) fullShare ((dat3 V n c).after 1 t)
    ∗ owns (c : Thread nD τ) (st3_2 t) fullShare ((dat3 V n c).after 2 t))

/-- The body at any point: the inputs' memrefs hold their blocks (`before3_W`), so `sound_kernel3` applies; the invariant and
    the core's `owes` pass through unread. -/
theorem sound_body3 (c : Dev nD) (t : Fin cfg3.N) :
    bodyPre3 V n c t ⊢ wp frame (wpE (defs₀ (F := F)) Variants.none c none) Set.univ (bodyAt3 t) (fun _ => bodyPost3 V n c t) := by
  unfold bodyPre3 bodyPost3 bodyAt3
  simp only [before3_0, before3_1]
  rw [show (dat3 V n c).Φ t.succ = (dat3 V n c).Φ t.castSucc from rfl,
    show (dat3 V n c).owesAt none t.succ = (dat3 V n c).owesAt none t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt3` spells it. -/
theorem defs₀_row3 (t : Fin cfg3.N) :
    defs₀ (F := F) .tc cfg3.body (cfg3.bodyArgs t (cfg3.slots t)) = bodyAt3 t := by
  rfl

/-- The library's body obligation, at every point: the body's triple restated (Lib/Pipeline/FrameBody.lean `triple_restated`). -/
theorem body_obligation3 (c : Dev nD) : BodyObligation (dat3 (F := F) V n c) (defs₀ (F := F)) Variants.none none Set.univ := fun t => by
  rw [bigSep_W3, bigSep_W3, defs₀_row3]
  exact triple_restated (sound_body3 V n c t) rfl .rfl fun _ => .rfl

/-! ## The run and the frame -/

end Regions

end Cert.KernelIdeal.Whole

end
-- ==== Proof.KernelIdealHost.lean ====
/-
  The host operations of `kernel`'s @main: their stretches in order, the buffers each stretch writes (none of them an
  argument array), and @main as the stretches with the three TensorCore kernels and the SparseCore call between them.
-/
module

public import proofs.«01_k».proof.Proof.KernelIdealTc

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The argument arrays. -/
abbrev argRefs : List (Ref sig .tc) := [main_arg0, main_arg1, main_arg2, main_arg3, main_arg4]

/-! ## The stretches -/

/-- The first window of the host operations: the embedding tables and the operands of the projections. -/
abbrev host0 : List (HloOp τ sig (Elt F)) :=
  ( StableHlo.reshape main_arg0 main_v0 (rfl : (.f32 : EltTy) = .f32) shapeCasts_S1x4096x768_S4096x768
  :: StableHlo.nullary main_v1 (sitofp .f32 (iotaInDim S32 32 0))
  :: StableHlo.nullary main_cst (constant S_ .f32 0x40000000#32)
  :: StableHlo.unary main_cst main_v2 (broadcastInDim S32 ![] bcast_S_S32 : (⟨S_, .f32⟩ : BufTy).Contents (Elt F) → (⟨S32, .f32⟩ : BufTy).Contents (Elt F))
  :: StableHlo.binary main_v2 main_v1 main_v3 (mulf : (⟨S32, .f32⟩ : BufTy).Contents (Elt F) → (⟨S32, .f32⟩ : BufTy).Contents (Elt F) → (⟨S32, .f32⟩ : BufTy).Contents (Elt F))
  :: StableHlo.nullary main_cst_0 (constant S_ .f32 0x00000000#32)
  :: StableHlo.unary main_cst_0 main_v4 (broadcastInDim S32 ![] bcast_S_S32 : (⟨S_, .f32⟩ : BufTy).Contents (Elt F) → (⟨S32, .f32⟩ : BufTy).Contents (Elt F))
  :: StableHlo.binary main_v4 main_v3 main_v5 (addf : (⟨S32, .f32⟩ : BufTy).Contents (Elt F) → (⟨S32, .f32⟩ : BufTy).Contents (Elt F) → (⟨S32, .f32⟩ : BufTy).Contents (Elt F))
  :: StableHlo.nullary main_cst_1 (constant S_ .f32 0x42800000#32)
  :: StableHlo.unary main_cst_1 main_v6 (broadcastInDim S32 ![] bcast_S_S32 : (⟨S_, .f32⟩ : BufTy).Contents (Elt F) → (⟨S32, .f32⟩ : BufTy).Contents (Elt F))
  :: StableHlo.binary main_v5 main_v6 main_v7 (Host.divf : (⟨S32, .f32⟩ : BufTy).Contents (Elt F) → (⟨S32, .f32⟩ : BufTy).Contents (Elt F) → (⟨S32, .f32⟩ : BufTy).Contents (Elt F))
  :: StableHlo.nullary main_cst_2 (constant S_ .f32 0x461C4000#32)
  :: StableHlo.unary main_cst_2 main_v8 (broadcastInDim S32 ![] bcast_S_S32 : (⟨S_, .f32⟩ : BufTy).Contents (Elt F) → (⟨S32, .f32⟩ : BufTy).Contents (Elt F))
  :: StableHlo.binary main_v8 main_v7 main_v9 (Host.powf : (⟨S32, .f32⟩ : BufTy).Contents (Elt F) → (⟨S32, .f32⟩ : BufTy).Contents (Elt F) → (⟨S32, .f32⟩ : BufTy).Contents (Elt F))
  :: StableHlo.nullary main_cst_3 (constant S_ .f32 0x3F800000#32)
  :: StableHlo.unary main_cst_3 main_v10 (broadcastInDim S32 ![] bcast_S_S32 : (⟨S_, .f32⟩ : BufTy).Contents (Elt F) → (⟨S32, .f32⟩ : BufTy).Contents (Elt F))
  :: StableHlo.binary main_v10 main_v9 main_v11 (Host.divf : (⟨S32, .f32⟩ : BufTy).Contents (Elt F) → (⟨S32, .f32⟩ : BufTy).Contents (Elt F) → (⟨S32, .f32⟩ : BufTy).Contents (Elt F))
  :: StableHlo.nullary main_v12 (sitofp .f32 (iotaInDim S4096 32 0))
  :: StableHlo.unary main_v12 main_v13 (broadcastInDim S4096x1 ![0] bcast_S4096_S4096x1_0 : (⟨S4096, .f32⟩ : BufTy).Contents (Elt F) → (⟨S4096x1, .f32⟩ : BufTy).Contents (Elt F))
  :: StableHlo.unary main_v11 main_v14 (broadcastInDim S1x32 ![1] bcast_S32_S1x32_1 : (⟨S32, .f32⟩ : BufTy).Contents (Elt F) → (⟨S1x32, .f32⟩ : BufTy).Contents (Elt F))
  :: StableHlo.unary main_v13 main_v15 (broadcastInDim S4096x32 ![0, 1] bcast_S4096x1_S4096x32_0_1 : (⟨S4096x1, .f32⟩ : BufTy).Contents (Elt F) → (⟨S4096x32, .f32⟩ : BufTy).Contents (Elt F))
  :: StableHlo.unary main_v14 main_v16 (broadcastInDim S4096x32 ![0, 1] bcast_S1x32_S4096x32_0_1 : (⟨S1x32, .f32⟩ : BufTy).Contents (Elt F) → (⟨S4096x32, .f32⟩ : BufTy).Contents (Elt F))
  :: StableHlo.binary main_v15 main_v16 main_v17 (mulf : (⟨S4096x32, .f32⟩ : BufTy).Contents (Elt F) → (⟨S4096x32, .f32⟩ : BufTy).Contents (Elt F) → (⟨S4096x32, .f32⟩ : BufTy).Contents (Elt F))
  :: StableHlo.binary main_v17 main_v17 main_v18 ((fun a b => concatenate S4096x64 1 [⟨S4096x32, a⟩, ⟨S4096x32, b⟩] concatenates_S4096x32_S4096x32_S4096x64_d1) : (⟨S4096x32, .f32⟩ : BufTy).Contents (Elt F) → (⟨S4096x32, .f32⟩ : BufTy).Contents (Elt F) → (⟨S4096x64, .f32⟩ : BufTy).Contents (Elt F))
  :: StableHlo.unary main_v18 main_v19 (Host.cos : (⟨S4096x64, .f32⟩ : BufTy).Contents (Elt F) → (⟨S4096x64, .f32⟩ : BufTy).Contents (Elt F))
  :: StableHlo.unary main_v18 main_v20 (Host.sin : (⟨S4096x64, .f32⟩ : BufTy).Contents (Elt F) → (⟨S4096x64, .f32⟩ : BufTy).Contents (Elt F))
  :: StableHlo.reshape main_v19 main_v21 (rfl : (.f32 : EltTy) = .f32) shapeCasts_S4096x64_S1x4096x1x64
  :: StableHlo.unary main_v21 main_v22 (broadcastInDim S1x4096x12x64 ![0, 1, 2, 3] bcast_S1x4096x1x64_S1x4096x12x64_0_1_2_3 : (⟨S1x4096x1x64, .f32⟩ : BufTy).Contents (Elt F) → (⟨S1x4096x12x64, .f32⟩ : BufTy).Contents (Elt F))
  :: StableHlo.reshape main_v22 main_v23 (rfl : (.f32 : EltTy) = .f32) shapeCasts_S1x4096x12x64_S4096x768
  :: StableHlo.reshape main_v20 main_v24 (rfl : (.f32 : EltTy) = .f32) shapeCasts_S4096x64_S1x4096x1x64
  :: StableHlo.unary main_v24 main_v25 (broadcastInDim S1x4096x12x64 ![0, 1, 2, 3] bcast_S1x4096x1x64_S1x4096x12x64_0_1_2_3 : (⟨S1x4096x1x64, .f32⟩ : BufTy).Contents (Elt F) → (⟨S1x4096x12x64, .f32⟩ : BufTy).Contents (Elt F))
  :: StableHlo.reshape main_v25 main_v26 (rfl : (.f32 : EltTy) = .f32) shapeCasts_S1x4096x12x64_S4096x768
  :: StableHlo.reshape main_v19 main_v27 (rfl : (.f32 : EltTy) = .f32) shapeCasts_S4096x64_S1x4096x1x64
  :: StableHlo.unary main_v27 main_v28 (broadcastInDim S1x4096x4x64 ![0, 1, 2, 3] bcast_S1x4096x1x64_S1x4096x4x64_0_1_2_3 : (⟨S1x4096x1x64, .f32⟩ : BufTy).Contents (Elt F) → (⟨S1x4096x4x64, .f32⟩ : BufTy).Contents (Elt F))
  :: StableHlo.reshape main_v28 main_v29 (rfl : (.f32 : EltTy) = .f32) shapeCasts_S1x4096x4x64_S4096x256
  :: StableHlo.reshape main_v20 main_v30 (rfl : (.f32 : EltTy) = .f32) shapeCasts_S4096x64_S1x4096x1x64
  :: StableHlo.unary main_v30 main_v31 (broadcastInDim S1x4096x4x64 ![0, 1, 2, 3] bcast_S1x4096x1x64_S1x4096x4x64_0_1_2_3 : (⟨S1x4096x1x64, .f32⟩ : BufTy).Contents (Elt F) → (⟨S1x4096x4x64, .f32⟩ : BufTy).Contents (Elt F))
  :: StableHlo.reshape main_v31 main_v32 (rfl : (.f32 : EltTy) = .f32) shapeCasts_S1x4096x4x64_S4096x256
  :: StableHlo.unary main_arg1 main_v33 ((transpose S768x768 [1, 0] · transposes_S768x768_S768x768_1_0) : (⟨S768x768, .f32⟩ : BufTy).Contents (Elt F) → (⟨S768x768, .f32⟩ : BufTy).Contents (Elt F))
  :: StableHlo.unary main_arg2 main_v34 ((transpose S768x256 [1, 0] · transposes_S256x768_S768x256_1_0) : (⟨S256x768, .f32⟩ : BufTy).Contents (Elt F) → (⟨S768x256, .f32⟩ : BufTy).Contents (Elt F))
  :: StableHlo.unary main_arg3 main_v35 ((transpose S768x256 [1, 0] · transposes_S256x768_S768x256_1_0) : (⟨S256x768, .f32⟩ : BufTy).Contents (Elt F) → (⟨S768x256, .f32⟩ : BufTy).Contents (Elt F))
  :: StableHlo.reshape main_v33 main_v36 (rfl : (.f32 : EltTy) = .f32) shapeCasts_S768x768_S768x12x2x32
  :: StableHlo.unary main_v36 main_v37 ((extractStridedSlice S768x12x1x32 ![0, 0, 1, 0] · slices_S768x12x2x32_S768x12x1x32_0_0_1_0) : (⟨S768x12x2x32, .f32⟩ : BufTy).Contents (Elt F) → (⟨S768x12x1x32, .f32⟩ : BufTy).Contents (Elt F))
  :: StableHlo.unary main_v37 main_v38 (Host.negf : (⟨S768x12x1x32, .f32⟩ : BufTy).Contents (Elt F) → (⟨S768x12x1x32, .f32⟩ : BufTy).Contents (Elt F))
  :: StableHlo.unary main_v36 main_v39 ((extractStridedSlice S768x12x1x32 ![0, 0, 0, 0] · slices_S768x12x2x32_S768x12x1x32_0_0_0_0) : (⟨S768x12x2x32, .f32⟩ : BufTy).Contents (Elt F) → (⟨S768x12x1x32, .f32⟩ : BufTy).Contents (Elt F))
  :: StableHlo.binary main_v38 main_v39 main_v40 ((fun a b => concatenate S768x12x2x32 2 [⟨S768x12x1x32, a⟩, ⟨S768x12x1x32, b⟩] concatenates_S768x12x1x32_S768x12x1x32_S768x12x2x32_d2) : (⟨S768x12x1x32, .f32⟩ : BufTy).Contents (Elt F) → (⟨S768x12x1x32, .f32⟩ : BufTy).Contents (Elt F) → (⟨S768x12x2x32, .f32⟩ : BufTy).Contents (Elt F))
  :: StableHlo.reshape main_v40 main_v41 (rfl : (.f32 : EltTy) = .f32) shapeCasts_S768x12x2x32_S768x768
  :: StableHlo.reshape main_v34 main_v42 (rfl : (.f32 : EltTy) = .f32) shapeCasts_S768x256_S768x4x2x32
  :: StableHlo.unary main_v42 main_v43 ((extractStridedSlice S768x4x1x32 ![0, 0, 1, 0] · slices_S768x4x2x32_S768x4x1x32_0_0_1_0) : (⟨S768x4x2x32, .f32⟩ : BufTy).Contents (Elt F) → (⟨S768x4x1x32, .f32⟩ : BufTy).Contents (Elt F))
  :: StableHlo.unary main_v43 main_v44 (Host.negf : (⟨S768x4x1x32, .f32⟩ : BufTy).Contents (Elt F) → (⟨S768x4x1x32, .f32⟩ : BufTy).Contents (Elt F))
  :: StableHlo.unary main_v42 main_v45 ((extractStridedSlice S768x4x1x32 ![0, 0, 0, 0] · slices_S768x4x2x32_S768x4x1x32_0_0_0_0) : (⟨S768x4x2x32, .f32⟩ : BufTy).Contents (Elt F) → (⟨S768x4x1x32, .f32⟩ : BufTy).Contents (Elt F))
  :: StableHlo.binary main_v44 main_v45 main_v46 ((fun a b => concatenate S768x4x2x32 2 [⟨S768x4x1x32, a⟩, ⟨S768x4x1x32, b⟩] concatenates_S768x4x1x32_S768x4x1x32_S768x4x2x32_d2) : (⟨S768x4x1x32, .f32⟩ : BufTy).Contents (Elt F) → (⟨S768x4x1x32, .f32⟩ : BufTy).Contents (Elt F) → (⟨S768x4x2x32, .f32⟩ : BufTy).Contents (Elt F))
  :: StableHlo.reshape main_v46 main_v47 (rfl : (.f32 : EltTy) = .f32) shapeCasts_S768x4x2x32_S768x256
  :: StableHlo.unary main_v0 main_v48 ((truncf .bf16 · bitsLt_bf16_f32) : (⟨S4096x768, .f32⟩ : BufTy).Contents (Elt F) → (⟨S4096x768, .bf16⟩ : BufTy).Contents (Elt F))
  :: StableHlo.unary main_v33 main_v49 ((truncf .bf16 · bitsLt_bf16_f32) : (⟨S768x768, .f32⟩ : BufTy).Contents (Elt F) → (⟨S768x768, .bf16⟩ : BufTy).Contents (Elt F))
  :: StableHlo.unary main_v41 main_v50 ((truncf .bf16 · bitsLt_bf16_f32) : (⟨S768x768, .f32⟩ : BufTy).Contents (Elt F) → (⟨S768x768, .bf16⟩ : BufTy).Contents (Elt F))
  :: StableHlo.unary main_v34 main_v51 ((truncf .bf16 · bitsLt_bf16_f32) : (⟨S768x256, .f32⟩ : BufTy).Contents (Elt F) → (⟨S768x256, .bf16⟩ : BufTy).Contents (Elt F))
  :: StableHlo.unary main_v47 main_v52 ((truncf .bf16 · bitsLt_bf16_f32) : (⟨S768x256, .f32⟩ : BufTy).Contents (Elt F) → (⟨S768x256, .bf16⟩ : BufTy).Contents (Elt F))
  :: StableHlo.unary main_v35 main_v53 ((truncf .bf16 · bitsLt_bf16_f32) : (⟨S768x256, .f32⟩ : BufTy).Contents (Elt F) → (⟨S768x256, .bf16⟩ : BufTy).Contents (Elt F))
  :: StableHlo.nullary main_v54 (iotaInDim S4096 32 0)
  :: [] )
theorem host0_sub : (host0 : List (HloOp τ sig (Elt F))).Forall fun op => op.bufs ⊆ StableHlo.tcRefs τ sig :=
  ⟨StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.reshape_bufs_sub .., StableHlo.reshape_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub ..⟩

/-- The positions and the block length. -/
abbrev host1 : List (HloOp τ sig (Elt F)) :=
  [ StableHlo.nullary main_v55 (iotaInDim S64 32 0),
    StableHlo.unary main_v54 main_v56 (broadcastInDim S1x4096 ![1] bcast_S4096_S1x4096_1 : (⟨S4096, .i32⟩ : BufTy).Contents (Elt F) → (⟨S1x4096, .i32⟩ : BufTy).Contents (Elt F)),
    StableHlo.nullary main_c (constantI S_ 32 64#32) ]
theorem host1_sub : (host1 : List (HloOp τ sig (Elt F))).Forall fun op => op.bufs ⊆ StableHlo.tcRefs τ sig :=
  ⟨StableHlo.nullary_bufs_sub .., StableHlo.unary_bufs_sub .., StableHlo.nullary_bufs_sub ..⟩

/-- The quotient of the positions by the block length. -/
abbrev host2 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1x4096, .i32⟩) (broadcastInDim S1x4096 ![] bcast_S_S1x4096),
    StableHlo.TRef.binary (.of main_v56 : StableHlo.TRef sig ⟨S1x4096, .i32⟩) (.of main_call0_v1 : StableHlo.TRef sig ⟨S1x4096, .i32⟩) (.of main_call0_v2 : StableHlo.TRef sig ⟨S1x4096, .i32⟩) Host.divsi,
    StableHlo.TRef.unary (.of main_v56 : StableHlo.TRef sig ⟨S1x4096, .i32⟩) (.of main_call0_v3 : StableHlo.TRef sig ⟨S1x4096, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S1x4096, .i32⟩) (broadcastInDim S1x4096 ![] bcast_S_S1x4096),
    StableHlo.TRef.binary (.of main_call0_v3 : StableHlo.TRef sig ⟨S1x4096, .i32⟩) (.of main_call0_v5 : StableHlo.TRef sig ⟨S1x4096, .i32⟩) (.of main_call0_v6 : StableHlo.TRef sig ⟨S1x4096, .i1⟩) (cmpi .ne),
    StableHlo.TRef.unary (.of main_call0_v0 : StableHlo.TRef sig ⟨S_, .i32⟩) (.of main_call0_v7 : StableHlo.TRef sig ⟨S1x4096, .i32⟩) (broadcastInDim S1x4096 ![] bcast_S_S1x4096),
    StableHlo.TRef.binary (.of main_v56 : StableHlo.TRef sig ⟨S1x4096, .i32⟩) (.of main_call0_v7 : StableHlo.TRef sig ⟨S1x4096, .i32⟩) (.of main_call0_v8 : StableHlo.TRef sig ⟨S1x4096, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S1x4096, .i32⟩) (broadcastInDim S1x4096 ![] bcast_S_S1x4096),
    StableHlo.TRef.binary (.of main_call0_v8 : StableHlo.TRef sig ⟨S1x4096, .i32⟩) (.of main_call0_v9 : StableHlo.TRef sig ⟨S1x4096, .i32⟩) (.of main_call0_v10 : StableHlo.TRef sig ⟨S1x4096, .i1⟩) (cmpi .ne),
    StableHlo.TRef.binary (.of main_call0_v6 : StableHlo.TRef sig ⟨S1x4096, .i1⟩) (.of main_call0_v10 : StableHlo.TRef sig ⟨S1x4096, .i1⟩) (.of main_call0_v11 : StableHlo.TRef sig ⟨S1x4096, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S1x4096, .i32⟩) (broadcastInDim S1x4096 ![] bcast_S_S1x4096),
    StableHlo.TRef.binary (.of main_call0_v2 : StableHlo.TRef sig ⟨S1x4096, .i32⟩) (.of main_call0_v12 : StableHlo.TRef sig ⟨S1x4096, .i32⟩) (.of main_call0_v13 : StableHlo.TRef sig ⟨S1x4096, .i32⟩) subi,
    StableHlo.TRef.ternary (.of main_call0_v11 : StableHlo.TRef sig ⟨S1x4096, .i1⟩) (.of main_call0_v13 : StableHlo.TRef sig ⟨S1x4096, .i32⟩) (.of main_call0_v2 : StableHlo.TRef sig ⟨S1x4096, .i32⟩) (.of main_v57 : StableHlo.TRef sig ⟨S1x4096, .i32⟩) select ]
theorem host2_sub : (host2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- The block of each position as a zero-one matrix. -/
abbrev host3 : List (HloOp τ sig (Elt F)) :=
  [ StableHlo.unary main_v55 main_v58 (broadcastInDim S64x1 ![0] bcast_S64_S64x1_0 : (⟨S64, .i32⟩ : BufTy).Contents (Elt F) → (⟨S64x1, .i32⟩ : BufTy).Contents (Elt F)),
    StableHlo.unary main_v57 main_v59 (broadcastInDim S64x4096 ![0, 1] bcast_S1x4096_S64x4096_0_1 : (⟨S1x4096, .i32⟩ : BufTy).Contents (Elt F) → (⟨S64x4096, .i32⟩ : BufTy).Contents (Elt F)),
    StableHlo.unary main_v58 main_v60 (broadcastInDim S64x4096 ![0, 1] bcast_S64x1_S64x4096_0_1 : (⟨S64x1, .i32⟩ : BufTy).Contents (Elt F) → (⟨S64x4096, .i32⟩ : BufTy).Contents (Elt F)),
    StableHlo.binary main_v59 main_v60 main_v61 (cmpi .eq : (⟨S64x4096, .i32⟩ : BufTy).Contents (Elt F) → (⟨S64x4096, .i32⟩ : BufTy).Contents (Elt F) → (⟨S64x4096, .i1⟩ : BufTy).Contents (Elt F)),
    StableHlo.unary main_v61 main_v62 (uitofp .f32 : (⟨S64x4096, .i1⟩ : BufTy).Contents (Elt F) → (⟨S64x4096, .f32⟩ : BufTy).Contents (Elt F)),
    StableHlo.unary main_v54 main_v63 (broadcastInDim S1x4096 ![1] bcast_S4096_S1x4096_1 : (⟨S4096, .i32⟩ : BufTy).Contents (Elt F) → (⟨S1x4096, .i32⟩ : BufTy).Contents (Elt F)),
    StableHlo.nullary main_c_4 (constantI S_ 32 64#32) ]
theorem host3_sub : (host3 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.nullary_bufs_sub ..⟩

/-- The remainder of the positions by the block length. -/
abbrev host4 : List (HloOp τ sig (Elt F)) :=
  [ StableHlo.TRef.unary (.of main_c_4 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S1x4096, .i32⟩) (broadcastInDim S1x4096 ![] bcast_S_S1x4096),
    StableHlo.TRef.binary (.of main_v63 : StableHlo.TRef sig ⟨S1x4096, .i32⟩) (.of main_call1_v3 : StableHlo.TRef sig ⟨S1x4096, .i32⟩) (.of main_call1_v4 : StableHlo.TRef sig ⟨S1x4096, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S1x4096, .i32⟩) (broadcastInDim S1x4096 ![] bcast_S_S1x4096),
    StableHlo.TRef.binary (.of main_call1_v4 : StableHlo.TRef sig ⟨S1x4096, .i32⟩) (.of main_call1_v5 : StableHlo.TRef sig ⟨S1x4096, .i32⟩) (.of main_call1_v6 : StableHlo.TRef sig ⟨S1x4096, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S1x4096, .i32⟩) (broadcastInDim S1x4096 ![] bcast_S_S1x4096),
    StableHlo.TRef.binary (.of main_call1_v4 : StableHlo.TRef sig ⟨S1x4096, .i32⟩) (.of main_call1_v7 : StableHlo.TRef sig ⟨S1x4096, .i32⟩) (.of main_call1_v8 : StableHlo.TRef sig ⟨S1x4096, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S1x4096, .i1⟩) (broadcastInDim S1x4096 ![] bcast_S_S1x4096),
    StableHlo.TRef.binary (.of main_call1_v8 : StableHlo.TRef sig ⟨S1x4096, .i1⟩) (.of main_call1_v10 : StableHlo.TRef sig ⟨S1x4096, .i1⟩) (.of main_call1_v11 : StableHlo.TRef sig ⟨S1x4096, .i1⟩) (cmpi .ne),
    StableHlo.TRef.binary (.of main_call1_v11 : StableHlo.TRef sig ⟨S1x4096, .i1⟩) (.of main_call1_v6 : StableHlo.TRef sig ⟨S1x4096, .i1⟩) (.of main_call1_v12 : StableHlo.TRef sig ⟨S1x4096, .i1⟩) andi,
    StableHlo.TRef.unary main_call1_call0.v0 (.of main_call1_v13 : StableHlo.TRef sig ⟨S1x4096, .i32⟩) (broadcastInDim S1x4096 ![] bcast_S_S1x4096),
    StableHlo.TRef.binary (.of main_call1_v4 : StableHlo.TRef sig ⟨S1x4096, .i32⟩) (.of main_call1_v13 : StableHlo.TRef sig ⟨S1x4096, .i32⟩) (.of main_call1_v14 : StableHlo.TRef sig ⟨S1x4096, .i32⟩) addi,
    StableHlo.TRef.ternary (.of main_call1_v12 : StableHlo.TRef sig ⟨S1x4096, .i1⟩) (.of main_call1_v14 : StableHlo.TRef sig ⟨S1x4096, .i32⟩) (.of main_call1_v4 : StableHlo.TRef sig ⟨S1x4096, .i32⟩) (.of main_v64 : StableHlo.TRef sig ⟨S1x4096, .i32⟩) select ]
theorem host4_sub : (host4 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- The place of each position in its block as a zero-one matrix. -/
abbrev host5 : List (HloOp τ sig (Elt F)) :=
  [ StableHlo.unary main_v55 main_v65 (broadcastInDim S64x1 ![0] bcast_S64_S64x1_0 : (⟨S64, .i32⟩ : BufTy).Contents (Elt F) → (⟨S64x1, .i32⟩ : BufTy).Contents (Elt F)),
    StableHlo.unary main_v64 main_v66 (broadcastInDim S64x4096 ![0, 1] bcast_S1x4096_S64x4096_0_1 : (⟨S1x4096, .i32⟩ : BufTy).Contents (Elt F) → (⟨S64x4096, .i32⟩ : BufTy).Contents (Elt F)),
    StableHlo.unary main_v65 main_v67 (broadcastInDim S64x4096 ![0, 1] bcast_S64x1_S64x4096_0_1 : (⟨S64x1, .i32⟩ : BufTy).Contents (Elt F) → (⟨S64x4096, .i32⟩ : BufTy).Contents (Elt F)),
    StableHlo.binary main_v66 main_v67 main_v68 (cmpi .eq : (⟨S64x4096, .i32⟩ : BufTy).Contents (Elt F) → (⟨S64x4096, .i32⟩ : BufTy).Contents (Elt F) → (⟨S64x4096, .i1⟩ : BufTy).Contents (Elt F)),
    StableHlo.unary main_v68 main_v69 (uitofp .f32 : (⟨S64x4096, .i1⟩ : BufTy).Contents (Elt F) → (⟨S64x4096, .f32⟩ : BufTy).Contents (Elt F)) ]
theorem host5_sub : (host5 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub ..⟩

/-- Between the second and the third kernel. -/
abbrev host6 : List (HloOp τ sig (Elt F)) :=
  [ StableHlo.reshape main_v70_2 main_v72 (rfl : (.f32 : EltTy) = .f32) shapeCasts_S4x4096x64_S16384x64 ]
theorem host6_sub : (host6 : List (HloOp τ sig (Elt F))).Forall fun op => op.bufs ⊆ StableHlo.tcRefs τ sig :=
  StableHlo.reshape_bufs_sub ..

/-- Between the third and the fourth kernel. -/
abbrev host7 : List (HloOp τ sig (Elt F)) :=
  [ StableHlo.reshape main_v73 main_v74 (rfl : (.f32 : EltTy) = .f32) shapeCasts_S12x262144_S12x4096x64,
    StableHlo.unary main_arg4 main_v75 ((truncf .bf16 · bitsLt_bf16_f32) : (⟨S768x768, .f32⟩ : BufTy).Contents (Elt F) → (⟨S768x768, .bf16⟩ : BufTy).Contents (Elt F)) ]
theorem host7_sub : (host7 : List (HloOp τ sig (Elt F))).Forall fun op => op.bufs ⊆ StableHlo.tcRefs τ sig :=
  ⟨StableHlo.reshape_bufs_sub .., StableHlo.unary_bufs_sub ..⟩

/-- After the last kernel. -/
abbrev host8 : List (HloOp τ sig (Elt F)) :=
  [ StableHlo.unary main_v76 main_v77 (broadcastInDim S1x4096x768 ![1, 2] bcast_S4096x768_S1x4096x768_1_2 : (⟨S4096x768, .f32⟩ : BufTy).Contents (Elt F) → (⟨S1x4096x768, .f32⟩ : BufTy).Contents (Elt F)) ]
theorem host8_sub : (host8 : List (HloOp τ sig (Elt F))).Forall fun op => op.bufs ⊆ StableHlo.tcRefs τ sig :=
  StableHlo.unary_bufs_sub ..

/-! ## What each stretch writes: nothing that is an argument array -/

theorem host0_fresh : (host0 : List (HloOp τ sig (Elt F))).Forall fun op => op.fresh = ∅ := by
  simp only [List.Forall]; repeat' constructor
abbrev host0_W : List (Ref sig .tc) := [main_v0, main_v1, main_cst, main_v2, main_v3, main_cst_0, main_v4, main_v5, main_cst_1, main_v6, main_v7, main_cst_2, main_v8, main_v9, main_cst_3, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]
theorem host0_writes : (host0 : List (HloOp τ sig (Elt F))).Forall fun op => op.writes ⊆ (host0_W.map (Proc.devRef (τ := τ) .tc)).toFinset :=
  StableHlo.forall_writes_sub_of_map rfl
theorem host0_args : ∀ a ∈ argRefs, a ∉ host0_W := ListAll.forall_mem_of_all_decide (by decide +kernel)

theorem host1_fresh : (host1 : List (HloOp τ sig (Elt F))).Forall fun op => op.fresh = ∅ := by
  simp only [List.Forall]; repeat' constructor
abbrev host1_W : List (Ref sig .tc) := [main_v55, main_v56, main_c]
theorem host1_writes : (host1 : List (HloOp τ sig (Elt F))).Forall fun op => op.writes ⊆ (host1_W.map (Proc.devRef (τ := τ) .tc)).toFinset :=
  StableHlo.forall_writes_sub_of_map rfl
theorem host1_args : ∀ a ∈ argRefs, a ∉ host1_W := ListAll.forall_mem_of_all_decide (by decide +kernel)

theorem host2_fresh : (host2 : List (HloOp τ sig (Elt F))).Forall fun op => op.fresh = ∅ := by
  simp only [List.Forall]; repeat' constructor
abbrev host2_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v57]
theorem host2_writes : (host2 : List (HloOp τ sig (Elt F))).Forall fun op => op.writes ⊆ (host2_W.map (Proc.devRef (τ := τ) .tc)).toFinset :=
  StableHlo.forall_writes_sub_of_map rfl
theorem host2_args : ∀ a ∈ argRefs, a ∉ host2_W := ListAll.forall_mem_of_all_decide (by decide +kernel)

theorem host3_fresh : (host3 : List (HloOp τ sig (Elt F))).Forall fun op => op.fresh = ∅ := by
  simp only [List.Forall]; repeat' constructor
abbrev host3_W : List (Ref sig .tc) := [main_v58, main_v59, main_v60, main_v61, main_v62, main_v63, main_c_4]
theorem host3_writes : (host3 : List (HloOp τ sig (Elt F))).Forall fun op => op.writes ⊆ (host3_W.map (Proc.devRef (τ := τ) .tc)).toFinset :=
  StableHlo.forall_writes_sub_of_map rfl
theorem host3_args : ∀ a ∈ argRefs, a ∉ host3_W := ListAll.forall_mem_of_all_decide (by decide +kernel)

theorem host4_fresh : (host4 : List (HloOp τ sig (Elt F))).Forall fun op => op.fresh = ∅ := by
  simp only [List.Forall]; repeat' constructor
abbrev host4_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v64]
theorem host4_writes : (host4 : List (HloOp τ sig (Elt F))).Forall fun op => op.writes ⊆ (host4_W.map (Proc.devRef (τ := τ) .tc)).toFinset :=
  StableHlo.forall_writes_sub_of_map rfl
theorem host4_args : ∀ a ∈ argRefs, a ∉ host4_W := ListAll.forall_mem_of_all_decide (by decide +kernel)

theorem host5_fresh : (host5 : List (HloOp τ sig (Elt F))).Forall fun op => op.fresh = ∅ := by
  simp only [List.Forall]; repeat' constructor
abbrev host5_W : List (Ref sig .tc) := [main_v65, main_v66, main_v67, main_v68, main_v69]
theorem host5_writes : (host5 : List (HloOp τ sig (Elt F))).Forall fun op => op.writes ⊆ (host5_W.map (Proc.devRef (τ := τ) .tc)).toFinset :=
  StableHlo.forall_writes_sub_of_map rfl
theorem host5_args : ∀ a ∈ argRefs, a ∉ host5_W := ListAll.forall_mem_of_all_decide (by decide +kernel)

theorem host6_fresh : (host6 : List (HloOp τ sig (Elt F))).Forall fun op => op.fresh = ∅ := by
  simp only [List.Forall]; repeat' constructor
abbrev host6_W : List (Ref sig .tc) := [main_v72]
theorem host6_writes : (host6 : List (HloOp τ sig (Elt F))).Forall fun op => op.writes ⊆ (host6_W.map (Proc.devRef (τ := τ) .tc)).toFinset :=
  StableHlo.forall_writes_sub_of_map rfl
theorem host6_args : ∀ a ∈ argRefs, a ∉ host6_W := ListAll.forall_mem_of_all_decide (by decide +kernel)

theorem host7_fresh : (host7 : List (HloOp τ sig (Elt F))).Forall fun op => op.fresh = ∅ := by
  simp only [List.Forall]; repeat' constructor
abbrev host7_W : List (Ref sig .tc) := [main_v74, main_v75]
theorem host7_writes : (host7 : List (HloOp τ sig (Elt F))).Forall fun op => op.writes ⊆ (host7_W.map (Proc.devRef (τ := τ) .tc)).toFinset :=
  StableHlo.forall_writes_sub_of_map rfl
theorem host7_args : ∀ a ∈ argRefs, a ∉ host7_W := ListAll.forall_mem_of_all_decide (by decide +kernel)

theorem host8_fresh : (host8 : List (HloOp τ sig (Elt F))).Forall fun op => op.fresh = ∅ := by
  simp only [List.Forall]; repeat' constructor
abbrev host8_W : List (Ref sig .tc) := [main_v77]
theorem host8_writes : (host8 : List (HloOp τ sig (Elt F))).Forall fun op => op.writes ⊆ (host8_W.map (Proc.devRef (τ := τ) .tc)).toFinset :=
  StableHlo.forall_writes_sub_of_map rfl
theorem host8_args : ∀ a ∈ argRefs, a ∉ host8_W := ListAll.forall_mem_of_all_decide (by decide +kernel)

/-! ## @main as the stretches and the calls between them -/

theorem part0_chain (d : Dev nD) : main_part0 (F := F) d = (Pipeline.chainK
  [ ]
  (StableHlo.seq host0) : Prog (TpuEff nD τ sig (Elt F) (SparseCore.Sig (ΛP (F := F)) 1) .tc) PUnit) := by
  chain_rfl

theorem part1_chain (d : Dev nD) : main_part1 (F := F) d = (Pipeline.chain
  [ StableHlo.seq host1,
    StableHlo.seq host2,
    StableHlo.seq host3,
    StableHlo.seq host4,
    StableHlo.seq host5,
    Prog.lift (.customCall (SparseCore.inner (Pipeline.entry 0)) ()),
    Prog.lift (.customCall (SparseCore.inner (Pipeline.entry 1)) ()),
    StableHlo.seq host6,
    (K (F := F)).run d 0,
    StableHlo.seq host7,
    Prog.lift (.customCall (SparseCore.inner (Pipeline.entry 2)) ()),
    StableHlo.seq host8 ] : Prog (TpuEff nD τ sig (Elt F) (SparseCore.Sig (ΛP (F := F)) 1) .tc) PUnit) := by
  rewrite [StableHlo.chain_seq_cons, Pipeline.chain_cons, StableHlo.chain_seq_cons, Pipeline.chain_cons, StableHlo.chain_seq_cons, Pipeline.chain_cons, Pipeline.chain_cons,
    StableHlo.chain_seq_cons, Pipeline.chain_cons, StableHlo.chain_seq_cons, Pipeline.chain_cons, StableHlo.chain_seq_cons]
  chain_rfl

theorem main_chain (d : Dev nD) : main (F := F) d = (Pipeline.chain
  [ StableHlo.seq host0,
    StableHlo.seq host1,
    StableHlo.seq host2,
    StableHlo.seq host3,
    StableHlo.seq host4,
    StableHlo.seq host5,
    Prog.lift (.customCall (SparseCore.inner (Pipeline.entry 0)) ()),
    Prog.lift (.customCall (SparseCore.inner (Pipeline.entry 1)) ()),
    StableHlo.seq host6,
    (K (F := F)).run d 0,
    StableHlo.seq host7,
    Prog.lift (.customCall (SparseCore.inner (Pipeline.entry 2)) ()),
    StableHlo.seq host8 ] : Prog (TpuEff nD τ sig (Elt F) (SparseCore.Sig (ΛP (F := F)) 1) .tc) PUnit) := by
  show (main_part0 (F := F) d >>= fun _ => main_part1 (F := F) d) = _
  rewrite [part1_chain, part0_chain, Pipeline.chainK_bind_chain]
  chain_rfl

end Cert.KernelIdeal.Whole

end
-- ==== Proof.KernelIdealTile.lean ====
/-
  The SparseCore call of `kernel`, as far as its effect on memory goes: the body a vector subcore runs, at symbolic
  SparseCore and tile. For each of the 12 heads it forms the output rows of its 128 tokens in its out scratch (every
  indexed load and store is checked, and the checks pass: the indices are trip counts and lanes) and copies the
  scratch to the head's slice of the output array, 8192 words at word `8192 * worker`. What the scratch holds is not
  stated: the kernel reads scratch it never wrote.
-/
module

public import proofs.«01_k».proof.Proof.KernelIdealTc

@[expose] public section

set_option maxRecDepth 16384

noncomputable section

namespace Cert.KernelIdeal.Whole

open Cert.KernelIdeal Cert.KernelIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The words: trip counts and lanes -/

theorem arg24_lt (t : Fin k2_t3_loop.trips) : (Scf.iv 0#32 1#32 t.val : BitVec 32).toNat < 128 := by
  have h := Nat.lt_of_lt_of_le t.isLt k2_t3_abs.2.1
  unfold Scf.iv
  simp only [BitVec.zero_add, BitVec.mul_one, BitVec.toNat_ofNat]
  omega

theorem addi_lt {c a : BitVec 32} {n k : ℕ} (hc : c.toNat ≤ n) (ha : a.toNat < k) (hn : n + k ≤ 2 ^ 32) : (c + a).toNat < n + k := by
  rw [BitVec.toNat_add]
  exact lt_of_le_of_lt (Nat.mod_le _ _) (by omega)

/-- The row a lane loads is below 1024. -/
theorem row_lt (c : BitVec 32) {a : BitVec 32} (hc : c.toNat ≤ 896) (ha : a.toNat < 128) (x : S16.Idx) :
    (broadcast S16 (Scalar.addi c a) x : BitVec 32).toNat < 1024 :=
  addi_lt hc ha (by omega)

/-- Lane `x` of `c + lanes` is below 64. -/
theorem lane_lt (c : BitVec 32) (hc : c.toNat ≤ 48) (x : S16.Idx) : (c + BitVec.ofNat 32 (0 * 16 + (x 0).val)).toNat < 64 := by
  have hx : (x 0).val < 16 := (x 0).isLt
  refine addi_lt (n := 48) (k := 16) hc ?_ (by omega)
  rw [BitVec.toNat_ofNat]; omega

theorem pay1_lt (x : S16.Idx) : (k2_pay1 x).toNat < 64 := lane_lt 0#32 (by decide) x
theorem pay2_lt (x : S16.Idx) : (k2_pay2 x).toNat < 64 := lane_lt 16#32 (by decide) x
theorem pay3_lt (x : S16.Idx) : (k2_pay3 x).toNat < 64 := lane_lt 32#32 (by decide) x
theorem pay4_lt (x : S16.Idx) : (k2_pay4 x).toNat < 64 := lane_lt 48#32 (by decide) x

/-- The word a lane stores to is below 8192. -/
theorem out_lt {v : IVec S16 32} {a : BitVec 32} (hv : ∀ x, (v x).toNat < 64) (ha : a.toNat < 128) (x : S16.Idx) :
    (a * 64#32 + v x).toNat < 8192 := by
  refine addi_lt (n := 8128) (k := 64) ?_ (hv x) (by omega)
  rw [BitVec.toNat_mul, show (64#32 : BitVec 32).toNat = 64 from rfl]
  exact (Nat.mod_le _ _).trans (by omega)

theorem chk9_of {a : BitVec 32} (ha : a.toNat < 128) : k2_chk9 (k2_pay9 k2_pay1 a) := fun d x => by
  obtain rfl : d = 0 := Subsingleton.elim _ _
  exact out_lt pay1_lt ha x
theorem chk10_of {a : BitVec 32} (ha : a.toNat < 128) : k2_chk10 (k2_pay10 k2_pay2 a) := fun d x => by
  obtain rfl : d = 0 := Subsingleton.elim _ _
  exact out_lt pay2_lt ha x
theorem chk11_of {a : BitVec 32} (ha : a.toNat < 128) : k2_chk11 (k2_pay11 k2_pay3 a) := fun d x => by
  obtain rfl : d = 0 := Subsingleton.elim _ _
  exact out_lt pay3_lt ha x
theorem chk12_of {a : BitVec 32} (ha : a.toNat < 128) : k2_chk12 (k2_pay12 k2_pay4 a) := fun d x => by
  obtain rfl : d = 0 := Subsingleton.elim _ _
  exact out_lt pay4_lt ha x

theorem pair_lt {v w : IVec S16 32} (hv : ∀ x, (v x).toNat < 1024) (hw : ∀ x, (w x).toNat < 64) :
    ∀ a x, ((![v, w] : Fin 2 → IVec S16 32) a x).toNat < S1024x64.size a := fun a x => by
  obtain ⟨a, ha⟩ := a
  match a, ha with
  | 0, _ => exact hv x
  | 1, _ => exact hw x

/-- The check before the loads of one row of each head dimension block: all eight are this one. -/
theorem chk1_of {v : IVec S16 32} (hv : ∀ x, (v x).toNat < 1024) : k2_chk1 k2_pay1 k2_pay2 k2_pay3 k2_pay4 v :=
  ⟨fun a x => by obtain rfl : a = 0 := Subsingleton.elim _ _
                 exact hv x,
    pair_lt hv pay1_lt, pair_lt hv pay2_lt, pair_lt hv pay3_lt, pair_lt hv pay4_lt⟩

/-! ## One indexed load or store, one check -/

section Tile

variable (d : Dev nD) (i : grid2.Coords)

/-- The vector subcore at grid coordinates `i`. -/
abbrev tV : Thread nD τ := V d ((i 0).castLE hcore2) ((i 1).castLE hsub2)

abbrev a18 : Memref sig .scVector .vmem S1024 .f32 := Memref.whole cc2_scratch10
abbrev a19 : Memref sig .scVector .vmem S1024x64 .f32 := Memref.whole cc2_scratch11
abbrev a20 : Memref sig .scVector .vmem S8192 .f32 := Memref.whole cc2_scratch12

/-- The three scratch buffers the rows loop reads and writes, whole, at some contents. -/
def s18 : sProp 𝕄 := iprop(∃ f, (tV d i).loc cc2_scratch10 ↦{fullShare} f)
def s19 : sProp 𝕄 := iprop(∃ f, (tV d i).loc cc2_scratch11 ↦{fullShare} f)
def s20 : sProp 𝕄 := iprop(∃ f, (tV d i).loc cc2_scratch12 ↦{fullShare} f)

variable {d i}

abbrev wpV {α : Type} (p : Prog (TpuEff nD τ sig (Elt F) Λ₀ (.scVector ((i 0).castLE hcore2) ((i 1).castLE hsub2))) α) (Q : α → sProp 𝕄) : sProp 𝕄 :=
  wp frame (wpE (defs₀ (F := F)) 𝒱₀ (tV d i) none) Set.univ p Q

theorem wp_ld18 {α : Type} {t : Shape} {idxs : Fin S1024.rank → IVec t 32} {h : ∀ a x, (idxs a x).toNat < S1024.size a} {hl : a18.view.Loads}
    {k : Vec F t .f32 → Prog (TpuEff nD τ sig (Elt F) Λ₀ (.scVector ((i 0).castLE hcore2) ((i 1).castLE hsub2))) α} {Q : α → sProp 𝕄} :
    s18 (F := F) d i ⊢ iprop((∀ v, s18 (F := F) d i -∗ wpV (d := d) (k v) Q) -∗ wpV (d := d) (SparseCore.vectorLoadIdx a18 idxs h hl >>= k) Q) := by
  unfold s18 wpV
  iintro ⟨%f, H⟩ Hk
  iapply (SparseCore.wp_vectorLoadIdx 𝒱₀ (tV d i) none Set.univ (base := a18) (S := Finset.univ) (q := fullShare) (Finset.subset_univ _)) $$ H
  iintro H
  iapply Hk
  iexists f; iexact H

theorem wp_ld19 {α : Type} {t : Shape} {idxs : Fin S1024x64.rank → IVec t 32} {h : ∀ a x, (idxs a x).toNat < S1024x64.size a} {hl : a19.view.Loads}
    {k : Vec F t .f32 → Prog (TpuEff nD τ sig (Elt F) Λ₀ (.scVector ((i 0).castLE hcore2) ((i 1).castLE hsub2))) α} {Q : α → sProp 𝕄} :
    s19 (F := F) d i ⊢ iprop((∀ v, s19 (F := F) d i -∗ wpV (d := d) (k v) Q) -∗ wpV (d := d) (SparseCore.vectorLoadIdx a19 idxs h hl >>= k) Q) := by
  unfold s19 wpV
  iintro ⟨%f, H⟩ Hk
  iapply (SparseCore.wp_vectorLoadIdx 𝒱₀ (tV d i) none Set.univ (base := a19) (S := Finset.univ) (q := fullShare) (Finset.subset_univ _)) $$ H
  iintro H
  iapply Hk
  iexists f; iexact H

omit [FloatOps F] in
theorem pts_a20 (f : Buf (Elt F) ((tV d i).loc cc2_scratch12)) :
    ((a20.access (.whole S8192)).loc (tV d i) ↦[(a20.access (.whole S8192)).set]{fullShare} f : sProp 𝕄)
      = (tV d i).loc cc2_scratch12 ↦{fullShare} f := by
  rw [show (a20.access (.whole S8192)).set = Finset.univ from Memref.set_access_whole (cc2_scratch12 : Ref sig .scVector)]

theorem wp_st20 {α : Type} {idxs : Fin S8192.rank → IVec S16 32} {v : Vec F S16 .f32} {mask : IVec S16 1} {add : Bool}
    {h : ∀ a x, (idxs a x).toNat < S8192.size a} {hs : (a20.access (.whole S8192)).Stores Finset.univ}
    {k : PUnit → Prog (TpuEff nD τ sig (Elt F) Λ₀ (.scVector ((i 0).castLE hcore2) ((i 1).castLE hsub2))) α} {Q : α → sProp 𝕄} :
    s20 (F := F) d i ⊢ iprop((s20 (F := F) d i -∗ wpV (d := d) (k ⟨⟩) Q) -∗ wpV (d := d) (SparseCore.vectorStoreIdx a20 idxs v mask add h hs >>= k) Q) := by
  unfold s20 wpV
  iintro ⟨%f, H⟩ Hk
  ihave H' := (Entails.of_eq (pts_a20 (F := F) f).symm) $$ H
  iapply (SparseCore.wp_vectorStoreIdx 𝒱₀ (tV d i) none Set.univ (base := a20)) $$ H'
  iintro H
  iapply Hk
  iexists _
  iapply (Entails.of_eq (pts_a20 (F := F) (d := d) (i := i) _))
  iexact H

theorem wp_chk {α : Type} {P : Prop} {dec : Decidable P} (h : P)
    {k : PLift P → Prog (TpuEff nD τ sig (Elt F) Λ₀ (.scVector ((i 0).castLE hcore2) ((i 1).castLE hsub2))) α} {Q : α → sProp 𝕄} :
    wpV (d := d) (k ⟨h⟩) Q ⊢ wpV (d := d) (Prog.lift (TpuEff.assume P dec) >>= k) Q :=
  wp_assume 𝒱₀ (tV d i) none Set.univ h

/-- A program and what follows it, the second's other resources carried across the first. -/
theorem wp_then {α β : Type} {p : Prog (TpuEff nD τ sig (Elt F) Λ₀ (.scVector ((i 0).castLE hcore2) ((i 1).castLE hsub2))) β}
    {k : β → Prog (TpuEff nD τ sig (Elt F) Λ₀ (.scVector ((i 0).castLE hcore2) ((i 1).castLE hsub2))) α} {R : β → sProp 𝕄} {Q : α → sProp 𝕄} {A B : sProp 𝕄}
    (hp : A ⊢ wpV (d := d) p R) (hk : ∀ x, iprop(R x ∗ B) ⊢ wpV (d := d) (k x) Q) : iprop(A ∗ B) ⊢ wpV (d := d) (p >>= k) Q := by
  unfold wpV at *
  rw [wp_bind]
  exact ((sep_mono_left hp).trans (wp_frame_r _ _ _)).trans (wp_mono _ _ _ hk)

/-! ## A row -/

/-- The first three rows a lane sums: one check and five loads each. -/
theorem part1_wp (t : Fin k2_t3_loop.trips) :
    iprop(s18 (F := F) d i ∗ s19 (F := F) d i)
      ⊢ wpV (d := d) (k2_part1 (F := F) i (Memref.whole main_v71_0_scv) (Memref.isWhole_whole _) (Memref.whole main_v71_1_scv) (Memref.isWhole_whole _) (Memref.whole main_v71_2_scv) (Memref.isWhole_whole _) (Memref.whole main_v71_3_scv) (Memref.isWhole_whole _) (Memref.whole main_v72_scv) (Memref.isWhole_whole _) (Memref.whole main_v73_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) (Memref.whole cc2_scratch12) (Memref.isWhole_whole _) cc2_scratch13 cc2_scoped0 k2_pay1 k2_pay2 k2_pay3 k2_pay4 0#32 1#32 t)
          fun r => iprop(⌜r.1 = Scf.iv 0#32 1#32 t.val⌝ ∗ s18 (F := F) d i ∗ s19 (F := F) d i) := by
  have ha := arg24_lt t
  rw [k2_part1_eq_skeleton]; unfold k2_part1_skel
  iintro ⟨H18, H19⟩
  iapply (wp_chk (F := F) (chk1_of (row_lt 0#32 (by decide) ha)))
  iapply (wp_ld18 (F := F)) $$ H18; iintro %_ H18
  iapply (wp_ld19 (F := F)) $$ H19; iintro %_ H19
  iapply (wp_ld19 (F := F)) $$ H19; iintro %_ H19
  iapply (wp_ld19 (F := F)) $$ H19; iintro %_ H19
  iapply (wp_ld19 (F := F)) $$ H19; iintro %_ H19
  iapply (wp_chk (F := F) (chk1_of (row_lt 128#32 (by decide) ha)))
  iapply (wp_ld18 (F := F)) $$ H18; iintro %_ H18
  iapply (wp_ld19 (F := F)) $$ H19; iintro %_ H19
  iapply (wp_ld19 (F := F)) $$ H19; iintro %_ H19
  iapply (wp_ld19 (F := F)) $$ H19; iintro %_ H19
  iapply (wp_ld19 (F := F)) $$ H19; iintro %_ H19
  iapply (wp_chk (F := F) (chk1_of (row_lt 256#32 (by decide) ha)))
  iapply (wp_ld18 (F := F)) $$ H18; iintro %_ H18
  iapply (wp_ld19 (F := F)) $$ H19; iintro %_ H19
  iapply (wp_ld19 (F := F)) $$ H19; iintro %_ H19
  iapply (wp_ld19 (F := F)) $$ H19; iintro %_ H19
  iapply (wp_ld19 (F := F)) $$ H19; iintro %_ H19
  unfold wpV
  rw [wp_pure]; imodintro
  isplitr; · ipureintro; rfl
  isplitl [H18]; · iexact H18
  iexact H19

/-- The next four rows, the last one's last two loads aside. -/
theorem part2_wp (a : BitVec 32) (ha : a.toNat < 128) (v79 v82 v85 v88 : FVec F S16 .f32) :
    iprop(s18 (F := F) d i ∗ s19 (F := F) d i)
      ⊢ wpV (d := d) (k2_part2 (F := F) i (Memref.whole main_v71_0_scv) (Memref.isWhole_whole _) (Memref.whole main_v71_1_scv) (Memref.isWhole_whole _) (Memref.whole main_v71_2_scv) (Memref.isWhole_whole _) (Memref.whole main_v71_3_scv) (Memref.isWhole_whole _) (Memref.whole main_v72_scv) (Memref.isWhole_whole _) (Memref.whole main_v73_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) (Memref.whole cc2_scratch12) (Memref.isWhole_whole _) cc2_scratch13 cc2_scoped0 k2_pay1 k2_pay2 k2_pay3 k2_pay4 a v79 v82 v85 v88)
          fun _ => iprop(s18 (F := F) d i ∗ s19 (F := F) d i) := by
  rw [k2_part2_eq_skeleton]; unfold k2_part2_skel
  iintro ⟨H18, H19⟩
  iapply (wp_chk (F := F) (chk1_of (row_lt 384#32 (by decide) ha)))
  iapply (wp_ld18 (F := F)) $$ H18; iintro %_ H18
  iapply (wp_ld19 (F := F)) $$ H19; iintro %_ H19
  iapply (wp_ld19 (F := F)) $$ H19; iintro %_ H19
  iapply (wp_ld19 (F := F)) $$ H19; iintro %_ H19
  iapply (wp_ld19 (F := F)) $$ H19; iintro %_ H19
  iapply (wp_chk (F := F) (chk1_of (row_lt 512#32 (by decide) ha)))
  iapply (wp_ld18 (F := F)) $$ H18; iintro %_ H18
  iapply (wp_ld19 (F := F)) $$ H19; iintro %_ H19
  iapply (wp_ld19 (F := F)) $$ H19; iintro %_ H19
  iapply (wp_ld19 (F := F)) $$ H19; iintro %_ H19
  iapply (wp_ld19 (F := F)) $$ H19; iintro %_ H19
  iapply (wp_chk (F := F) (chk1_of (row_lt 640#32 (by decide) ha)))
  iapply (wp_ld18 (F := F)) $$ H18; iintro %_ H18
  iapply (wp_ld19 (F := F)) $$ H19; iintro %_ H19
  iapply (wp_ld19 (F := F)) $$ H19; iintro %_ H19
  iapply (wp_ld19 (F := F)) $$ H19; iintro %_ H19
  iapply (wp_ld19 (F := F)) $$ H19; iintro %_ H19
  iapply (wp_chk (F := F) (chk1_of (row_lt 768#32 (by decide) ha)))
  iapply (wp_ld18 (F := F)) $$ H18; iintro %_ H18
  iapply (wp_ld19 (F := F)) $$ H19; iintro %_ H19
  iapply (wp_ld19 (F := F)) $$ H19; iintro %_ H19
  unfold wpV
  rw [wp_pure]; imodintro
  isplitl [H18]; · iexact H18
  iexact H19

/-- One token's output row: the eight rows summed, the four blocks of sixteen lanes stored. -/
theorem t3_wp (t : Fin k2_t3_loop.trips) (acc : BitVec 32) :
    iprop(s18 (F := F) d i ∗ s19 (F := F) d i ∗ s20 (F := F) d i)
      ⊢ wpV (d := d) (k2_t3_body (F := F) i (Memref.whole main_v71_0_scv) (Memref.isWhole_whole _) (Memref.whole main_v71_1_scv) (Memref.isWhole_whole _) (Memref.whole main_v71_2_scv) (Memref.isWhole_whole _) (Memref.whole main_v71_3_scv) (Memref.isWhole_whole _) (Memref.whole main_v72_scv) (Memref.isWhole_whole _) (Memref.whole main_v73_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) (Memref.whole cc2_scratch12) (Memref.isWhole_whole _) cc2_scratch13 cc2_scoped0 k2_pay1 k2_pay2 k2_pay3 k2_pay4 t acc)
          fun _ => iprop(s18 (F := F) d i ∗ s19 (F := F) d i ∗ s20 (F := F) d i) := by
  have ha := arg24_lt t
  unfold k2_t3_body
  refine sep_assoc.2.trans (wp_then (part1_wp (F := F) t) ?_)
  rintro ⟨a, v79, v82, v85, v88⟩
  dsimp only
  iintro ⟨⟨%hr, H18, H19⟩, H20⟩
  subst hr
  iapply (wp_then (B := s20 (F := F) d i) (part2_wp (F := F) (d := d) (i := i) _ ha v79 v82 v85 v88) ?hk) $$ [H18 H19 H20]
  rotate_left
  · isplitl [H18 H19]
    · isplitl [H18] <;> iassumption
    · iexact H20
  rintro ⟨v127, v130, v133, v135, hw7, v136, v139, v140⟩
  dsimp only
  iintro ⟨⟨H18, H19⟩, H20⟩
  iapply (wp_ld19 (F := F)) $$ H19; iintro %_ H19
  iapply (wp_ld19 (F := F)) $$ H19; iintro %_ H19
  iapply (wp_chk (F := F) (chk1_of (row_lt 896#32 (by decide) ha)))
  iapply (wp_ld18 (F := F)) $$ H18; iintro %_ H18
  iapply (wp_ld19 (F := F)) $$ H19; iintro %_ H19
  iapply (wp_ld19 (F := F)) $$ H19; iintro %_ H19
  iapply (wp_ld19 (F := F)) $$ H19; iintro %_ H19
  iapply (wp_ld19 (F := F)) $$ H19; iintro %_ H19
  iapply (wp_chk (F := F) (chk9_of ha))
  iapply (wp_st20 (F := F)) $$ H20; iintro H20
  iapply (wp_chk (F := F) (chk10_of ha))
  iapply (wp_st20 (F := F)) $$ H20; iintro H20
  iapply (wp_chk (F := F) (chk11_of ha))
  iapply (wp_st20 (F := F)) $$ H20; iintro H20
  iapply (wp_chk (F := F) (chk12_of ha))
  iapply (wp_st20 (F := F)) $$ H20; iintro H20
  unfold wpV
  rw [wp_pure]; imodintro
  isplitl [H18]; · iexact H18
  isplitl [H19]; · iexact H19
  iexact H20

/-! ## A head -/

abbrev a7 : Memref sig .scVector .hbm S12x262144 .f32 := Memref.whole main_v73_scv

/-- Head `t`'s slice of the output array, as the subcore at `i` addresses it. -/
abbrev oM (i : grid2.Coords) (t : Fin k2_t1_loop.trips) : Memref sig .scVector .hbm S8192 .f32 :=
  ((a7 : Memref sig .scVector .hbm S12x262144 .f32).slice (Rect.unit (s := S12x262144) (k2_off1 i t) S1x8192.size (k2_off1_inb i t)) (fun _ => rfl)).squeeze S8192 squeezes_S1x8192_S8192

/-- That slice, at some contents. -/
def slP (d : Dev nD) (i : grid2.Coords) (t : Fin k2_t1_loop.trips) : sProp 𝕄 :=
  iprop(∃ f, (oM i t).view.loc (tV d i) ↦[(oM i t).view.set]{fullShare} f)

/-- The subcore's own copy semaphore. -/
abbrev cSem (d : Dev nD) (i : grid2.Coords) : GSem nD τ sig := (tV d i, SemLoc.dma cc2_scoped0.sem)

/-- What one head needs and gives back: the three scratch buffers, the copy semaphore at zero, the debts the subcore
    came with and waits recorded beyond `W` at the local index only. -/
def headR (d : Dev nD) (i : grid2.Coords) (O : CellTallies nD τ sig (HIx 1)) (W : Waits sig (HIx 1)) : sProp 𝕄 :=
  iprop(Transfers.MayWaits (tV d i) (none : HIx 1) O ∗ (s18 (F := F) d i ∗ s19 (F := F) d i ∗ s20 (F := F) d i)
    ∗ semVal (cSem d i) 0 ∗ ∃ W', ⌜∀ p ∈ W', p ∈ W ∨ p.2 = none⌝ ∗ owes (tV d i) O W')

theorem t1_wp (O : CellTallies nD τ sig (HIx 1)) (W : Waits sig (HIx 1)) (t : Fin k2_t1_loop.trips) (acc : BitVec 32) :
    iprop(headR (F := F) d i O W ∗ slP (F := F) d i t)
      ⊢ wpV (d := d) (k2_t1_body (F := F) i (Memref.whole main_v71_0_scv) (Memref.isWhole_whole _) (Memref.whole main_v71_1_scv) (Memref.isWhole_whole _) (Memref.whole main_v71_2_scv) (Memref.isWhole_whole _) (Memref.whole main_v71_3_scv) (Memref.isWhole_whole _) (Memref.whole main_v72_scv) (Memref.isWhole_whole _) (Memref.whole main_v73_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) (Memref.whole cc2_scratch12) (Memref.isWhole_whole _) cc2_scratch13 cc2_scoped0 k2_pay1 k2_pay2 k2_pay3 k2_pay4 t acc)
          fun _ => iprop(headR (F := F) d i O W ∗ slP (F := F) d i t) := by
  unfold k2_t1_body wpV headR
  iintro ⟨⟨Hmw, Hs, Hsem, %W', %hW', HO⟩, Ho⟩
  iapply (Scf.wp_for_bind frame (wpE (defs₀ (F := F)) 𝒱₀ (tV d i) none) Set.univ _ _ _ _ _ _ (fun _ _ => (iprop(emp) : sProp 𝕄))
    (fun k acc => by unfold k2_t2_body; rw [wp_pure]; iintro H; imodintro; iexact H)) $$ []
  · iempintro
  iintro %_ -
  iapply (Scf.wp_for_bind frame (wpE (defs₀ (F := F)) 𝒱₀ (tV d i) none) Set.univ _ _ _ _ _ _
    (fun _ _ => iprop(s18 (F := F) d i ∗ s19 (F := F) d i ∗ s20 (F := F) d i)) (fun k acc => t3_wp k acc)) $$ Hs
  iintro %_ ⟨H18, H19, H20⟩
  unfold s20 slP
  icases H20 with ⟨%f, H20⟩
  icases Ho with ⟨%g, Ho⟩
  ihave H20' := (Entails.of_eq (show ((tV d i).loc cc2_scratch12 ↦{fullShare} f : sProp 𝕄) = ((Memref.whole cc2_scratch12 : Memref sig .scVector .vmem S8192 .f32).view.loc (tV d i) ↦{fullShare} f) from rfl)) $$ H20
  sl_exec (disch := exact View.amount_pos _ _ (show 0 < S8192.numel by decide))
  sl_step
  isplitr [Ho]
  · isplitl [Hmw]; · iexact Hmw
    isplitl [H18 H19 H20']
    · isplitl [H18]; · iexact H18
      isplitl [H19]; · iexact H19
      iexists _; iexact H20'
    isplitl [Hsem]; · iexact Hsem
    iexists (insert (SemLoc.dma cc2_scoped0.sem, (default : HIx 1)) W'); isplitr
    · ipureintro; intro p hp
      rcases Finset.mem_insert.mp hp with hp | hp
      · exact .inr (hp ▸ rfl)
      · exact hW' p hp
    · iexact HO
  · iexists _; iexact Ho

/-! ## The task -/

/-- The heads loop keeps the subcore's scratch, its semaphore and every head's slice. -/
theorem body_wp (O : CellTallies nD τ sig (HIx 1)) (W : Waits sig (HIx 1)) :
    iprop(headR (F := F) d i O W ∗ bigSep Finset.univ fun t => slP (F := F) d i t)
      ⊢ wpV (d := d) (cc2_body (F := F) i (Memref.whole main_v71_0_scv) (Memref.isWhole_whole _) (Memref.whole main_v71_1_scv) (Memref.isWhole_whole _) (Memref.whole main_v71_2_scv) (Memref.isWhole_whole _) (Memref.whole main_v71_3_scv) (Memref.isWhole_whole _) (Memref.whole main_v72_scv) (Memref.isWhole_whole _) (Memref.whole main_v73_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) (Memref.whole cc2_scratch12) (Memref.isWhole_whole _) cc2_scratch13 cc2_scoped0)
          fun _ => iprop(headR (F := F) d i O W ∗ bigSep Finset.univ fun t => slP (F := F) d i t) := by
  rw [cc2_body_eq_skeleton]; unfold cc2_body_skel wpV
  iintro H
  iapply (Scf.wp_for_bind frame (wpE (defs₀ (F := F)) 𝒱₀ (tV d i) none) Set.univ _ _ _ _ _ _
    (fun _ _ => iprop(headR (F := F) d i O W ∗ bigSep Finset.univ fun t => slP (F := F) d i t)) (fun t acc => ?step)) $$ H
  case step =>
    rw [SparseCore.bigSep_erase' (Finset.mem_univ t)]
    iintro ⟨HR, Ht, Hrest⟩
    iapply (wp_mono frame (wpE (defs₀ (F := F)) 𝒱₀ (tV d i) none) Set.univ
      (Q := fun _ => iprop((headR (F := F) d i O W ∗ slP (F := F) d i t) ∗ bigSep (Finset.univ.erase t) fun t => slP (F := F) d i t)) fun _ => sep_assoc.1)
    iapply (wp_frame_r frame (wpE (defs₀ (F := F)) 𝒱₀ (tV d i) none) Set.univ)
    isplitl [HR Ht]
    · iapply (t1_wp (F := F) O W t acc)
      isplitl [HR] <;> iassumption
    · iexact Hrest
  iintro %_ H
  rw [wp_pure]; imodintro; iexact H

end Tile

/-! ## A subcore's own buffers and semaphores -/

section Own

variable (d : Dev nD) (i : grid2.Coords)

theorem ownSems0_V :
    (ownSems0 (tV d i) : sProp 𝕄) = iprop(semVal (cSem d i) 0 ∗ bigSep ((ownCells (tV d i)).erase (cSem d i)) fun g => semVal g 0) := by
  unfold SparseCore.Cfg.ownSems0
  exact SparseCore.bigSep_erase' ((mem_ownCells (g := cSem d i)).mpr ⟨rfl, by show (SemLoc.dma cc2_scoped0.sem : SemLoc sig).isScoped .scVector = true; decide⟩)

/-- The three scratch buffers are among the subcore's own. -/
theorem ownBufs_V :
    (ownBufs (tV d i) : sProp 𝕄)
      = iprop(s18 (F := F) d i ∗ s19 (F := F) d i ∗ s20 (F := F) d i
          ∗ bigSep ((((ownRefs (τ := τ) (tV d i).2).erase ((tV d i).2.devRef cc2_scratch10)).erase
              ((tV d i).2.devRef cc2_scratch11)).erase ((tV d i).2.devRef cc2_scratch12))
              fun b => iprop(∃ f, ((d, b) : Loc nD τ sig) ↦{fullShare} f)) := by
  unfold SparseCore.Cfg.ownBufs s18 s19 s20
  refine (SparseCore.bigSep_erase' (SparseCore.Cfg.mem_ownRefs_of_owner (p := (tV d i).2)
    (b := (tV d i).2.devRef cc2_scratch10) rfl)).trans ?_
  rw [SparseCore.bigSep_erase' (Finset.mem_erase.mpr ⟨fun e => absurd (Proc.devRef_injective _ e) (show (cc2_scratch11 : Ref sig .scVector) ≠ cc2_scratch10 by decide),
    SparseCore.Cfg.mem_ownRefs_of_owner (p := (tV d i).2) (b := (tV d i).2.devRef cc2_scratch11) rfl⟩),
    SparseCore.bigSep_erase' (Finset.mem_erase.mpr ⟨fun e => absurd (Proc.devRef_injective _ e) (show (cc2_scratch12 : Ref sig .scVector) ≠ cc2_scratch11 by decide),
      Finset.mem_erase.mpr ⟨fun e => absurd (Proc.devRef_injective _ e) (show (cc2_scratch12 : Ref sig .scVector) ≠ cc2_scratch10 by decide),
    SparseCore.Cfg.mem_ownRefs_of_owner (p := (tV d i).2) (b := (tV d i).2.devRef cc2_scratch12) rfl⟩⟩)]

/-- The task on the subcore at `i`: from its slices of the output array to the same slices. -/
theorem tile_body (hF : (K (F := F)).Facts) (O : CellTallies nD τ sig (HIx 1)) (W : Waits sig (HIx 1)) (hO : ∀ g, O g none = 0) :
    iprop(levAts (K (F := F)).L (K (F := F)).lev ∗ emp ∗ (bigSep Finset.univ fun t => slP (F := F) d i t)
        ∗ scopedBufs (tV d i) ∗ scopedSems0 (tV d i) ∗ owes (tV d i) O W)
      ⊢ wpV (d := d) (cc2_body (F := F) i (Memref.whole main_v71_0_scv) (Memref.isWhole_whole _) (Memref.whole main_v71_1_scv) (Memref.isWhole_whole _) (Memref.whole main_v71_2_scv) (Memref.isWhole_whole _) (Memref.whole main_v71_3_scv) (Memref.isWhole_whole _) (Memref.whole main_v72_scv) (Memref.isWhole_whole _) (Memref.whole main_v73_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) (Memref.whole cc2_scratch12) (Memref.isWhole_whole _) cc2_scratch13 cc2_scoped0)
          fun _ => iprop((bigSep Finset.univ fun t => slP (F := F) d i t) ∗ scopedBufs (tV d i) ∗ scopedSems0 (tV d i)
            ∗ ∃ W', ⌜∀ p ∈ W', p ∈ W ∨ p.2 = none⌝ ∗ owes (tV d i) O W') := by
  rw [(K (F := F)).scopedBufs_V hF d _ _, SparseCore.Cfg.scopedSems0_V (Val := Elt F) d _ _, ownSems0_V, ownBufs_V]
  iintro ⟨#Hlv, -, Hsl, ⟨H18, H19, H20, Hbufs⟩, ⟨Hsem, Hsems⟩, HO⟩
  ihave Hmw := ((K (F := F)).mayWaits_none (thr := tV d i) hO) $$ Hlv
  iapply (wp_mono frame (wpE (defs₀ (F := F)) 𝒱₀ (tV d i) none) Set.univ
    (Q := fun _ => iprop((headR (F := F) d i O W ∗ bigSep Finset.univ fun t => slP (F := F) d i t)
      ∗ ((bigSep ((((ownRefs (τ := τ) (tV d i).2).erase ((tV d i).2.devRef cc2_scratch10)).erase
              ((tV d i).2.devRef cc2_scratch11)).erase ((tV d i).2.devRef cc2_scratch12))
              fun b => iprop(∃ f, ((d, b) : Loc nD τ sig) ↦{fullShare} f))
        ∗ bigSep ((ownCells (tV d i)).erase (cSem d i)) fun g => semVal g 0))) fun _ => ?post)
  rotate_left
  · iapply (wp_frame_r frame (wpE (defs₀ (F := F)) 𝒱₀ (tV d i) none) Set.univ)
    isplitr [Hbufs Hsems]
    · iapply (body_wp (F := F) O W)
      isplitr [Hsl]
      · unfold headR
        isplitl [Hmw]; · iexact Hmw
        isplitl [H18 H19 H20]
        · isplitl [H18]; · iexact H18
          isplitl [H19] <;> iassumption
        isplitl [Hsem]; · iexact Hsem
        iexists W; isplitr
        · ipureintro; exact fun p hp => .inl hp
        · iexact HO
      · iexact Hsl
    · isplitl [Hbufs] <;> iassumption
  case post =>
    unfold headR
    iintro ⟨⟨⟨-, ⟨H18, H19, H20⟩, Hsem, HO⟩, Hsl⟩, Hbufs, Hsems⟩
    isplitl [Hsl]; · iexact Hsl
    isplitl [H18 H19 H20 Hbufs]
    · isplitl [H18]; · iexact H18
      isplitl [H19]; · iexact H19
      isplitl [H20] <;> iassumption
    isplitl [Hsem Hsems]
    · isplitl [Hsem] <;> iassumption
    iexact HO

end Own

/-! ## What the call hands over, and the launch theorem's obligations -/

def coordsV (c : Fin (grid2.bound 0)) (s : Fin (grid2.bound 1)) : grid2.Coords :=
  fun | 0 => c | 1 => s | ⟨_ + 2, h⟩ => absurd h (Nat.not_lt.2 (Nat.le_add_left _ _))

theorem nCore_zero : (K (F := F)).nCore 0 = grid2.bound 0 := rfl
theorem nSub_zero : (K (F := F)).nSub 0 = grid2.bound 1 := rfl

abbrev oLoc (d : Dev nD) : Loc nD τ sig := (SparseCore.T d).loc main_v73

/-- The words of the output array that head `t` of the task at `i` is copied to. -/
def oSet (i : grid2.Coords) (t : Fin k2_t1_loop.trips) : Finset S12x262144.Idx :=
  (Rect.unit (s := S12x262144) (k2_off1 i t) S1x8192.size (k2_off1_inb i t)).set

/-- A slice of the output array at some contents, as a part of the array. -/
def slQ (d : Dev nD) (i : grid2.Coords) (t : Fin k2_t1_loop.trips) : sProp 𝕄 :=
  iprop(∃ f : Buf (Elt F) (oLoc d), oLoc d ↦[oSet i t]{fullShare} f)

theorem oM_set (i : grid2.Coords) (t : Fin k2_t1_loop.trips) : (oM i t).view.set = oSet i t := by
  show (((View.whole (main_v73_scv : Ref sig .scVector)).slice (Rect.unit (s := S12x262144) (k2_off1 i t) S1x8192.size (k2_off1_inb _ _))).reshape S8192
      squeezes_S1x8192_S8192.numel_eq).set = _
  rw [View.set_reshape, View.set_slice]; exact Finset.map_refl

theorem slP_eq (d : Dev nD) (i : grid2.Coords) (t : Fin k2_t1_loop.trips) : slP (F := F) d i t = slQ d i t := by
  show (iprop(∃ f : Buf (Elt F) (oLoc d), oLoc d ↦[(oM i t).view.set]{fullShare} f) : sProp 𝕄) = _
  rw [oM_set]; rfl

/-- A task's part of the output array: its slice of every head. -/
def taskP (d : Dev nD) (c : Fin (grid2.bound 0)) (s : Fin (grid2.bound 1)) : sProp 𝕄 :=
  bigSep Finset.univ fun t => slQ (F := F) d (coordsV c s) t

/-- A core's part: its tasks' parts. -/
def coreP (d : Dev nD) (c : Fin (grid2.bound 0)) : sProp 𝕄 :=
  bigSep Finset.univ fun s => taskP (F := F) d c s

instance slQ_storable (d : Dev nD) (i : grid2.Coords) (t : Fin k2_t1_loop.trips) : BI.Storable (upEmb : UEmb _ 𝕄) (slQ (F := F) d i t) := by
  unfold slQ; infer_instance
instance taskP_storable (d : Dev nD) (c : Fin (grid2.bound 0)) (s : Fin (grid2.bound 1)) : BI.Storable (upEmb : UEmb _ 𝕄) (taskP (F := F) d c s) := by
  unfold taskP; infer_instance
instance coreP_storable (d : Dev nD) (c : Fin (grid2.bound 0)) : BI.Storable (upEmb : UEmb _ 𝕄) (coreP (F := F) d c) := by
  unfold coreP; infer_instance

/-- The call takes the output array in its tasks' parts and brings the parts back. -/
def P : (K (F := F)).Pay (nD := nD) (Val := Elt F) (Name := ℕ) (U := UU) where
  st := fun q d c => match q with | 0 => coreP (F := F) d (Fin.cast nCore_zero c)
  dn := fun q d c => match q with | 0 => coreP (F := F) d (Fin.cast nCore_zero c)
  go := fun q d c s => match q with | 0 => taskP (F := F) d (Fin.cast nCore_zero c) (Fin.cast nSub_zero s)
  td := fun q d c s => match q with | 0 => taskP (F := F) d (Fin.cast nCore_zero c) (Fin.cast nSub_zero s)
  x := fun _ _ => iprop(emp)

instance P_storable : (P (F := F)).IsStorable where
  st q d c := match q with | 0 => coreP_storable d (Fin.cast nCore_zero c)
  dn q d c := match q with | 0 => coreP_storable d (Fin.cast nCore_zero c)
  go q d c s := match q with | 0 => taskP_storable d (Fin.cast nCore_zero c) (Fin.cast nSub_zero s)
  td q d c s := match q with | 0 => taskP_storable d (Fin.cast nCore_zero c) (Fin.cast nSub_zero s)

theorem defs₀_vector (c : Fin τ.nSC) (s : Fin τ.nSub) :
    defs₀ (F := F) (.scVector c s) 2 ()
      = SparseCore.onTile hcore2 hsub2 (fun c s => cc2_body (coordsV c s) (Memref.whole main_v71_0_scv) (Memref.isWhole_whole _) (Memref.whole main_v71_1_scv) (Memref.isWhole_whole _) (Memref.whole main_v71_2_scv) (Memref.isWhole_whole _) (Memref.whole main_v71_3_scv) (Memref.isWhole_whole _) (Memref.whole main_v72_scv) (Memref.isWhole_whole _) (Memref.whole main_v73_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) (Memref.whole cc2_scratch12) (Memref.isWhole_whole _) cc2_scratch13 cc2_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task, in the form the call's payloads have. -/
theorem task_wp (d : Dev nD) (c : Fin (grid2.bound 0)) (s : Fin (grid2.bound 1)) (hF : (K (F := F)).Facts)
    (O : CellTallies nD τ sig (HIx 1)) (W : Waits sig (HIx 1)) (hO : ∀ g, O g none = 0) (q : Fin 1) :
    iprop(levAts (K (F := F)).L (K (F := F)).lev ∗ emp ∗ taskP (F := F) d c s
        ∗ scopedBufs (tV d (coordsV c s)) ∗ scopedSems0 (tV d (coordsV c s)) ∗ owes (tV d (coordsV c s)) O W)
      ⊢ wp frame (wpE (defs₀ (F := F)) 𝒱₀ (tV d (coordsV c s)) none) Set.univ (cc2_body (F := F) (coordsV c s) (Memref.whole main_v71_0_scv) (Memref.isWhole_whole _) (Memref.whole main_v71_1_scv) (Memref.isWhole_whole _) (Memref.whole main_v71_2_scv) (Memref.isWhole_whole _) (Memref.whole main_v71_3_scv) (Memref.isWhole_whole _) (Memref.whole main_v72_scv) (Memref.isWhole_whole _) (Memref.whole main_v73_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) (Memref.whole cc2_scratch12) (Memref.isWhole_whole _) cc2_scratch13 cc2_scoped0)
          fun _ => iprop(taskP (F := F) d c s ∗ scopedBufs (tV d (coordsV c s)) ∗ scopedSems0 (tV d (coordsV c s))
            ∗ ∃ W', ⌜∀ p ∈ W', p ∈ W ∨ p.2 = none ∨ p.2 = some q⌝ ∗ owes (tV d (coordsV c s)) O W') := by
  have e : taskP (F := F) d c s = bigSep Finset.univ fun t => slP (F := F) d (coordsV c s) t := by
    unfold taskP; exact bigSep_congr fun t _ => (slP_eq d _ t).symm
  rw [e]
  exact (tile_body d (coordsV c s) hF O W hO).trans (wp_mono frame _ _ fun _ => obl_post)

theorem tileObl (hF : (K (F := F)).Facts) : (K (F := F)).TileObl (D (F := F)) 𝒱 (P (F := F)) v₀ 0 := by
  intro d c i O W hO _ _
  simp only [show (P (F := F)).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact task_wp d (Fin.cast nCore_zero c) (Fin.cast nSub_zero i) hF O W hO 0

theorem vecSplit : (K (F := F)).VecSplit' (P (F := F)) 0 := by
  intro d c
  show coreP (F := F) d (Fin.cast nCore_zero c) ⊢ |={Set.univ}=> iprop(
      (bigSep Finset.univ fun s : Fin (grid2.bound 1) => taskP (F := F) d (Fin.cast nCore_zero c) s)
      ∗ ((bigSep Finset.univ fun s : Fin (grid2.bound 1) => taskP (F := F) d (Fin.cast nCore_zero c) s)
          -∗ coreP (F := F) d (Fin.cast nCore_zero c)))
  unfold coreP
  iintro H; imodintro
  isplitl [H]; · iexact H
  iintro H; iexact H

/-! ## The output array is its slices -/

/-- A core, a subcore of it and a head. -/
abbrev Part : Type := Fin (grid2.bound 0) × Fin (grid2.bound 1) × Fin k2_t1_loop.trips
def partSet (p : Part) : Finset S12x262144.Idx := oSet (coordsV p.1 p.2.1) p.2.2

theorem mem_partSet (p : Part) (x : S12x262144.Idx) :
    x ∈ partSet p ↔ (x 0).val = p.2.2.val ∧ 16384 * p.2.1.val + 8192 * p.1.val ≤ (x 1).val ∧ (x 1).val < 16384 * p.2.1.val + 8192 * p.1.val + 8192 := by
  unfold partSet oSet
  rw [Rect.mem_set_unit, k2_off1_eq]
  constructor
  · intro h
    have h0 : p.2.2.val ≤ (x 0).val ∧ (x 0).val < p.2.2.val + 1 := h 0
    have h1 : 16384 * p.2.1.val + 8192 * p.1.val ≤ (x 1).val ∧ (x 1).val < 16384 * p.2.1.val + 8192 * p.1.val + 8192 := h 1
    exact ⟨by omega, h1.1, h1.2⟩
  · rintro ⟨h0, h1, h2⟩ a
    obtain ⟨a, ha⟩ := a
    match a, ha with
    | 0, _ => exact ⟨h0.ge, by show (x 0).val < p.2.2.val + 1; omega⟩
    | 1, _ => exact ⟨h1, h2⟩

theorem partSet_disjoint : ∀ p ∈ (Finset.univ : Finset Part), ∀ p' ∈ (Finset.univ : Finset Part), p ≠ p' → Disjoint (partSet p) (partSet p') := by
  intro p _ p' _ hne
  rw [Finset.disjoint_left]
  intro x h h'
  rw [mem_partSet] at h h'
  have hc : p.1.val < 2 := p.1.isLt
  have hc' : p'.1.val < 2 := p'.1.isLt
  refine hne (Prod.ext (Fin.ext ?_) (Prod.ext (Fin.ext ?_) (Fin.ext ?_))) <;> omega

theorem partSet_cover : (Finset.univ : Finset Part).biUnion partSet = Finset.univ := by
  ext x
  simp only [Finset.mem_biUnion, Finset.mem_univ, true_and, iff_true]
  have h0 : (x 0).val < 12 := (x 0).isLt
  have h1 : (x 1).val < 262144 := (x 1).isLt
  have ht : k2_t1_loop.trips = 12 := by decide
  refine ⟨(⟨(x 1).val / 8192 % 2, by show _ < 2; omega⟩, ⟨(x 1).val / 16384, by show _ < 16; omega⟩, ⟨(x 0).val, by omega⟩), ?_⟩
  rw [mem_partSet]
  refine ⟨rfl, ?_, ?_⟩ <;> dsimp only <;> omega

/-- What the call takes is every part of the array, at some contents. -/
theorem cores_eq (d : Dev nD) :
    (bigSep Finset.univ fun c : Fin (grid2.bound 0) => coreP (F := F) d c)
      = bigSep Finset.univ fun p : Part => (iprop(∃ f : Buf (Elt F) (oLoc d), oLoc d ↦[partSet p]{fullShare} f) : sProp 𝕄) := by
  rw [bigSep_univ_prod]
  refine bigSep_congr fun c _ => ?_
  unfold coreP
  rw [bigSep_univ_prod]
  rfl

theorem out_split (d : Dev nD) (f : Buf (Elt F) (oLoc d)) :
    (oLoc d ↦{fullShare} f : sProp 𝕄) ⊢ bigSep Finset.univ fun c : Fin (grid2.bound 0) => coreP (F := F) d c := by
  rw [cores_eq]
  have e : (oLoc d ↦{fullShare} f : sProp 𝕄) = bigSep Finset.univ fun p : Part => oLoc d ↦[partSet p]{fullShare} f := by
    refine Eq.trans ?_ (pointsTo_biUnion Finset.univ (ℓ := oLoc d) partSet partSet_disjoint)
    rw [partSet_cover]
  rw [e]
  refine bigSep_mono fun p _ => ?_
  show (oLoc d ↦[partSet p]{fullShare} f : sProp 𝕄) ⊢ iprop(∃ f : Buf (Elt F) (oLoc d), oLoc d ↦[partSet p]{fullShare} f)
  iintro H; iexists f; iexact H

theorem out_join (d : Dev nD) (f₀ : Buf (Elt F) (oLoc d)) :
    (bigSep Finset.univ fun c : Fin (grid2.bound 0) => coreP (F := F) d c) ⊢ (iprop(∃ f, oLoc d ↦{fullShare} f) : sProp 𝕄) := by
  rw [cores_eq]
  haveI : Nonempty (Buf (Elt F) (oLoc d)) := ⟨f₀⟩
  refine (bigSep_exists_pi Finset.univ (fun p (f : Buf (Elt F) (oLoc d)) => (oLoc d ↦[partSet p]{fullShare} f : sProp 𝕄))).trans ?_
  iintro ⟨%fs, H⟩
  ihave H' := (pointsTo_biUnion_join Finset.univ partSet fs f₀ partSet_disjoint) $$ H
  icases H' with ⟨%g, -, Hg⟩
  rw [partSet_cover]
  iexists g; iexact Hg

end Cert.KernelIdeal.Whole

end
-- ==== Proof.KernelIdealFrame.lean ====
/-
  The frame of the whole of `kernel`: three TensorCore kernels, one SparseCore call and the host operations between
  them, run in order on the TensorCore while the subcores serve the call. At every boundary of @main the TensorCore
  holds all its buffers, the argument arrays as launched (`HS`).
-/
module

public import proofs.«01_k».proof.Proof.KernelIdealHost
public import proofs.«01_k».proof.Proof.KernelIdealTile

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The ghost state's parts -/

abbrev EH : Emb UH 𝕄 := (Emb.inl : Emb UH UU).trans (uEmb (nD := nD) (sig := sig) (Ix := HIx 1) (Val := Elt F) (Name := ℕ) (U := UU) (Lvl := ℕ)).toEmb
abbrev EP : Emb UP 𝕄 :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

abbrev adm : (p : Fin 3) → (pcfgs (F := F) p).Adm := fun p => (cfgs p).toPCfg_adm

/-- The pipelines' proof data, at contents `V` of the buffers and `n` SparseCore calls made. -/
def pdats (V : (c : Dev nD) → (b : Ref sig .tc) → Buf (Elt F) ((c : Thread nD τ).loc b)) (n : ℕ) :
    (p : Fin 3) → (c : Dev nD) → Dat τ (Elt F) (HIx 1) ℕ UU ℕ (Pipeline.pin (pcfgs (F := F)) adm p) c
  | ⟨0, _⟩ => fun c => dat0 V n c
  | ⟨1, _⟩ => fun c => dat1 V n c
  | ⟨2, _⟩ => fun c => dat3 V n c

/-- What the TensorCore owes and has recorded after `n` SparseCore calls. -/
abbrev OW (n : ℕ) (c : Dev nD) : sProp 𝕄 :=
  iprop(∃ W, ⌜(K (F := F)).WBelow (c : Thread nD τ) W (8 * n)⌝ ∗ owes (c : Thread nD τ) ((K (F := F)).Otc c n) W)

theorem Otc_index_none (c : Dev nD) (n : ℕ) (g : GSem nD τ sig) : (K (F := F)).Otc (N := 1) c n g none = 0 := by
  by_contra h
  have := (K (F := F)).lev_of_Otc_pos (Nat.pos_of_ne_zero h)
  rw [SparseCore.Cfg.lev_none] at this
  omega

section Regions
variable (W : Valuation τ sig (Elt F)) (n : ℕ)

/-- The TensorCore's buffers at `W`. -/
abbrev VW : (c : Dev nD) → (b : Ref sig .tc) → Buf (Elt F) ((c : Thread nD τ).loc b) := fun _ b => W b

/-! ### The kernel of pipeline 0 -/

/-- The buffers after the kernel: its arrays as its pipeline leaves them, the rest as before. -/
def WX0 (c : Dev nD) : Valuation τ sig (Elt F) :=
  Pipeline.withArrays spec0 c W fun w => (dat0 (VW W) n c).arrAt w cfg0.N
theorem WX0_arr (c : Dev nD) (w : Fin cfg0.W) :
    WX0 W n c (Proc.devRef .tc (Pipeline.arrRef spec0 w)) = (dat0 (VW W) n c).arrAt w cfg0.N := by
  unfold WX0; exact Pipeline.withArrays_arr spec0 launch0.win.arr_inj c _ _ w
theorem WX0_of_ne (c : Dev nD) (b : Ref sig .tc) (hb : ∀ w, Pipeline.arrRef spec0 w ≠ b) :
    WX0 W n c (Proc.devRef .tc b) = W (Proc.devRef .tc b) := by
  unfold WX0; exact Pipeline.withArrays_of_ne spec0 c _ _ b hb
theorem argsIn0 : ∀ a ∈ argRefs, ∀ w : Fin cfg0.W, Pipeline.arrRef spec0 w = a → (cfg0.win w).isOut = false :=
  ListAll.forall_mem_of_all_decide (by decide +kernel)
/-- An argument array is one of the kernel's inputs or none of its arrays: it is kept. -/
theorem WX0_args (c : Dev nD) (a : Ref sig .tc) (ha : a ∈ argRefs) : WX0 W n c (Proc.devRef .tc a) = W (Proc.devRef .tc a) := by
  by_cases hw : ∃ w : Fin cfg0.W, Pipeline.arrRef spec0 w = a
  · obtain ⟨w, hwa⟩ := hw
    have h1 := (WX0_arr W n c w).trans (((dat0 (VW W) n c).arrAt_in w (argsIn0 a ha w hwa) _).trans (A_eq0 (VW W) n c w))
    rw [← hwa]; exact h1
  · exact WX0_of_ne W n c a fun w e => hw ⟨w, e⟩

set_option backward.isDefEq.respectTransparency.types false in
/-- The kernel as a step of @main: all buffers at `W` to all buffers at `WX0`. -/
def reg0 : Pipeline.RegionSeg (pcfgs (F := F)) adm (pdats (VW W) n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VW W) n c).loose
  hwaits c := Pipeline.cellsWaits_intro _ _ _ _ c fun w s t => (K (F := F)).mayWait_none _ (Otc_index_none (F := F) c n)
  pre c := iprop(StableHlo.held (c : Thread nD τ) (Pipeline.ucRefs τ sig) W ∗ (∃ r, prngReg c r) ∗ OW n c)
  post c := iprop(StableHlo.held (c : Thread nD τ) (Pipeline.ucRefs τ sig) (WX0 W n c) ∗ (∃ r, prngReg c r) ∗ OW n c)
  X c := iprop(∃ r, prngReg c r)
  Y c := iprop(∃ r, prngReg c r)
  Z c := Pipeline.unscopedRest (Ix := HIx 1) (Name := ℕ) (U := UU) (Lvl := ℕ) spec0 c (VW W c)
  hentry c := by
    rw [Pipeline.ownSems0_none]
    have hsplit := Pipeline.arrays_of_unscopedBufs (p := 0) (pcfgs (F := F)) adm (pdats (VW W) n) launch0.win launch0.arr_whole c
      ((pdats (VW W) n 0 c).share_full fun _ => rfl) (VW W c) (A_eq0 (VW W) n c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr; · ipureintro; exact fun p hp => Or.inl (hWt p hp)
      iexact HO
    isplitl [Hp]; · iexact Hp
    iexact Hrest
  hin c := by
    rw [show (pdats (VW W) n 0 c).Φ 0 = ΦS spec0 c from rfl]; unfold ΦS
    iintro ⟨Hp, -, Hr⟩
    isplitl [Hr]; · iexact Hr
    iexact Hp
  hout c := by
    rw [Pipeline.ownSems0_none, show (pdats (VW W) n 0 c).Φ (Fin.last _) = ΦS spec0 c from rfl]; unfold ΦS
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats (VW W) n) ((pdats (VW W) n 0 c).share_full fun _ => rfl)
      (VW W c) (VW (WX0 W n c) c) ((pdats (VW W) n 0 c).arrAt · cfg0.N) (fun w => (WX0_arr W n c w).symm)
      (fun b hb => WX0_of_ne W n c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro
      intro p hp
      rcases hWt (Finset.mem_coe.mpr hp) with h | ⟨w, s, h⟩
      · exact h
      · rw [h]; exact Nat.zero_le _
    iexact HO

theorem reg0_pre (c : Dev nD) : (reg0 W n).pre c
    = iprop(StableHlo.held (c : Thread nD τ) (Pipeline.ucRefs τ sig) W ∗ (∃ r, prngReg c r) ∗ OW n c) := rfl
theorem reg0_post (c : Dev nD) : (reg0 W n).post c
    = iprop(StableHlo.held (c : Thread nD τ) (Pipeline.ucRefs τ sig) (WX0 W n c) ∗ (∃ r, prngReg c r) ∗ OW n c) := rfl

/-! ### The kernel of pipeline 1 -/

/-- The buffers after the kernel: its arrays as its pipeline leaves them, the rest as before. -/
def WX1 (c : Dev nD) : Valuation τ sig (Elt F) :=
  Pipeline.withArrays spec1 c W fun w => (dat1 (VW W) n c).arrAt w cfg1.N
theorem WX1_arr (c : Dev nD) (w : Fin cfg1.W) :
    WX1 W n c (Proc.devRef .tc (Pipeline.arrRef spec1 w)) = (dat1 (VW W) n c).arrAt w cfg1.N := by
  unfold WX1; exact Pipeline.withArrays_arr spec1 launch1.win.arr_inj c _ _ w
theorem WX1_of_ne (c : Dev nD) (b : Ref sig .tc) (hb : ∀ w, Pipeline.arrRef spec1 w ≠ b) :
    WX1 W n c (Proc.devRef .tc b) = W (Proc.devRef .tc b) := by
  unfold WX1; exact Pipeline.withArrays_of_ne spec1 c _ _ b hb
theorem argsIn1 : ∀ a ∈ argRefs, ∀ w : Fin cfg1.W, Pipeline.arrRef spec1 w = a → (cfg1.win w).isOut = false :=
  ListAll.forall_mem_of_all_decide (by decide +kernel)
/-- An argument array is one of the kernel's inputs or none of its arrays: it is kept. -/
theorem WX1_args (c : Dev nD) (a : Ref sig .tc) (ha : a ∈ argRefs) : WX1 W n c (Proc.devRef .tc a) = W (Proc.devRef .tc a) := by
  by_cases hw : ∃ w : Fin cfg1.W, Pipeline.arrRef spec1 w = a
  · obtain ⟨w, hwa⟩ := hw
    have h1 := (WX1_arr W n c w).trans (((dat1 (VW W) n c).arrAt_in w (argsIn1 a ha w hwa) _).trans (A_eq1 (VW W) n c w))
    rw [← hwa]; exact h1
  · exact WX1_of_ne W n c a fun w e => hw ⟨w, e⟩

set_option backward.isDefEq.respectTransparency.types false in
/-- The kernel as a step of @main: all buffers at `W` to all buffers at `WX1`. -/
def reg1 : Pipeline.RegionSeg (pcfgs (F := F)) adm (pdats (VW W) n) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 (VW W) n c).loose
  hwaits c := Pipeline.cellsWaits_intro _ _ _ _ c fun w s t => (K (F := F)).mayWait_none _ (Otc_index_none (F := F) c n)
  pre c := iprop(StableHlo.held (c : Thread nD τ) (Pipeline.ucRefs τ sig) W ∗ (∃ r, prngReg c r) ∗ OW n c)
  post c := iprop(StableHlo.held (c : Thread nD τ) (Pipeline.ucRefs τ sig) (WX1 W n c) ∗ (∃ r, prngReg c r) ∗ OW n c)
  X c := iprop(∃ r, prngReg c r)
  Y c := iprop(∃ r, prngReg c r)
  Z c := Pipeline.unscopedRest (Ix := HIx 1) (Name := ℕ) (U := UU) (Lvl := ℕ) spec1 c (VW W c)
  hentry c := by
    rw [Pipeline.ownSems0_none]
    have hsplit := Pipeline.arrays_of_unscopedBufs (p := 1) (pcfgs (F := F)) adm (pdats (VW W) n) launch1.win launch1.arr_whole c
      ((pdats (VW W) n 1 c).share_full fun _ => rfl) (VW W c) (A_eq1 (VW W) n c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr; · ipureintro; exact fun p hp => Or.inl (hWt p hp)
      iexact HO
    isplitl [Hp]; · iexact Hp
    iexact Hrest
  hin c := by
    rw [show (pdats (VW W) n 1 c).Φ 0 = ΦS spec1 c from rfl]; unfold ΦS
    iintro ⟨Hp, -, Hr⟩
    isplitl [Hr]; · iexact Hr
    iexact Hp
  hout c := by
    rw [Pipeline.ownSems0_none, show (pdats (VW W) n 1 c).Φ (Fin.last _) = ΦS spec1 c from rfl]; unfold ΦS
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats (VW W) n) ((pdats (VW W) n 1 c).share_full fun _ => rfl)
      (VW W c) (VW (WX1 W n c) c) ((pdats (VW W) n 1 c).arrAt · cfg1.N) (fun w => (WX1_arr W n c w).symm)
      (fun b hb => WX1_of_ne W n c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro
      intro p hp
      rcases hWt (Finset.mem_coe.mpr hp) with h | ⟨w, s, h⟩
      · exact h
      · rw [h]; exact Nat.zero_le _
    iexact HO

theorem reg1_pre (c : Dev nD) : (reg1 W n).pre c
    = iprop(StableHlo.held (c : Thread nD τ) (Pipeline.ucRefs τ sig) W ∗ (∃ r, prngReg c r) ∗ OW n c) := rfl
theorem reg1_post (c : Dev nD) : (reg1 W n).post c
    = iprop(StableHlo.held (c : Thread nD τ) (Pipeline.ucRefs τ sig) (WX1 W n c) ∗ (∃ r, prngReg c r) ∗ OW n c) := rfl

/-! ### The kernel of pipeline 2 -/

/-- The buffers after the kernel: its arrays as its pipeline leaves them, the rest as before. -/
def WX3 (c : Dev nD) : Valuation τ sig (Elt F) :=
  Pipeline.withArrays spec3 c W fun w => (dat3 (VW W) n c).arrAt w cfg3.N
theorem WX3_arr (c : Dev nD) (w : Fin cfg3.W) :
    WX3 W n c (Proc.devRef .tc (Pipeline.arrRef spec3 w)) = (dat3 (VW W) n c).arrAt w cfg3.N := by
  unfold WX3; exact Pipeline.withArrays_arr spec3 launch3.win.arr_inj c _ _ w
theorem WX3_of_ne (c : Dev nD) (b : Ref sig .tc) (hb : ∀ w, Pipeline.arrRef spec3 w ≠ b) :
    WX3 W n c (Proc.devRef .tc b) = W (Proc.devRef .tc b) := by
  unfold WX3; exact Pipeline.withArrays_of_ne spec3 c _ _ b hb
theorem argsIn3 : ∀ a ∈ argRefs, ∀ w : Fin cfg3.W, Pipeline.arrRef spec3 w = a → (cfg3.win w).isOut = false :=
  ListAll.forall_mem_of_all_decide (by decide +kernel)
/-- An argument array is one of the kernel's inputs or none of its arrays: it is kept. -/
theorem WX3_args (c : Dev nD) (a : Ref sig .tc) (ha : a ∈ argRefs) : WX3 W n c (Proc.devRef .tc a) = W (Proc.devRef .tc a) := by
  by_cases hw : ∃ w : Fin cfg3.W, Pipeline.arrRef spec3 w = a
  · obtain ⟨w, hwa⟩ := hw
    have h1 := (WX3_arr W n c w).trans (((dat3 (VW W) n c).arrAt_in w (argsIn3 a ha w hwa) _).trans (A_eq3 (VW W) n c w))
    rw [← hwa]; exact h1
  · exact WX3_of_ne W n c a fun w e => hw ⟨w, e⟩

set_option backward.isDefEq.respectTransparency.types false in
/-- The kernel as a step of @main: all buffers at `W` to all buffers at `WX3`. -/
def reg3 : Pipeline.RegionSeg (pcfgs (F := F)) adm (pdats (VW W) n) none defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (VW W) n c).loose
  hwaits c := Pipeline.cellsWaits_intro _ _ _ _ c fun w s t => (K (F := F)).mayWait_none _ (Otc_index_none (F := F) c n)
  pre c := iprop(StableHlo.held (c : Thread nD τ) (Pipeline.ucRefs τ sig) W ∗ (∃ r, prngReg c r) ∗ OW n c)
  post c := iprop(StableHlo.held (c : Thread nD τ) (Pipeline.ucRefs τ sig) (WX3 W n c) ∗ (∃ r, prngReg c r) ∗ OW n c)
  X c := iprop(∃ r, prngReg c r)
  Y c := iprop(∃ r, prngReg c r)
  Z c := Pipeline.unscopedRest (Ix := HIx 1) (Name := ℕ) (U := UU) (Lvl := ℕ) spec3 c (VW W c)
  hentry c := by
    rw [Pipeline.ownSems0_none]
    have hsplit := Pipeline.arrays_of_unscopedBufs (p := 2) (pcfgs (F := F)) adm (pdats (VW W) n) launch3.win launch3.arr_whole c
      ((pdats (VW W) n 2 c).share_full fun _ => rfl) (VW W c) (A_eq3 (VW W) n c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr; · ipureintro; exact fun p hp => Or.inl (hWt p hp)
      iexact HO
    isplitl [Hp]; · iexact Hp
    iexact Hrest
  hin c := by
    rw [show (pdats (VW W) n 2 c).Φ 0 = ΦS spec3 c from rfl]; unfold ΦS
    iintro ⟨Hp, -, Hr⟩
    isplitl [Hr]; · iexact Hr
    iexact Hp
  hout c := by
    rw [Pipeline.ownSems0_none, show (pdats (VW W) n 2 c).Φ (Fin.last _) = ΦS spec3 c from rfl]; unfold ΦS
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats (VW W) n) ((pdats (VW W) n 2 c).share_full fun _ => rfl)
      (VW W c) (VW (WX3 W n c) c) ((pdats (VW W) n 2 c).arrAt · cfg3.N) (fun w => (WX3_arr W n c w).symm)
      (fun b hb => WX3_of_ne W n c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro
      intro p hp
      rcases hWt (Finset.mem_coe.mpr hp) with h | ⟨w, s, h⟩
      · exact h
      · rw [h]; exact Nat.zero_le _
    iexact HO

theorem reg3_pre (c : Dev nD) : (reg3 W n).pre c
    = iprop(StableHlo.held (c : Thread nD τ) (Pipeline.ucRefs τ sig) W ∗ (∃ r, prngReg c r) ∗ OW n c) := rfl
theorem reg3_post (c : Dev nD) : (reg3 W n).post c
    = iprop(StableHlo.held (c : Thread nD τ) (Pipeline.ucRefs τ sig) (WX3 W n c) ∗ (∃ r, prngReg c r) ∗ OW n c) := rfl

end Regions

section Main
variable (m : (ℓ : Loc nD τ sig) → Buf (Elt F) ℓ) (ρ : Dev nD → PrngReg)

/-- All buffers of the TensorCore at some contents, the argument arrays as launched. -/
abbrev HS (d : Dev nD) : sProp 𝕄 :=
  iprop(∃ W : Valuation τ sig (Elt F), ⌜∀ a ∈ argRefs, W (Proc.devRef .tc a) = m ((d : Thread nD τ).loc a)⌝
    ∗ StableHlo.held (d : Thread nD τ) (Pipeline.ucRefs τ sig) W)

/-- A stretch of host operations that writes no argument array. -/
theorem host_step (d : Dev nD) (ops : List (HloOp τ sig (Elt F))) (Wl : List (Ref sig .tc))
    (hsub : ops.Forall fun op => op.bufs ⊆ StableHlo.tcRefs τ sig) (hfresh : ops.Forall fun op => op.fresh = ∅)
    (hw : ops.Forall fun op => op.writes ⊆ (Wl.map (Proc.devRef (τ := τ) .tc)).toFinset) (hargs : ∀ a ∈ argRefs, a ∉ Wl)
    (k : PUnit → Prog (TpuEff nD τ sig (Elt F) (SparseCore.Sig (ΛP (F := F)) 1) .tc) PUnit) (Q : PUnit → sProp 𝕄) :
    iprop(boundary (d : Thread nD τ) ∗ HS m d)
      ⊢ iprop(((boundary (d : Thread nD τ) ∗ HS m d) -∗ wp frame (wpE ((K (F := F)).defs (D (F := F))) 𝒱 (d : Thread nD τ) none) Set.univ (k ⟨⟩) Q)
          -∗ wp frame (wpE ((K (F := F)).defs (D (F := F))) 𝒱 (d : Thread nD τ) none) Set.univ (StableHlo.seq ops >>= k) Q) := by
  iintro ⟨Hb, %W, %hW, Hh⟩ Hk
  iapply (StableHlo.wp_seq 𝒱 none Set.univ d (Pipeline.ucRefs τ sig) k ops
    (fun op h => Pipeline.sub_ucRefs op ((List.forall_iff_forall_mem.mp hsub) op h))
    (fun op h => (List.forall_iff_forall_mem.mp hfresh) op h) W) $$ [Hb Hh]
  · isplitl [Hb] <;> iassumption
  iintro ⟨Hb, Hh⟩
  iapply Hk
  isplitl [Hb]; · iexact Hb
  iexists (StableHlo.after ops W)
  isplitr
  · ipureintro
    intro a ha
    exact (StableHlo.after_of_writes_sub ops W hw (hargs a ha)).trans (hW a ha)
  · iexact Hh

/-- The kernel of pipeline 0, entered after `n` SparseCore calls. -/
theorem step0 (d : Dev nD) (n : ℕ) (k : PUnit → Prog (TpuEff nD τ sig (Elt F) (SparseCore.Sig (ΛP (F := F)) 1) .tc) PUnit) (Q : PUnit → sProp 𝕄)
    [∀ e, Nonempty (Elt F e)] :
    iprop((boundary (d : Thread nD τ) ∗ HS m d ∗ (∃ r, prngReg d r) ∗ OW (F := F) n d ∗ levAts (K (F := F)).L (K (F := F)).lev)
        ∗ Pipeline.cellsGhost (Pipeline.pin (pcfgs (F := F)) adm) (EP (F := F)) 0 d ∗ Pipeline.toksInit (Pipeline.pin (pcfgs (F := F)) adm) (EP (F := F)) 0 d)
      ⊢ iprop(((boundary (d : Thread nD τ) ∗ HS m d ∗ (∃ r, prngReg d r) ∗ OW (F := F) n d)
            -∗ wp frame (wpE ((K (F := F)).defs (D (F := F))) 𝒱 (d : Thread nD τ) none) Set.univ (k ⟨⟩) Q)
          -∗ wp frame (wpE ((K (F := F)).defs (D (F := F))) 𝒱 (d : Thread nD τ) none) Set.univ
            (Prog.lift (.customCall (SparseCore.inner (Pipeline.entry 0)) ()) >>= k) Q) := by
  iintro ⟨⟨Hb, ⟨%W, %hW, Hh⟩, Hp, HO, Hlv⟩, Hg, Ht⟩ Hk
  rw [wp_bind]
  iapply ((K (F := F)).wp_liftProg (D (F := F)) 𝒱 (d : Thread nD τ) Set.univ none
    (.op (.customCall (Pipeline.entry 0) ()) .ret)
    (fun x => wp frame (wpE ((K (F := F)).defs (D (F := F))) 𝒱 (d : Thread nD τ) none) Set.univ (k x) Q))
  iapply (Pipeline.RegionSeg.wp (pcfgs (F := F)) adm (pdats (VW W) n) none cellOf_inj (EP (F := F)) defs₀ 𝒱₀ (K (F := F)).L (K (F := F)).lev
    (reg0 W n) d none (fun _ h => nomatch h) .ret _)
  isplitl [Hk]
  · iintro ⟨Hb, Hpost⟩
    ihave Hpost' := (Entails.of_eq (reg0_post W n d)) $$ Hpost
    icases Hpost' with ⟨Hh, Hp, HO⟩
    rw [wp_ret]; imodintro
    iapply Hk
    isplitl [Hb]; · iexact Hb
    isplitl [Hh]
    · iexists (WX0 W n d); isplitr
      · ipureintro; exact fun a ha => (WX0_args W n d a ha).trans (hW a ha)
      · iexact Hh
    isplitl [Hp] <;> iassumption
  isplitl [Hb]; · iexact Hb
  isplitl [Hh Hp HO]
  · iapply (Entails.of_eq (reg0_pre W n d).symm)
    isplitl [Hh]; · iexact Hh
    isplitl [Hp] <;> iassumption
  isplitl [Hlv]; · iexact Hlv
  isplitl [Hg] <;> iassumption

/-- The kernel of pipeline 1, entered after `n` SparseCore calls. -/
theorem step1 (d : Dev nD) (n : ℕ) (k : PUnit → Prog (TpuEff nD τ sig (Elt F) (SparseCore.Sig (ΛP (F := F)) 1) .tc) PUnit) (Q : PUnit → sProp 𝕄)
    [∀ e, Nonempty (Elt F e)] :
    iprop((boundary (d : Thread nD τ) ∗ HS m d ∗ (∃ r, prngReg d r) ∗ OW (F := F) n d ∗ levAts (K (F := F)).L (K (F := F)).lev)
        ∗ Pipeline.cellsGhost (Pipeline.pin (pcfgs (F := F)) adm) (EP (F := F)) 1 d ∗ Pipeline.toksInit (Pipeline.pin (pcfgs (F := F)) adm) (EP (F := F)) 1 d)
      ⊢ iprop(((boundary (d : Thread nD τ) ∗ HS m d ∗ (∃ r, prngReg d r) ∗ OW (F := F) n d)
            -∗ wp frame (wpE ((K (F := F)).defs (D (F := F))) 𝒱 (d : Thread nD τ) none) Set.univ (k ⟨⟩) Q)
          -∗ wp frame (wpE ((K (F := F)).defs (D (F := F))) 𝒱 (d : Thread nD τ) none) Set.univ
            (Prog.lift (.customCall (SparseCore.inner (Pipeline.entry 1)) ()) >>= k) Q) := by
  iintro ⟨⟨Hb, ⟨%W, %hW, Hh⟩, Hp, HO, Hlv⟩, Hg, Ht⟩ Hk
  rw [wp_bind]
  iapply ((K (F := F)).wp_liftProg (D (F := F)) 𝒱 (d : Thread nD τ) Set.univ none
    (.op (.customCall (Pipeline.entry 1) ()) .ret)
    (fun x => wp frame (wpE ((K (F := F)).defs (D (F := F))) 𝒱 (d : Thread nD τ) none) Set.univ (k x) Q))
  iapply (Pipeline.RegionSeg.wp (pcfgs (F := F)) adm (pdats (VW W) n) none cellOf_inj (EP (F := F)) defs₀ 𝒱₀ (K (F := F)).L (K (F := F)).lev
    (reg1 W n) d none (fun _ h => nomatch h) .ret _)
  isplitl [Hk]
  · iintro ⟨Hb, Hpost⟩
    ihave Hpost' := (Entails.of_eq (reg1_post W n d)) $$ Hpost
    icases Hpost' with ⟨Hh, Hp, HO⟩
    rw [wp_ret]; imodintro
    iapply Hk
    isplitl [Hb]; · iexact Hb
    isplitl [Hh]
    · iexists (WX1 W n d); isplitr
      · ipureintro; exact fun a ha => (WX1_args W n d a ha).trans (hW a ha)
      · iexact Hh
    isplitl [Hp] <;> iassumption
  isplitl [Hb]; · iexact Hb
  isplitl [Hh Hp HO]
  · iapply (Entails.of_eq (reg1_pre W n d).symm)
    isplitl [Hh]; · iexact Hh
    isplitl [Hp] <;> iassumption
  isplitl [Hlv]; · iexact Hlv
  isplitl [Hg] <;> iassumption

/-- The kernel of pipeline 2, entered after `n` SparseCore calls. -/
theorem step3 (d : Dev nD) (n : ℕ) (k : PUnit → Prog (TpuEff nD τ sig (Elt F) (SparseCore.Sig (ΛP (F := F)) 1) .tc) PUnit) (Q : PUnit → sProp 𝕄)
    [∀ e, Nonempty (Elt F e)] :
    iprop((boundary (d : Thread nD τ) ∗ HS m d ∗ (∃ r, prngReg d r) ∗ OW (F := F) n d ∗ levAts (K (F := F)).L (K (F := F)).lev)
        ∗ Pipeline.cellsGhost (Pipeline.pin (pcfgs (F := F)) adm) (EP (F := F)) 2 d ∗ Pipeline.toksInit (Pipeline.pin (pcfgs (F := F)) adm) (EP (F := F)) 2 d)
      ⊢ iprop(((boundary (d : Thread nD τ) ∗ HS m d ∗ (∃ r, prngReg d r) ∗ OW (F := F) n d)
            -∗ wp frame (wpE ((K (F := F)).defs (D (F := F))) 𝒱 (d : Thread nD τ) none) Set.univ (k ⟨⟩) Q)
          -∗ wp frame (wpE ((K (F := F)).defs (D (F := F))) 𝒱 (d : Thread nD τ) none) Set.univ
            (Prog.lift (.customCall (SparseCore.inner (Pipeline.entry 2)) ()) >>= k) Q) := by
  iintro ⟨⟨Hb, ⟨%W, %hW, Hh⟩, Hp, HO, Hlv⟩, Hg, Ht⟩ Hk
  rw [wp_bind]
  iapply ((K (F := F)).wp_liftProg (D (F := F)) 𝒱 (d : Thread nD τ) Set.univ none
    (.op (.customCall (Pipeline.entry 2) ()) .ret)
    (fun x => wp frame (wpE ((K (F := F)).defs (D (F := F))) 𝒱 (d : Thread nD τ) none) Set.univ (k x) Q))
  iapply (Pipeline.RegionSeg.wp (pcfgs (F := F)) adm (pdats (VW W) n) none cellOf_inj (EP (F := F)) defs₀ 𝒱₀ (K (F := F)).L (K (F := F)).lev
    (reg3 W n) d none (fun _ h => nomatch h) .ret _)
  isplitl [Hk]
  · iintro ⟨Hb, Hpost⟩
    ihave Hpost' := (Entails.of_eq (reg3_post W n d)) $$ Hpost
    icases Hpost' with ⟨Hh, Hp, HO⟩
    rw [wp_ret]; imodintro
    iapply Hk
    isplitl [Hb]; · iexact Hb
    isplitl [Hh]
    · iexists (WX3 W n d); isplitr
      · ipureintro; exact fun a ha => (WX3_args W n d a ha).trans (hW a ha)
      · iexact Hh
    isplitl [Hp] <;> iassumption
  isplitl [Hb]; · iexact Hb
  isplitl [Hh Hp HO]
  · iapply (Entails.of_eq (reg3_pre W n d).symm)
    isplitl [Hh]; · iexact Hh
    isplitl [Hp] <;> iassumption
  isplitl [Hlv]; · iexact Hlv
  isplitl [Hg] <;> iassumption

/-! ## The SparseCore call -/

/-- The buffers with the call's result replaced. -/
def setOut (W : Valuation τ sig (Elt F)) (f : Buf (Elt F) (oLoc 0)) : Valuation τ sig (Elt F) :=
  Function.update W (Proc.devRef .tc main_v73) f

theorem out_mem : (Proc.devRef .tc main_v73 : DevRef τ sig) ∈ Pipeline.ucRefs τ sig :=
  Finset.mem_filter.mpr ⟨StableHlo.devRef_mem_tcRefs main_v73, by decide⟩

/-- The result array and the other buffers. -/
theorem held_out (d : Dev nD) (W : Valuation τ sig (Elt F)) :
    (StableHlo.held (d : Thread nD τ) (Pipeline.ucRefs τ sig) W : sProp 𝕄)
      = iprop((oLoc d ↦{fullShare} W (Proc.devRef .tc main_v73))
          ∗ bigSep ((Pipeline.ucRefs τ sig).erase (Proc.devRef .tc main_v73)) fun b => ((d, b) : Loc nD τ sig) ↦{fullShare} W b) := by
  unfold StableHlo.held
  exact SparseCore.bigSep_erase' out_mem

theorem setOut_args (W : Valuation τ sig (Elt F)) (f : Buf (Elt F) (oLoc 0)) (a : Ref sig .tc) (ha : a ∈ argRefs) :
    setOut W f (Proc.devRef .tc a) = W (Proc.devRef .tc a) := by
  have hne : ∀ a ∈ argRefs, a ≠ main_v73 := ListAll.forall_mem_of_all_decide (by decide +kernel)
  exact Function.update_of_ne (fun e => hne a ha (Proc.devRef_injective _ e)) _ _

theorem held_setOut (d : Dev nD) (W : Valuation τ sig (Elt F)) (f : Buf (Elt F) (oLoc d)) :
    iprop((oLoc d ↦{fullShare} f)
        ∗ bigSep ((Pipeline.ucRefs τ sig).erase (Proc.devRef .tc main_v73)) fun b => ((d, b) : Loc nD τ sig) ↦{fullShare} W b)
      ⊢ (StableHlo.held (d : Thread nD τ) (Pipeline.ucRefs τ sig) (setOut W f) : sProp 𝕄) := by
  rw [held_out]
  have e1 : setOut W f (Proc.devRef .tc main_v73) = f := Function.update_self _ _ _
  rw [e1]
  refine sep_mono_right (Entails.of_eq (bigSep_congr fun b hb => ?_))
  have e2 : setOut W f b = W b := Function.update_of_ne (Finset.ne_of_mem_erase hb) _ _
  rw [e2]

/-- The SparseCore call: the result array handed over in its parts and taken back, at contents not described. -/
theorem sc_step (κ : GSem nD τ sig → ℕ) (d : Dev nD) (k : PUnit → Prog (TpuEff nD τ sig (Elt F) (SparseCore.Sig (ΛP (F := F)) 1) .tc) PUnit) (Q : PUnit → sProp 𝕄) :
    iprop((K (F := F)).ctx (EH (F := F)) P κ ∗ (K (F := F)).tcSt (EH (F := F)) d 0 ∗ HS m d)
      ⊢ iprop((((K (F := F)).tcSt (EH (F := F)) d 1 ∗ HS m d) -∗ wp frame (wpE ((K (F := F)).defs (D (F := F))) 𝒱 (d : Thread nD τ) none) Set.univ (k ⟨⟩) Q)
          -∗ wp frame (wpE ((K (F := F)).defs (D (F := F))) 𝒱 (d : Thread nD τ) none) Set.univ ((K (F := F)).run d 0 >>= k) Q) := by
  iintro ⟨#Hctx, Hst, %W, %hW, Hh⟩ Hk
  ihave Hh' := (Entails.of_eq (held_out d W)) $$ Hh
  icases Hh' with ⟨Ho, Hrest⟩
  rw [wp_bind]
  iapply ((K (F := F)).wp_run (D (F := F)) 𝒱 (EH := EH) (P := P) κ d 0) $$ [Hst Ho Hrest Hk]
  isplitr; · iexact Hctx
  isplitl [Hst]; · iexact Hst
  isplitl [Ho]
  · iapply (out_split (F := F) d (W (Proc.devRef .tc main_v73))) $$ Ho
  iintro ⟨Hst, Hdn⟩
  ihave Ho := (show (bigSep Finset.univ fun c : Fin ((K (F := F)).nCore 0) => (P (F := F)).dn 0 d c) ⊢ (iprop(∃ f, oLoc d ↦{fullShare} f) : sProp 𝕄) from
    out_join (F := F) d (W (Proc.devRef .tc main_v73))) $$ Hdn
  icases Ho with ⟨%f, Ho⟩
  iapply Hk
  isplitl [Hst]; · iexact Hst
  iexists (setOut W f)
  isplitr
  · ipureintro; exact fun a ha => (setOut_args W f a ha).trans (hW a ha)
  iapply (held_setOut d W f)
  isplitl [Ho] <;> iassumption

/-! ## @main -/

/-- The bookkeeping of the three TensorCore kernels' copies. -/
def G (d : Dev nD) : sProp 𝕄 :=
  bigSep Finset.univ fun p : Fin 3 => iprop(Pipeline.cellsGhost (Pipeline.pin (pcfgs (F := F)) adm) (EP (F := F)) p d
    ∗ Pipeline.toksInit (Pipeline.pin (pcfgs (F := F)) adm) (EP (F := F)) p d)

theorem G_eq (d : Dev nD) : G (F := F) d
    = iprop((Pipeline.cellsGhost (Pipeline.pin (pcfgs (F := F)) adm) (EP (F := F)) 0 d ∗ Pipeline.toksInit (Pipeline.pin (pcfgs (F := F)) adm) (EP (F := F)) 0 d)
      ∗ (Pipeline.cellsGhost (Pipeline.pin (pcfgs (F := F)) adm) (EP (F := F)) 1 d ∗ Pipeline.toksInit (Pipeline.pin (pcfgs (F := F)) adm) (EP (F := F)) 1 d)
      ∗ (Pipeline.cellsGhost (Pipeline.pin (pcfgs (F := F)) adm) (EP (F := F)) 2 d ∗ Pipeline.toksInit (Pipeline.pin (pcfgs (F := F)) adm) (EP (F := F)) 2 d)) := by
  unfold G
  rw [show (Finset.univ : Finset (Fin 3)) = {0, 1, 2} by decide, SparseCore.bigSep_insert' (by decide), SparseCore.bigSep_insert' (by decide), bigSep_singleton]

/-- The TensorCore's state between the calls: what it owes apart. -/
theorem tcSt_owes (d : Dev nD) (n : ℕ) (hn : SparseCore.Cfg.Blocks.fst (Q := 1) (N := 1) n = n) :
    ∃ R : sProp 𝕄, (K (F := F)).tcSt (EH (F := F)) d n = iprop(OW (F := F) n d ∗ R) :=
  ⟨_, by unfold SparseCore.Cfg.tcSt; rw [hn]⟩

theorem hmain [∀ e, Nonempty (Elt F e)] (κ : GSem nD τ sig → ℕ) (d : Dev nD) :
    iprop((K (F := F)).ctx (EH (F := F)) P κ ∗ (K (F := F)).tcSt (EH (F := F)) d 0 ∗ (K (F := F)).tcRes m ρ d
        ∗ G (F := F) d)
      ⊢ wp frame (wpE ((K (F := F)).defs (D (F := F))) 𝒱 (SparseCore.T d) none) Set.univ (main d)
          fun _ => iprop((K (F := F)).tcSt (EH (F := F)) d 1 ∗ HS m d ∗ (K (F := F)).tcEnd d) := by
  obtain ⟨R0, hR0⟩ := tcSt_owes (F := F) d 0 rfl
  obtain ⟨R1, hR1⟩ := tcSt_owes (F := F) d 1 rfl
  rw [main_chain]
  simp only [Pipeline.chain_cons, Pipeline.chain_nil]
  unfold SparseCore.Cfg.tcRes SparseCore.Cfg.tcEnd
  rw [show (unscopedBufs d (fun b => m ((SparseCore.T d).loc b)) : sProp 𝕄)
      = StableHlo.held (d : Thread nD τ) (Pipeline.ucRefs τ sig) (fun b => m ((d, b) : Loc nD τ sig)) from
    Pipeline.unscopedBufs_held d (fun b => m ((d, b) : Loc nD τ sig))]
  rw [G_eq]
  iintro ⟨#Hctx, Hst, ⟨Hb, Hh, Hts, Hp⟩, ⟨Hg0, Ht0⟩, ⟨Hg1, Ht1⟩, Hg2, Ht2⟩
  ihave #Hlv := (SparseCore.Cfg.ctx_levAts κ) $$ Hctx
  iapply (host_step m d host0 host0_W host0_sub host0_fresh host0_writes host0_args _ _) $$ [Hb Hh]
  · isplitl [Hb]; · iexact Hb
    iexists (fun b => m ((d, b) : Loc nD τ sig)); isplitr
    · ipureintro; exact fun _ _ => rfl
    · iexact Hh
  iintro H; iapply (host_step m d host1 host1_W host1_sub host1_fresh host1_writes host1_args _ _) $$ H
  iintro H; iapply (host_step m d host2 host2_W host2_sub host2_fresh host2_writes host2_args _ _) $$ H
  iintro H; iapply (host_step m d host3 host3_W host3_sub host3_fresh host3_writes host3_args _ _) $$ H
  iintro H; iapply (host_step m d host4 host4_W host4_sub host4_fresh host4_writes host4_args _ _) $$ H
  iintro H; iapply (host_step m d host5 host5_W host5_sub host5_fresh host5_writes host5_args _ _) $$ H
  iintro ⟨Hb, Hh⟩
  ihave Hst' := (Entails.of_eq hR0) $$ Hst
  icases Hst' with ⟨HO, HR⟩
  iapply (step0 m d 0 _ _) $$ [Hb Hh Hp HO Hg0 Ht0]
  · isplitr [Hg0 Ht0]
    · isplitl [Hb]; · iexact Hb
      isplitl [Hh]; · iexact Hh
      isplitl [Hp]; · iexists (ρ d); iexact Hp
      isplitl [HO]; · iexact HO
      iexact Hlv
    · isplitl [Hg0] <;> iassumption
  iintro ⟨Hb, Hh, Hp, HO⟩
  iapply (step1 m d 0 _ _) $$ [Hb Hh Hp HO Hg1 Ht1]
  · isplitr [Hg1 Ht1]
    · isplitl [Hb]; · iexact Hb
      isplitl [Hh]; · iexact Hh
      isplitl [Hp]; · iexact Hp
      isplitl [HO]; · iexact HO
      iexact Hlv
    · isplitl [Hg1] <;> iassumption
  iintro ⟨Hb, Hh, Hp, HO⟩
  iapply (host_step m d host6 host6_W host6_sub host6_fresh host6_writes host6_args _ _) $$ [Hb Hh]
  · isplitl [Hb] <;> iassumption
  iintro ⟨Hb, Hh⟩
  iapply (sc_step m κ d _ _) $$ [Hh HO HR]
  · isplitr; · iexact Hctx
    isplitr [Hh]
    · iapply (Entails.of_eq hR0.symm); isplitl [HO] <;> iassumption
    · iexact Hh
  iintro ⟨Hst, Hh⟩
  ihave Hst' := (Entails.of_eq hR1) $$ Hst
  icases Hst' with ⟨HO, HR⟩
  iapply (host_step m d host7 host7_W host7_sub host7_fresh host7_writes host7_args _ _) $$ [Hb Hh]
  · isplitl [Hb] <;> iassumption
  iintro ⟨Hb, Hh⟩
  iapply (step3 m d 1 _ _) $$ [Hb Hh Hp HO Hg2 Ht2]
  · isplitr [Hg2 Ht2]
    · isplitl [Hb]; · iexact Hb
      isplitl [Hh]; · iexact Hh
      isplitl [Hp]; · iexact Hp
      isplitl [HO]; · iexact HO
      iexact Hlv
    · isplitl [Hg2] <;> iassumption
  iintro ⟨Hb, Hh, Hp, HO⟩
  iapply (host_step m d host8 host8_W host8_sub host8_fresh host8_writes host8_args _ _) $$ [Hb Hh]
  · isplitl [Hb] <;> iassumption
  iintro ⟨Hb, Hh⟩
  rw [wp_pure]; imodintro
  isplitl [HO HR]
  · iapply (Entails.of_eq hR1.symm); isplitl [HO] <;> iassumption
  isplitl [Hh]; · iexact Hh
  isplitl [Hb] <;> iassumption

/-! ## The launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

def u₀ : UU := (initOf (K (F := F)).hsCells (K (F := F)).hsToks,
  (initOf (Pipeline.cells (nD := nD) (τ := τ) cfgs cellOf_inj) (Pipeline.launchToks (nD := nD) (τ := τ) cfgs cellOf_inj), 1))

theorem ownU_split (a : UH) (b : UP × Counters) : (ownU (a, b) : sProp 𝕄) ⊢ iprop(BI.own (EH (F := F) a) ∗ ownU ((1 : UH), b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem xs_emp : (iprop(emp) : sProp 𝕄) ⊢ bigSep Finset.univ fun thr : Thread nD τ => bigSep Finset.univ fun q : Fin 1 => (P (F := F)).x q thr := by
  show _ ⊢ bigSep Finset.univ fun _ : Thread nD τ => bigSep Finset.univ fun _ : Fin 1 => (iprop(emp) : sProp 𝕄)
  exact Entails.of_eq ((bigSep_congr fun _ _ => bigSep_emp_const _).trans (bigSep_emp_const _)).symm

theorem ghosts_deal :
    iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => Pipeline.toksInit (Pipeline.pin (pcfgs (F := F)) adm) (EP (F := F)) p c))
      ⊢ (bigSep Finset.univ fun d : Dev nD => G (F := F) d : sProp 𝕄) := by
  rw [← bigSep_sep']
  refine Entails.of_eq (bigSep_congr fun d _ => ?_)
  rw [← bigSep_sep']
  rfl

theorem hu₀ : (ownU (u₀ (F := F)) : sProp 𝕄)
    ⊢ |={Set.univ}=> iprop(BI.own (EH (F := F) (initOf (K (F := F)).hsCells (K (F := F)).hsToks))
        ∗ (bigSep Finset.univ fun d : Dev nD => G (F := F) d)
        ∗ bigSep Finset.univ fun thr : Thread nD τ => bigSep Finset.univ fun q : Fin 1 => (P (F := F)).x q thr) := by
  unfold u₀
  iintro Hu
  ihave H := (ownU_split _ _) $$ Hu
  icases H with ⟨HH, HP⟩
  ihave HP' := (show (ownU ((1 : UH), ((initOf (Pipeline.cells (nD := nD) (τ := τ) cfgs cellOf_inj) (Pipeline.launchToks (nD := nD) (τ := τ) cfgs cellOf_inj), 1) : UP × Counters)) : sProp 𝕄)
    ⊢ BI.own (EP (F := F) (initOf (Pipeline.cells (nD := nD) (τ := τ) cfgs cellOf_inj) (Pipeline.launchToks (nD := nD) (τ := τ) cfgs cellOf_inj))) from .rfl) $$ HP
  imod (Pipeline.fund_ghost (Pipeline.pin (pcfgs (F := F)) adm) (EP (F := F)) cellOf_inj) $$ HP' with Hg
  imodintro
  isplitl [HH]; · iexact HH
  isplitl [Hg]
  · iapply ghosts_deal; iexact Hg
  · iapply xs_emp; iempintro

def kept (d : Dev nD) (μ : MemSt nD τ sig (Elt F)) : Prop := ∀ a ∈ argRefs, μ.mem ((d : Thread nD τ).loc a) = m ((d : Thread nD τ).loc a)

theorem args_uc : ∀ a ∈ argRefs, (Proc.devRef .tc a : DevRef τ sig) ∈ Pipeline.ucRefs τ sig := fun a ha =>
  Finset.mem_filter.mpr ⟨StableHlo.devRef_mem_tcRefs a,
    (ListAll.forall_mem_of_all_decide (by decide +kernel) : ∀ a ∈ argRefs, ¬ (Proc.devRef .tc a : DevRef τ sig).isScoped) a ha⟩

theorem hfin (d : Dev nD) (s' : Phys nD τ sig (Elt F)) : iprop(HS m d ∗ SI s') ⊢ (⌜kept m d s'.mem⌝ : sProp 𝕄) := by
  iintro ⟨⟨%W, %hW, Hh⟩, HSI⟩
  unfold StableHlo.held
  ihave H := (pointsTo_read_all (Pipeline.ucRefs τ sig) (fun b => ((d, b) : Loc nD τ sig)) W s') $$ [Hh HSI]
  · isplitl [Hh] <;> iassumption
  icases H with ⟨%h, -⟩
  ipureintro
  exact fun a ha => (h _ (args_uc a ha)).trans (hW a ha)

/-- All executions of `kernel` from counters at zero end, nothing faulting, the argument arrays as launched and every
    counter at zero. -/
theorem run_main [∀ e, Nonempty (Elt F e)] :
    θ_run (Cert.KernelIdeal.defs (F := F)) (Cert.KernelIdeal.threads (F := F)) ⟨m, fun _ => 0, ρ⟩ (fun r => (∀ d, kept m d r.2) ∧ r.2.sem = fun _ => 0) :=
  SparseCore.Cfg.θ_run_sc_quiescent (K := K (F := F)) (D := D (F := F)) (𝒱 := 𝒱) (EH := EH) (P := P) (A := ∅) facts v₀
    (fun q hq => match q with | 0 => nomatch hq)
    (fun q _ => match q with | 0 => tileObl facts)
    (fun q _ => match q with | 0 => SparseCore.Cfg.VecSplit.of_plain vecSplit)
    m ρ main (G (F := F)) (HS m) (u₀ (F := F)) (sep_elim_left.trans hu₀)
    (hmain m ρ) (fun d s' => kept m d s'.mem) (hfin m) _ (fun _ h hz => ⟨h, hz⟩)

end Main

/-- The frame of `kernel`. -/
theorem frame [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (Cert.KernelIdeal.defs (F := F)) _ _).mono (fun _ h => ⟨fun c =>
    ⟨h.1 c main_arg0 (by simp [argRefs]), h.1 c main_arg1 (by simp [argRefs]), h.1 c main_arg2 (by simp [argRefs]),
      h.1 c main_arg3 (by simp [argRefs]), h.1 c main_arg4 (by simp [argRefs])⟩, h.2⟩) (run_main m ρ)

end Cert.KernelIdeal.Whole

end
-- ==== Proof.RoutingWords.lean ====
/-
  What the rows loop of the SparseCore call computes, as plain functions of what two scratch arrays hold: the weights
  `w` (1024 words) and the rows `r` (1024 rows of 64 words). Token `q` of a subcore's 128 gets, in column `c`, the sum
  over `k = 0 .. 7` of `w[128 k + q] * r[128 k + q, c]`, added up in that order from zero (`row`). The kernel forms it
  sixteen columns at a time (`acc`), and stores four blocks of sixteen words (`put`).
-/
module

public import proofs.«01_k».proof.Defs
public import proofs.«01_k».proof.Proof.Gen.Routing
public import proofs.«01_k».proof.Proof.Gen.Routing.Skeleton
public import Idealize.ShloMosaic.Lib.SparseCore.Quiescent
public import Idealize.ShloMosaic.Lib.SparseCore.Ops
public import Idealize.ShloMosaic.Lib.Tactic
public import Idealize.ShloMosaic.Lib.WordCmp

@[expose] public section

set_option maxRecDepth 16384

noncomputable section

namespace Cert.Routing.Whole

open Cert.Routing Cert.Routing.Gen
open Idealize.ShloMosaic

variable {F : FTy → Type} [FloatOps F]

/-! ## Sixteen columns of a row -/

/-- Word `n` of the weights. -/
def ix1 (n : ℕ) : S1024.Idx := fun a => ⟨n % S1024.size a, Nat.mod_lt _ ((by decide : ∀ a, 0 < S1024.size a) a)⟩
/-- Row `n`, column `c` of the rows. -/
def ix2 (n c : ℕ) : S1024x64.Idx :=
  fun a => ⟨(![n, c] : Fin 2 → ℕ) a % S1024x64.size a, Nat.mod_lt _ ((by decide : ∀ a, 0 < S1024x64.size a) a)⟩

/-- The weight of token `q` in block `k`, in every lane. -/
def wv (w : Vec F S1024 .f32) (q k : ℕ) : Vec F S16 .f32 := fun _ => w (ix1 (128 * k + q))
/-- The row of token `q` in block `k`, at the columns `p` names. -/
def rv (r : Vec F S1024x64 .f32) (q : ℕ) (p : IVec S16 32) (k : ℕ) : Vec F S16 .f32 := fun x => r (ix2 (128 * k + q) (p x).toNat)

/-- The sum over the first `n` blocks, at the columns `p` names. -/
def acc (w : Vec F S1024 .f32) (r : Vec F S1024x64 .f32) (q : ℕ) (p : IVec S16 32) : ℕ → FVec F S16 .f32
  | 0 => broadcast S16 (Scalar.ofBits .f32 0x00000000#32 : F .f32)
  | n + 1 => addf (acc w r q p n) (mulf (wv w q n) (rv r q p n))

/-- Token `q`'s output in column `c`. -/
def row (w : Vec F S1024 .f32) (r : Vec F S1024x64 .f32) (q c : ℕ) : Elt F .f32 :=
  acc w r q (fun _ => BitVec.ofNat 32 c) 8 (fun a => ⟨0, (by decide : ∀ a, 0 < S16.size a) a⟩)

/-- A lane's sum depends on the column its lane names only. -/
theorem acc_lane (w : Vec F S1024 .f32) (r : Vec F S1024x64 .f32) (q : ℕ) {p p' : IVec S16 32} {x x' : S16.Idx}
    (h : (p x).toNat = (p' x').toNat) (n : ℕ) : acc w r q p n x = acc w r q p' n x' := by
  induction n with
  | zero => rfl
  | succ n ih =>
    show FloatOps.addf (acc w r q p n x) (FloatOps.mulf (w (ix1 (128 * n + q))) (r (ix2 (128 * n + q) (p x).toNat)))
      = FloatOps.addf (acc w r q p' n x') (FloatOps.mulf (w (ix1 (128 * n + q))) (r (ix2 (128 * n + q) (p' x').toNat)))
    rw [ih, h]

theorem acc_row (w : Vec F S1024 .f32) (r : Vec F S1024x64 .f32) (q c : ℕ) {p : IVec S16 32} {x : S16.Idx}
    (h : (p x).toNat = c) (hc : c < 64) : acc w r q p 8 x = row w r q c :=
  acc_lane w r q (by rw [h, BitVec.toNat_ofNat]; omega) 8

/-! ## The indexed loads -/

theorem ld_w (w : Vec F S1024 .f32) {v : IVec S16 32} (h : ∀ a x, ((![v] : Fin S1024.rank → IVec S16 32) a x).toNat < S1024.size a) (q k : ℕ)
    (hv : ∀ x, (v x).toNat = 128 * k + q) : loadIdx w ![v] h = wv w q k := by
  funext x
  refine congrArg w (funext fun a => Fin.ext ?_)
  obtain rfl : a = 0 := Subsingleton.elim _ _
  have h0 : (v x).toNat < 1024 := h 0 x
  show (v x).toNat = (128 * k + q) % 1024
  rw [← hv x]; omega

theorem ld_r (r : Vec F S1024x64 .f32) {v p : IVec S16 32} (h : ∀ a x, ((![v, p] : Fin S1024x64.rank → IVec S16 32) a x).toNat < S1024x64.size a) (q k : ℕ)
    (hv : ∀ x, (v x).toNat = 128 * k + q) : loadIdx r ![v, p] h = rv r q p k := by
  funext x
  refine congrArg r (funext fun a => Fin.ext ?_)
  have h0 : (v x).toNat < 1024 := h 0 x
  have h1 : (p x).toNat < 64 := h 1 x
  obtain ⟨a, ha⟩ := a
  match a, ha with
  | 0, _ =>
    show (v x).toNat = (128 * k + q) % 1024
    rw [← hv x]; omega
  | 1, _ =>
    show (p x).toNat = (p x).toNat % 64
    omega

/-! ## The indexed store -/

theorem lane_ix {n : ℕ} {j : S8192.Idx} (h : n ≤ (j 0).val ∧ (j 0).val < n + 16) : (j 0).val - n < 16 := by omega

/-- `f` with sixteen words from word `n` on replaced by the lanes of `v`. -/
def put (f : Vec F S8192 .f32) (n : ℕ) (v : Vec F S16 .f32) : Vec F S8192 .f32 := fun j =>
  if h : n ≤ (j 0).val ∧ (j 0).val < n + 16 then v (Shape.ofLane ⟨(j 0).val - n, lane_ix h⟩) else f j

theorem put_in (f : Vec F S8192 .f32) (n : ℕ) (v : Vec F S16 .f32) {j : S8192.Idx} (h : n ≤ (j 0).val ∧ (j 0).val < n + 16) :
    put f n v j = v (Shape.ofLane ⟨(j 0).val - n, lane_ix h⟩) := dif_pos h
theorem put_out (f : Vec F S8192 .f32) (n : ℕ) (v : Vec F S16 .f32) {j : S8192.Idx} (h : ¬(n ≤ (j 0).val ∧ (j 0).val < n + 16)) :
    put f n v j = f j := dif_neg h

omit [FloatOps F] in
/-- Storing lanes one after another to distinct words: the words a lane is stored to hold it, the rest are as before. -/
theorem fold_put (n : ℕ) (v : Vec F S16 .f32) (step : Vec F S8192 .f32 → Fin 16 → Vec F S8192 .f32)
    (hs : ∀ g k j, step g k j = if (j 0).val = n + k.val then v (Shape.ofLane k) else g j) (l : List (Fin 16)) (g : Vec F S8192 .f32) (j : S8192.Idx) :
    l.foldl step g j = if h : n ≤ (j 0).val ∧ (j 0).val < n + 16 then
      (if (⟨(j 0).val - n, lane_ix h⟩ : Fin 16) ∈ l then v (Shape.ofLane ⟨(j 0).val - n, lane_ix h⟩) else g j) else g j := by
  induction l generalizing g with
  | nil => simp
  | cons k l ih =>
    rw [List.foldl_cons, ih, hs]
    by_cases h : n ≤ (j 0).val ∧ (j 0).val < n + 16
    · simp only [dif_pos h, List.mem_cons]
      by_cases e : (j 0).val = n + k.val
      · have ek : (⟨(j 0).val - n, lane_ix h⟩ : Fin 16) = k := Fin.ext (by show (j 0).val - n = k.val; omega)
        simp [e, ek]
      · have ek : (⟨(j 0).val - n, lane_ix h⟩ : Fin 16) ≠ k := fun c => e (by have := congrArg Fin.val c; dsimp only at this; omega)
        simp [e, ek]
    · have e : ¬(j 0).val = n + k.val := fun e => h (by have := k.isLt; omega)
      simp [dif_neg h, e]

theorem storeIdx_put (f : Vec F S8192 .f32) {u : IVec S16 32} (v : Vec F S16 .f32)
    (h : ∀ a x, ((![u] : Fin S8192.rank → IVec S16 32) a x).toNat < S8192.size a) (n : ℕ) (hu : ∀ x, (u x).toNat = n + (x 0).val) :
    storeIdx f ![u] v (fun _ => 1#1) false h = put f n v := by
  funext j
  refine (fold_put n v _ (fun g k j => ?_) (List.finRange 16) f j).trans ?_
  · refine (congrFun (if_pos (rfl : (1#1 : BitVec 1) = 1)) j).trans ?_
    by_cases e : (j 0).val = n + k.val
    · rw [if_pos e]
      exact (if_pos fun a => by obtain rfl : a = 0 := Subsingleton.elim _ _
                                exact e.trans (hu (Shape.ofLane k)).symm).trans (if_neg Bool.false_ne_true)
    · rw [if_neg e]
      exact if_neg fun c => e ((c 0).trans (hu (Shape.ofLane k)))
  · unfold put
    refine dite_congr rfl (fun h => ?_) fun _ => rfl
    rw [if_pos (List.mem_finRange _)]

/-! ## The tokens written so far -/

/-- Word `64 q + c` of the out scratch once the rows loop is through. -/
def outW (w : Vec F S1024 .f32) (r : Vec F S1024x64 .f32) : Vec F S8192 .f32 := fun j => row w r ((j 0).val / 64) ((j 0).val % 64)

/-- The first `n` tokens' words are written. -/
def Upto (w : Vec F S1024 .f32) (r : Vec F S1024x64 .f32) (n : ℕ) (f : Vec F S8192 .f32) : Prop :=
  ∀ j : S8192.Idx, (j 0).val < 64 * n → f j = outW w r j

theorem Upto.zero (w : Vec F S1024 .f32) (r : Vec F S1024x64 .f32) (f : Vec F S8192 .f32) : Upto w r 0 f := fun j h => absurd h (by omega)

theorem Upto.all {w : Vec F S1024 .f32} {r : Vec F S1024x64 .f32} {f : Vec F S8192 .f32} (h : Upto w r 128 f) : f = outW w r :=
  funext fun j => h j (j 0).isLt

/-- One token more: its four blocks of sixteen columns. -/
theorem Upto.step {w : Vec F S1024 .f32} {r : Vec F S1024x64 .f32} {n : ℕ} {f : Vec F S8192 .f32} (h : Upto w r n f) {p1 p2 p3 p4 : IVec S16 32}
    (h1 : ∀ x, (p1 x).toNat = 0 + (x 0).val) (h2 : ∀ x, (p2 x).toNat = 16 + (x 0).val)
    (h3 : ∀ x, (p3 x).toNat = 32 + (x 0).val) (h4 : ∀ x, (p4 x).toNat = 48 + (x 0).val) :
    Upto w r (n + 1) (put (put (put (put f (64 * n + 0) (acc w r n p1 8)) (64 * n + 16) (acc w r n p2 8)) (64 * n + 32) (acc w r n p3 8))
      (64 * n + 48) (acc w r n p4 8)) := by
  intro j hj
  have key : ∀ (p : IVec S16 32) (b : ℕ) (hp : ∀ x, (p x).toNat = b + (x 0).val) (hb : b ≤ 48) (hr : 64 * n + b ≤ (j 0).val ∧ (j 0).val < 64 * n + b + 16),
      acc w r n p 8 (Shape.ofLane ⟨(j 0).val - (64 * n + b), lane_ix hr⟩) = outW w r j := by
    intro p b hp hb hr
    unfold outW
    rw [show (j 0).val / 64 = n by omega]
    refine acc_row w r n _ ((hp _).trans ?_) (Nat.mod_lt _ (by decide))
    show b + ((j 0).val - (64 * n + b)) = _
    omega
  by_cases c4 : 64 * n + 48 ≤ (j 0).val ∧ (j 0).val < 64 * n + 48 + 16
  · rw [put_in _ _ _ c4]; exact key p4 48 h4 (by omega) c4
  rw [put_out _ _ _ c4]
  by_cases c3 : 64 * n + 32 ≤ (j 0).val ∧ (j 0).val < 64 * n + 32 + 16
  · rw [put_in _ _ _ c3]; exact key p3 32 h3 (by omega) c3
  rw [put_out _ _ _ c3]
  by_cases c2 : 64 * n + 16 ≤ (j 0).val ∧ (j 0).val < 64 * n + 16 + 16
  · rw [put_in _ _ _ c2]; exact key p2 16 h2 (by omega) c2
  rw [put_out _ _ _ c2]
  by_cases c1 : 64 * n + 0 ≤ (j 0).val ∧ (j 0).val < 64 * n + 0 + 16
  · rw [put_in _ _ _ c1]; exact key p1 0 h1 (by omega) c1
  rw [put_out _ _ _ c1]
  exact h j (by omega)

/-! ## The words: trip counts and lanes -/

theorem arg24_nat (t : Fin k0_t3_loop.trips) : (Scf.iv 0#32 1#32 t.val : BitVec 32).toNat = t.val := by
  have h := Nat.lt_of_lt_of_le t.isLt k0_t3_abs.2.1
  unfold Scf.iv
  simp only [BitVec.zero_add, BitVec.mul_one, BitVec.toNat_ofNat]
  omega

theorem t3_lt (t : Fin k0_t3_loop.trips) : t.val < 128 := Nat.lt_of_lt_of_le t.isLt k0_t3_abs.2.1

theorem arg24_lt (t : Fin k0_t3_loop.trips) : (Scf.iv 0#32 1#32 t.val : BitVec 32).toNat < 128 := (arg24_nat t).trans_lt (t3_lt t)

/-- The row a lane loads. -/
theorem row_nat (c : BitVec 32) {a : BitVec 32} (k : ℕ) (hc : c.toNat = 128 * k) (hk : k < 8) (ha : a.toNat < 128) (x : S16.Idx) :
    (broadcast S16 (Scalar.addi c a) x : BitVec 32).toNat = 128 * k + a.toNat := by
  show (c + a).toNat = _
  rw [BitVec.toNat_add, hc]; omega

/-- Lane `x` of `c + lanes`. -/
theorem lane_nat (c : BitVec 32) (hc : c.toNat ≤ 48) (x : S16.Idx) :
    (c + BitVec.ofNat 32 (0 * 16 + (x 0).val)).toNat = c.toNat + (x 0).val := by
  have hx : (x 0).val < 16 := (x 0).isLt
  rw [BitVec.toNat_add, BitVec.toNat_ofNat]; omega

theorem pay1_nat (x : S16.Idx) : (k0_pay1 x).toNat = 0 + (x 0).val := lane_nat 0#32 (by decide) x
theorem pay2_nat (x : S16.Idx) : (k0_pay2 x).toNat = 16 + (x 0).val := lane_nat 16#32 (by decide) x
theorem pay3_nat (x : S16.Idx) : (k0_pay3 x).toNat = 32 + (x 0).val := lane_nat 32#32 (by decide) x
theorem pay4_nat (x : S16.Idx) : (k0_pay4 x).toNat = 48 + (x 0).val := lane_nat 48#32 (by decide) x

/-- The word a lane stores to. -/
theorem out_nat {v : IVec S16 32} {a : BitVec 32} {b : ℕ} (hb : b ≤ 48) (hv : ∀ x, (v x).toNat = b + (x 0).val) (ha : a.toNat < 128) (x : S16.Idx) :
    (a * 64#32 + v x).toNat = 64 * a.toNat + b + (x 0).val := by
  have hx : (x 0).val < 16 := (x 0).isLt
  rw [BitVec.toNat_add, BitVec.toNat_mul, hv x, show (64#32 : BitVec 32).toNat = 64 from rfl]; omega

/-! ## Bounds -/

theorem addi_lt {c a : BitVec 32} {n k : ℕ} (hc : c.toNat ≤ n) (ha : a.toNat < k) (hn : n + k ≤ 2 ^ 32) : (c + a).toNat < n + k := by
  rw [BitVec.toNat_add]
  exact lt_of_le_of_lt (Nat.mod_le _ _) (by omega)

/-- The row a lane loads is below 1024. -/
theorem row_lt (c : BitVec 32) {a : BitVec 32} (hc : c.toNat ≤ 896) (ha : a.toNat < 128) (x : S16.Idx) :
    (broadcast S16 (Scalar.addi c a) x : BitVec 32).toNat < 1024 :=
  addi_lt hc ha (by omega)

/-- Lane `x` of `c + lanes` is below 64. -/
theorem lane_lt (c : BitVec 32) (hc : c.toNat ≤ 48) (x : S16.Idx) : (c + BitVec.ofNat 32 (0 * 16 + (x 0).val)).toNat < 64 := by
  have hx : (x 0).val < 16 := (x 0).isLt
  refine addi_lt (n := 48) (k := 16) hc ?_ (by omega)
  rw [BitVec.toNat_ofNat]; omega

/-- The word a lane stores to is below 8192. -/
theorem out_lt {v : IVec S16 32} {a : BitVec 32} (hv : ∀ x, (v x).toNat < 64) (ha : a.toNat < 128) (x : S16.Idx) :
    (a * 64#32 + v x).toNat < 8192 := by
  refine addi_lt (n := 8128) (k := 64) ?_ (hv x) (by omega)
  rw [BitVec.toNat_mul, show (64#32 : BitVec 32).toNat = 64 from rfl]
  exact (Nat.mod_le _ _).trans (by omega)

theorem pair_lt {v w : IVec S16 32} (hv : ∀ x, (v x).toNat < 1024) (hw : ∀ x, (w x).toNat < 64) :
    ∀ a x, ((![v, w] : Fin 2 → IVec S16 32) a x).toNat < S1024x64.size a := fun a x => by
  obtain ⟨a, ha⟩ := a
  match a, ha with
  | 0, _ => exact hv x
  | 1, _ => exact hw x

/-! ## Heads of the same words -/

/-- The output array with `fo` laid out over and over along every head: what a head's slice of it holds is `fo`. -/
def chunk (fo : Vec F S8192 .f32) : Vec F S12x262144 .f32 :=
  fun x => fo fun a => ⟨(x 1).val % S8192.size a, Nat.mod_lt _ ((by decide : ∀ a, 0 < S8192.size a) a)⟩

/-- Twelve heads of the same words. -/
def Alike (g : Vec F S12x262144 .f32) : Prop := ∀ x y : S12x262144.Idx, (x 1).val = (y 1).val → g x = g y

theorem chunk_alike (fo : Vec F S8192 .f32) : Alike (chunk fo) := fun x y h => by
  unfold chunk; simp only [h]

end Cert.Routing.Whole

end
-- ==== Proof.RoutingIdealWords.lean ====
/-
  The words of the SparseCore call, for its ideal reading: the functions of RoutingWords.lean are over any float type, so
  they are taken from there; the trip counts and the constant vectors are this program's own.
-/
module

public import proofs.«01_k».proof.Proof.RoutingWords
public import proofs.«01_k».proof.Proof.Gen.RoutingIdeal
public import proofs.«01_k».proof.Proof.Gen.RoutingIdeal.Skeleton

@[expose] public section

set_option maxRecDepth 16384

noncomputable section

namespace Cert.RoutingIdeal.Whole

open Cert.RoutingIdeal Cert.RoutingIdeal.Gen
open Idealize.ShloMosaic

export Cert.Routing.Whole (ix1 ix2 wv rv acc row acc_lane acc_row ld_w ld_r lane_ix put
  put_in put_out fold_put storeIdx_put outW Upto row_nat lane_nat out_nat
  addi_lt row_lt lane_lt out_lt pair_lt chunk Alike chunk_alike)

/-! ## The words: trip counts and lanes -/

theorem arg24_nat (t : Fin k0_t3_loop.trips) : (Scf.iv 0#32 1#32 t.val : BitVec 32).toNat = t.val := by
  have h := Nat.lt_of_lt_of_le t.isLt k0_t3_abs.2.1
  unfold Scf.iv
  simp only [BitVec.zero_add, BitVec.mul_one, BitVec.toNat_ofNat]
  omega

theorem t3_lt (t : Fin k0_t3_loop.trips) : t.val < 128 := Nat.lt_of_lt_of_le t.isLt k0_t3_abs.2.1

theorem arg24_lt (t : Fin k0_t3_loop.trips) : (Scf.iv 0#32 1#32 t.val : BitVec 32).toNat < 128 := (arg24_nat t).trans_lt (t3_lt t)

theorem pay1_nat (x : S16.Idx) : (k0_pay1 x).toNat = 0 + (x 0).val := lane_nat 0#32 (by decide) x
theorem pay2_nat (x : S16.Idx) : (k0_pay2 x).toNat = 16 + (x 0).val := lane_nat 16#32 (by decide) x
theorem pay3_nat (x : S16.Idx) : (k0_pay3 x).toNat = 32 + (x 0).val := lane_nat 32#32 (by decide) x
theorem pay4_nat (x : S16.Idx) : (k0_pay4 x).toNat = 48 + (x 0).val := lane_nat 48#32 (by decide) x

end Cert.RoutingIdeal.Whole

end
-- ==== Proof.RoutingIdealTile.lean ====
/-
  The SparseCore call, at symbolic SparseCore and tile, with the words it moves. For each of the 12 heads a vector
  subcore forms the output rows of its 128 tokens in its out scratch from two scratch arrays it found (every indexed
  load and store is checked, and the checks pass: the indices are trip counts and lanes), and copies the scratch to the
  head's slice of the output array, 8192 words at word `8192 * worker`. What the two arrays hold when the task starts
  is not known, but they do not change: so every head receives the same 8192 words, those of RoutingWords.lean.
-/
module

public import proofs.«01_k».proof.Proof.RoutingIdealWords

@[expose] public section

set_option maxRecDepth 16384

noncomputable section

namespace Cert.RoutingIdeal.Whole

open Cert.RoutingIdeal Cert.RoutingIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The program as the launch theorem sees it, and the ghost state -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the counts of a task's own copies. -/
abbrev UH : Type := Rounds.URounds (GSem nD τ sig) ℕ
abbrev UU : Type := UH × Counters

local notation "𝕄" => MT nD τ sig (HIx 1) (Elt F) ℕ UU ℕ

/-! ## The words: trip counts and lanes -/

theorem pay1_lt (x : S16.Idx) : (k0_pay1 x).toNat < 64 := lane_lt 0#32 (by decide) x
theorem pay2_lt (x : S16.Idx) : (k0_pay2 x).toNat < 64 := lane_lt 16#32 (by decide) x
theorem pay3_lt (x : S16.Idx) : (k0_pay3 x).toNat < 64 := lane_lt 32#32 (by decide) x
theorem pay4_lt (x : S16.Idx) : (k0_pay4 x).toNat < 64 := lane_lt 48#32 (by decide) x

theorem chk9_of {a : BitVec 32} (ha : a.toNat < 128) : k0_chk9 (k0_pay9 k0_pay1 a) := fun d x => by
  obtain rfl : d = 0 := Subsingleton.elim _ _
  exact out_lt pay1_lt ha x
theorem chk10_of {a : BitVec 32} (ha : a.toNat < 128) : k0_chk10 (k0_pay10 k0_pay2 a) := fun d x => by
  obtain rfl : d = 0 := Subsingleton.elim _ _
  exact out_lt pay2_lt ha x
theorem chk11_of {a : BitVec 32} (ha : a.toNat < 128) : k0_chk11 (k0_pay11 k0_pay3 a) := fun d x => by
  obtain rfl : d = 0 := Subsingleton.elim _ _
  exact out_lt pay3_lt ha x
theorem chk12_of {a : BitVec 32} (ha : a.toNat < 128) : k0_chk12 (k0_pay12 k0_pay4 a) := fun d x => by
  obtain rfl : d = 0 := Subsingleton.elim _ _
  exact out_lt pay4_lt ha x

/-- The check before the loads of one row of each head dimension block: all eight are this one. -/
theorem chk1_of {v : IVec S16 32} (hv : ∀ x, (v x).toNat < 1024) : k0_chk1 k0_pay1 k0_pay2 k0_pay3 k0_pay4 v :=
  ⟨fun a x => by obtain rfl : a = 0 := Subsingleton.elim _ _
                 exact hv x,
    pair_lt hv pay1_lt, pair_lt hv pay2_lt, pair_lt hv pay3_lt, pair_lt hv pay4_lt⟩

/-! ## One indexed load or store, one check -/

section Tile

variable (d : Dev nD) (i : grid0.Coords)

/-- The vector subcore at grid coordinates `i`. -/
abbrev tV : Thread nD τ := V d ((i 0).castLE hcore0) ((i 1).castLE hsub0)

abbrev a18 : Memref sig .scVector .vmem S1024 .f32 := Memref.whole cc0_scratch10
abbrev a19 : Memref sig .scVector .vmem S1024x64 .f32 := Memref.whole cc0_scratch11
abbrev a20 : Memref sig .scVector .vmem S8192 .f32 := Memref.whole cc0_scratch12

/-- The two scratch buffers the rows loop reads, whole, at given contents, and the one it writes. -/
def s18 (w : Vec F S1024 .f32) : sProp 𝕄 := (tV d i).loc cc0_scratch10 ↦{fullShare} w
def s19 (r : Vec F S1024x64 .f32) : sProp 𝕄 := (tV d i).loc cc0_scratch11 ↦{fullShare} r
def s20 (f : Vec F S8192 .f32) : sProp 𝕄 := (tV d i).loc cc0_scratch12 ↦{fullShare} f

variable {d i}

abbrev wpV {α : Type} (p : Prog (TpuEff nD τ sig (Elt F) Λ₀ (.scVector ((i 0).castLE hcore0) ((i 1).castLE hsub0))) α) (Q : α → sProp 𝕄) : sProp 𝕄 :=
  wp frame (wpE (defs₀ (F := F)) 𝒱₀ (tV d i) none) Set.univ p Q

theorem wp_ld18 {α : Type} {w : Vec F S1024 .f32} {v : IVec S16 32} (q n : ℕ) (hv : ∀ x, (v x).toNat = 128 * n + q)
    {h : ∀ a x, ((![v] : Fin S1024.rank → IVec S16 32) a x).toNat < S1024.size a} {hl : a18.view.Loads}
    {k : Vec F S16 .f32 → Prog (TpuEff nD τ sig (Elt F) Λ₀ (.scVector ((i 0).castLE hcore0) ((i 1).castLE hsub0))) α} {Q : α → sProp 𝕄} :
    s18 d i w ⊢ iprop((s18 d i w -∗ wpV (d := d) (k (wv w q n)) Q) -∗ wpV (d := d) (SparseCore.vectorLoadIdx a18 ![v] h hl >>= k) Q) := by
  unfold s18 wpV
  rw [← ld_w w h q n hv]
  have e : (a18.access (.whole S1024)).read (Elt F) w = w := Memref.read_access_whole (Elt F) cc0_scratch10 w
  have := SparseCore.wp_vectorLoadIdx (defs := defs₀ (F := F)) (h := h) (hl := hl) (k := k) (Q := Q) (f := w) 𝒱₀ (tV d i) none Set.univ (base := a18) (S := Finset.univ) (q := fullShare) (Finset.subset_univ _)
  rw [e] at this
  exact this

theorem wp_ld19 {α : Type} {r : Vec F S1024x64 .f32} {v p : IVec S16 32} (q n : ℕ) (hv : ∀ x, (v x).toNat = 128 * n + q)
    {h : ∀ a x, ((![v, p] : Fin S1024x64.rank → IVec S16 32) a x).toNat < S1024x64.size a} {hl : a19.view.Loads}
    {k : Vec F S16 .f32 → Prog (TpuEff nD τ sig (Elt F) Λ₀ (.scVector ((i 0).castLE hcore0) ((i 1).castLE hsub0))) α} {Q : α → sProp 𝕄} :
    s19 d i r ⊢ iprop((s19 d i r -∗ wpV (d := d) (k (rv r q p n)) Q) -∗ wpV (d := d) (SparseCore.vectorLoadIdx a19 ![v, p] h hl >>= k) Q) := by
  unfold s19 wpV
  rw [← ld_r r h q n hv]
  have e : (a19.access (.whole S1024x64)).read (Elt F) r = r := Memref.read_access_whole (Elt F) cc0_scratch11 r
  have := SparseCore.wp_vectorLoadIdx (defs := defs₀ (F := F)) (h := h) (hl := hl) (k := k) (Q := Q) (f := r) 𝒱₀ (tV d i) none Set.univ (base := a19) (S := Finset.univ) (q := fullShare) (Finset.subset_univ _)
  rw [e] at this
  exact this

omit [FloatOps F] in
theorem pts_a20 (f : Buf (Elt F) ((tV d i).loc cc0_scratch12)) :
    ((a20.access (.whole S8192)).loc (tV d i) ↦[(a20.access (.whole S8192)).set]{fullShare} f : sProp 𝕄)
      = (tV d i).loc cc0_scratch12 ↦{fullShare} f := by
  rw [show (a20.access (.whole S8192)).set = Finset.univ from Memref.set_access_whole (cc0_scratch12 : Ref sig .scVector)]

theorem wp_st20 {α : Type} {f : Vec F S8192 .f32} {u : IVec S16 32} {v : Vec F S16 .f32} (n : ℕ) (hu : ∀ x, (u x).toNat = n + (x 0).val)
    {h : ∀ a x, ((![u] : Fin S8192.rank → IVec S16 32) a x).toNat < S8192.size a} {hs : (a20.access (.whole S8192)).Stores Finset.univ}
    {k : PUnit → Prog (TpuEff nD τ sig (Elt F) Λ₀ (.scVector ((i 0).castLE hcore0) ((i 1).castLE hsub0))) α} {Q : α → sProp 𝕄} :
    s20 d i f ⊢ iprop((s20 d i (put f n v) -∗ wpV (d := d) (k ⟨⟩) Q)
      -∗ wpV (d := d) (SparseCore.vectorStoreIdx a20 ![u] v (fun _ => 1#1) false h hs >>= k) Q) := by
  unfold s20 wpV
  rw [← storeIdx_put f v h n hu]
  have e : (a20.access (.whole S8192)).read (Elt F) f = f := Memref.read_access_whole (Elt F) cc0_scratch12 f
  have e' : ∀ y, (a20.access (.whole S8192)).write (Elt F) f y Finset.univ = y := fun y => Memref.write_access_whole_univ (Elt F) cc0_scratch12 f y
  have := SparseCore.wp_vectorStoreIdx (defs := defs₀ (F := F)) (v := v) (mask := fun _ => 1#1) (add := false) (h := h) (hs := hs) (k := k) (Q := Q) (f := f) 𝒱₀ (tV d i) none Set.univ (base := a20)
  rw [e, e', pts_a20, pts_a20] at this
  exact this

theorem wp_chk {α : Type} {P : Prop} {dec : Decidable P} (h : P)
    {k : PLift P → Prog (TpuEff nD τ sig (Elt F) Λ₀ (.scVector ((i 0).castLE hcore0) ((i 1).castLE hsub0))) α} {Q : α → sProp 𝕄} :
    wpV (d := d) (k ⟨h⟩) Q ⊢ wpV (d := d) (Prog.lift (TpuEff.assume P dec) >>= k) Q :=
  wp_assume 𝒱₀ (tV d i) none Set.univ h

/-- A program and what follows it, the second's other resources carried across the first. -/
theorem wp_then {α β : Type} {p : Prog (TpuEff nD τ sig (Elt F) Λ₀ (.scVector ((i 0).castLE hcore0) ((i 1).castLE hsub0))) β}
    {k : β → Prog (TpuEff nD τ sig (Elt F) Λ₀ (.scVector ((i 0).castLE hcore0) ((i 1).castLE hsub0))) α} {R : β → sProp 𝕄} {Q : α → sProp 𝕄} {A B : sProp 𝕄}
    (hp : A ⊢ wpV (d := d) p R) (hk : ∀ x, iprop(R x ∗ B) ⊢ wpV (d := d) (k x) Q) : iprop(A ∗ B) ⊢ wpV (d := d) (p >>= k) Q := by
  unfold wpV at *
  rw [wp_bind]
  exact ((sep_mono_left hp).trans (wp_frame_r _ _ _)).trans (wp_mono _ _ _ hk)

/-! ## A row -/

/-- The first three rows a lane sums: one check and five loads each. -/
theorem part1_wp (w : Vec F S1024 .f32) (r : Vec F S1024x64 .f32) (t : Fin k0_t3_loop.trips) :
    iprop(s18 d i w ∗ s19 d i r)
      ⊢ wpV (d := d) (k0_part1 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0 k0_pay1 k0_pay2 k0_pay3 k0_pay4 0#32 1#32 t)
          fun y => iprop(⌜y = ⟨Scf.iv 0#32 1#32 t.val, acc w r t.val k0_pay1 3, acc w r t.val k0_pay2 3, acc w r t.val k0_pay3 3, acc w r t.val k0_pay4 3⟩⌝ ∗ s18 d i w ∗ s19 d i r) := by
  have ha := arg24_lt t
  have hr := fun (c : BitVec 32) (k : ℕ) (hc : c.toNat = 128 * k) (hk : k < 8) => fun x => (row_nat c k hc hk ha x).trans (congrArg (128 * k + ·) (arg24_nat t))
  rw [k0_part1_eq_skeleton]; unfold k0_part1_skel
  iintro ⟨H18, H19⟩
  iapply (wp_chk (F := F) (chk1_of (row_lt 0#32 (by decide) ha)))
  iapply (wp_ld18 (F := F) t.val 0 (hr 0#32 0 rfl (by decide))) $$ H18; iintro H18
  iapply (wp_ld19 (F := F) t.val 0 (hr 0#32 0 rfl (by decide))) $$ H19; iintro H19
  iapply (wp_ld19 (F := F) t.val 0 (hr 0#32 0 rfl (by decide))) $$ H19; iintro H19
  iapply (wp_ld19 (F := F) t.val 0 (hr 0#32 0 rfl (by decide))) $$ H19; iintro H19
  iapply (wp_ld19 (F := F) t.val 0 (hr 0#32 0 rfl (by decide))) $$ H19; iintro H19
  iapply (wp_chk (F := F) (chk1_of (row_lt 128#32 (by decide) ha)))
  iapply (wp_ld18 (F := F) t.val 1 (hr 128#32 1 rfl (by decide))) $$ H18; iintro H18
  iapply (wp_ld19 (F := F) t.val 1 (hr 128#32 1 rfl (by decide))) $$ H19; iintro H19
  iapply (wp_ld19 (F := F) t.val 1 (hr 128#32 1 rfl (by decide))) $$ H19; iintro H19
  iapply (wp_ld19 (F := F) t.val 1 (hr 128#32 1 rfl (by decide))) $$ H19; iintro H19
  iapply (wp_ld19 (F := F) t.val 1 (hr 128#32 1 rfl (by decide))) $$ H19; iintro H19
  iapply (wp_chk (F := F) (chk1_of (row_lt 256#32 (by decide) ha)))
  iapply (wp_ld18 (F := F) t.val 2 (hr 256#32 2 rfl (by decide))) $$ H18; iintro H18
  iapply (wp_ld19 (F := F) t.val 2 (hr 256#32 2 rfl (by decide))) $$ H19; iintro H19
  iapply (wp_ld19 (F := F) t.val 2 (hr 256#32 2 rfl (by decide))) $$ H19; iintro H19
  iapply (wp_ld19 (F := F) t.val 2 (hr 256#32 2 rfl (by decide))) $$ H19; iintro H19
  iapply (wp_ld19 (F := F) t.val 2 (hr 256#32 2 rfl (by decide))) $$ H19; iintro H19
  unfold wpV
  rw [wp_pure]; imodintro
  isplitr; · ipureintro; rfl
  isplitl [H18]; · iexact H18
  iexact H19

/-- The next four rows, the last one's last two loads aside. -/
theorem part2_wp (w : Vec F S1024 .f32) (r : Vec F S1024x64 .f32) (a : BitVec 32) (ha : a.toNat < 128) :
    iprop(s18 d i w ∗ s19 d i r)
      ⊢ wpV (d := d) (k0_part2 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0 k0_pay1 k0_pay2 k0_pay3 k0_pay4 a (acc w r a.toNat k0_pay1 3) (acc w r a.toNat k0_pay2 3) (acc w r a.toNat k0_pay3 3) (acc w r a.toNat k0_pay4 3))
          fun y => iprop(⌜∃ hw, y = ⟨acc w r a.toNat k0_pay2 6, acc w r a.toNat k0_pay3 6, acc w r a.toNat k0_pay4 6, broadcast S16 (Scalar.addi 768#32 a), hw, wv w a.toNat 6, acc w r a.toNat k0_pay1 7, rv r a.toNat k0_pay2 6⟩⌝ ∗ s18 d i w ∗ s19 d i r) := by
  rw [k0_part2_eq_skeleton]; unfold k0_part2_skel
  iintro ⟨H18, H19⟩
  iapply (wp_chk (F := F) (chk1_of (row_lt 384#32 (by decide) ha)))
  iapply (wp_ld18 (F := F) a.toNat 3 (row_nat 384#32 3 rfl (by decide) ha)) $$ H18; iintro H18
  iapply (wp_ld19 (F := F) a.toNat 3 (row_nat 384#32 3 rfl (by decide) ha)) $$ H19; iintro H19
  iapply (wp_ld19 (F := F) a.toNat 3 (row_nat 384#32 3 rfl (by decide) ha)) $$ H19; iintro H19
  iapply (wp_ld19 (F := F) a.toNat 3 (row_nat 384#32 3 rfl (by decide) ha)) $$ H19; iintro H19
  iapply (wp_ld19 (F := F) a.toNat 3 (row_nat 384#32 3 rfl (by decide) ha)) $$ H19; iintro H19
  iapply (wp_chk (F := F) (chk1_of (row_lt 512#32 (by decide) ha)))
  iapply (wp_ld18 (F := F) a.toNat 4 (row_nat 512#32 4 rfl (by decide) ha)) $$ H18; iintro H18
  iapply (wp_ld19 (F := F) a.toNat 4 (row_nat 512#32 4 rfl (by decide) ha)) $$ H19; iintro H19
  iapply (wp_ld19 (F := F) a.toNat 4 (row_nat 512#32 4 rfl (by decide) ha)) $$ H19; iintro H19
  iapply (wp_ld19 (F := F) a.toNat 4 (row_nat 512#32 4 rfl (by decide) ha)) $$ H19; iintro H19
  iapply (wp_ld19 (F := F) a.toNat 4 (row_nat 512#32 4 rfl (by decide) ha)) $$ H19; iintro H19
  iapply (wp_chk (F := F) (chk1_of (row_lt 640#32 (by decide) ha)))
  iapply (wp_ld18 (F := F) a.toNat 5 (row_nat 640#32 5 rfl (by decide) ha)) $$ H18; iintro H18
  iapply (wp_ld19 (F := F) a.toNat 5 (row_nat 640#32 5 rfl (by decide) ha)) $$ H19; iintro H19
  iapply (wp_ld19 (F := F) a.toNat 5 (row_nat 640#32 5 rfl (by decide) ha)) $$ H19; iintro H19
  iapply (wp_ld19 (F := F) a.toNat 5 (row_nat 640#32 5 rfl (by decide) ha)) $$ H19; iintro H19
  iapply (wp_ld19 (F := F) a.toNat 5 (row_nat 640#32 5 rfl (by decide) ha)) $$ H19; iintro H19
  iapply (wp_chk (F := F) (chk1_of (row_lt 768#32 (by decide) ha)))
  iapply (wp_ld18 (F := F) a.toNat 6 (row_nat 768#32 6 rfl (by decide) ha)) $$ H18; iintro H18
  iapply (wp_ld19 (F := F) a.toNat 6 (row_nat 768#32 6 rfl (by decide) ha)) $$ H19; iintro H19
  iapply (wp_ld19 (F := F) a.toNat 6 (row_nat 768#32 6 rfl (by decide) ha)) $$ H19; iintro H19
  unfold wpV
  rw [wp_pure]; imodintro
  isplitr; · ipureintro; exact ⟨_, rfl⟩
  isplitl [H18]; · iexact H18
  iexact H19

/-- The same, the row named. -/
theorem part2_wp' (w : Vec F S1024 .f32) (r : Vec F S1024x64 .f32) (a : BitVec 32) (ha : a.toNat < 128) {q : ℕ} (hq : a.toNat = q) :
    iprop(s18 d i w ∗ s19 d i r)
      ⊢ wpV (d := d) (k0_part2 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0 k0_pay1 k0_pay2 k0_pay3 k0_pay4 a (acc w r q k0_pay1 3) (acc w r q k0_pay2 3) (acc w r q k0_pay3 3) (acc w r q k0_pay4 3))
          fun y => iprop(⌜∃ hw, y = ⟨acc w r q k0_pay2 6, acc w r q k0_pay3 6, acc w r q k0_pay4 6, broadcast S16 (Scalar.addi 768#32 a), hw, wv w q 6, acc w r q k0_pay1 7, rv r q k0_pay2 6⟩⌝ ∗ s18 d i w ∗ s19 d i r) := by
  subst hq; exact part2_wp w r a ha

/-- One token's output row: the eight rows summed, the four blocks of sixteen lanes stored. -/
theorem t3_wp (w : Vec F S1024 .f32) (r : Vec F S1024x64 .f32) (t : Fin k0_t3_loop.trips) (x : BitVec 32) :
    iprop(s18 d i w ∗ s19 d i r ∗ ∃ f, ⌜Upto w r t.val f⌝ ∗ s20 d i f)
      ⊢ wpV (d := d) (k0_t3_body (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0 k0_pay1 k0_pay2 k0_pay3 k0_pay4 t x)
          fun _ => iprop(s18 d i w ∗ s19 d i r ∗ ∃ f, ⌜Upto w r (t.val + 1) f⌝ ∗ s20 d i f) := by
  have ha := arg24_lt t
  have hr := fun (c : BitVec 32) (k : ℕ) (hc : c.toNat = 128 * k) (hk : k < 8) => fun x => (row_nat c k hc hk ha x).trans (congrArg (128 * k + ·) (arg24_nat t))
  have ho := fun {v : IVec S16 32} (b : ℕ) (hb : b ≤ 48) (hv : ∀ x, (v x).toNat = b + (x 0).val) => fun x =>
    (out_nat hb hv ha x).trans (congrArg (fun n => 64 * n + b + (x 0).val) (arg24_nat t))
  unfold k0_t3_body
  iintro ⟨H18, H19, %f, %hf, H20⟩
  iapply (wp_then (B := s20 d i f) (part1_wp (d := d) (i := i) w r t) ?hk1) $$ [H18 H19 H20]
  rotate_left
  · isplitl [H18 H19]
    · isplitl [H18] <;> iassumption
    · iexact H20
  intro y
  iintro ⟨⟨%hy, H18, H19⟩, H20⟩
  subst hy
  dsimp only
  iapply (wp_then (B := s20 d i f) (part2_wp' (d := d) (i := i) w r _ ha (arg24_nat t)) ?hk) $$ [H18 H19 H20]
  rotate_left
  · isplitl [H18 H19]
    · isplitl [H18] <;> iassumption
    · iexact H20
  intro y
  iintro ⟨⟨%hy, H18, H19⟩, H20⟩
  obtain ⟨hw, rfl⟩ := hy
  dsimp only
  iapply (wp_ld19 (F := F) t.val 6 (hr 768#32 6 rfl (by decide))) $$ H19; iintro H19
  iapply (wp_ld19 (F := F) t.val 6 (hr 768#32 6 rfl (by decide))) $$ H19; iintro H19
  iapply (wp_chk (F := F) (chk1_of (row_lt 896#32 (by decide) ha)))
  iapply (wp_ld18 (F := F) t.val 7 (hr 896#32 7 rfl (by decide))) $$ H18; iintro H18
  iapply (wp_ld19 (F := F) t.val 7 (hr 896#32 7 rfl (by decide))) $$ H19; iintro H19
  iapply (wp_ld19 (F := F) t.val 7 (hr 896#32 7 rfl (by decide))) $$ H19; iintro H19
  iapply (wp_ld19 (F := F) t.val 7 (hr 896#32 7 rfl (by decide))) $$ H19; iintro H19
  iapply (wp_ld19 (F := F) t.val 7 (hr 896#32 7 rfl (by decide))) $$ H19; iintro H19
  iapply (wp_chk (F := F) (chk9_of ha))
  iapply (wp_st20 (F := F) (64 * t.val + 0) (ho 0 (by decide) pay1_nat)) $$ H20; iintro H20
  iapply (wp_chk (F := F) (chk10_of ha))
  iapply (wp_st20 (F := F) (64 * t.val + 16) (ho 16 (by decide) pay2_nat)) $$ H20; iintro H20
  iapply (wp_chk (F := F) (chk11_of ha))
  iapply (wp_st20 (F := F) (64 * t.val + 32) (ho 32 (by decide) pay3_nat)) $$ H20; iintro H20
  iapply (wp_chk (F := F) (chk12_of ha))
  iapply (wp_st20 (F := F) (64 * t.val + 48) (ho 48 (by decide) pay4_nat)) $$ H20; iintro H20
  unfold wpV
  rw [wp_pure]; imodintro
  isplitl [H18]; · iexact H18
  isplitl [H19]; · iexact H19
  iexists _
  isplitr; · ipureintro; exact hf.step pay1_nat pay2_nat pay3_nat pay4_nat
  iexact H20

/-! ## A head -/

abbrev a7 : Memref sig .scVector .hbm S12x262144 .f32 := Memref.whole main_v1_scv

/-- Head `t`'s slice of the output array, as the subcore at `i` addresses it. -/
abbrev oM (i : grid0.Coords) (t : Fin k0_t1_loop.trips) : Memref sig .scVector .hbm S8192 .f32 :=
  ((a7 : Memref sig .scVector .hbm S12x262144 .f32).slice (Rect.unit (s := S12x262144) (k0_off1 i t) S1x8192.size (k0_off1_inb i t)) (fun _ => rfl)).squeeze S8192 squeezes_S1x8192_S8192

/-- That slice, at some contents. -/
def slP (d : Dev nD) (i : grid0.Coords) (t : Fin k0_t1_loop.trips) : sProp 𝕄 :=
  iprop(∃ f, (oM i t).view.loc (tV d i) ↦[(oM i t).view.set]{fullShare} f)

/-- The slice holding `fo`. -/
def slD (d : Dev nD) (i : grid0.Coords) (fo : Vec F S8192 .f32) (t : Fin k0_t1_loop.trips) : sProp 𝕄 :=
  (oM i t).view.loc (tV d i) ↦[(oM i t).view.set]{fullShare} chunk fo

theorem oM_emb (i : grid0.Coords) (t : Fin k0_t1_loop.trips) (x : S8192.Idx) :
    (((oM i t).view.emb x : S12x262144.Idx) 1).val % 8192 = (x 0).val := by
  have hx : (x 0).val < 8192 := (x 0).isLt
  have e := Shape.rowMajor_reshapeEquiv (squeezes_S1x8192_S8192.numel_eq) x
  rw [Shape.rowMajor_val_one, Shape.rowMajor_val_two] at e
  have h0 : ((Shape.reshapeEquiv squeezes_S1x8192_S8192.numel_eq x : S1x8192.Idx) 0).val < 1 := ((Shape.reshapeEquiv squeezes_S1x8192_S8192.numel_eq x : S1x8192.Idx) 0).isLt
  have e1 : ((Shape.reshapeEquiv squeezes_S1x8192_S8192.numel_eq x : S1x8192.Idx) 1).val = (x 0).val := by
    rw [← e, show ((Shape.reshapeEquiv squeezes_S1x8192_S8192.numel_eq x : S1x8192.Idx) 0).val = 0 by omega]; omega
  show (k0_off1 i t 1 + 1 * ((Shape.reshapeEquiv squeezes_S1x8192_S8192.numel_eq x : S1x8192.Idx) 1).val) % 8192 = _
  rw [e1, k0_off1_eq]
  show (16384 * (i 1).val + 8192 * (i 0).val + 1 * (x 0).val) % 8192 = _
  omega

/-- The slice after `fo` is copied to it. -/
theorem sl_write (d : Dev nD) (i : grid0.Coords) (t : Fin k0_t1_loop.trips) (g : (oM i t).view.ty.Contents (Elt F)) {fo fo' : Vec F S8192 .f32} (h : fo' = fo) :
    ((oM i t).view.loc (tV d i) ↦[(oM i t).view.set]{fullShare} (oM i t).view.writes (Elt F) g [⟨Rect.whole S8192, fo'⟩] : sProp 𝕄) = slD d i fo t := by
  subst h
  rw [← View.write_univ_eq_writes_whole, View.writes_nil]
  refine pointsTo_congr fun y hy => ?_
  obtain ⟨x, -, rfl⟩ := Finset.mem_map.mp hy
  rw [View.write_emb_of_mem _ _ (Finset.mem_univ x)]
  show fo' x = chunk fo' ((oM i t).view.emb x)
  refine congrArg fo' (funext fun a => Fin.ext ?_)
  obtain rfl : a = 0 := Subsingleton.elim _ _
  exact (oM_emb i t x).symm

/-- The subcore's own copy semaphore. -/
abbrev cSem (d : Dev nD) (i : grid0.Coords) : GSem nD τ sig := (tV d i, SemLoc.dma cc0_scoped0.sem)

/-- What one head needs and gives back: the three scratch buffers, the copy semaphore at zero, the debts the subcore
    came with and waits recorded beyond `W` at the local index only. -/
def headR (d : Dev nD) (i : grid0.Coords) (O : CellTallies nD τ sig (HIx 1)) (W : Waits sig (HIx 1)) (w : Vec F S1024 .f32) (r : Vec F S1024x64 .f32) : sProp 𝕄 :=
  iprop(Transfers.MayWaits (tV d i) (none : HIx 1) O ∗ (s18 d i w ∗ s19 d i r ∗ ∃ f, s20 d i f)
    ∗ semVal (cSem d i) 0 ∗ ∃ W', ⌜∀ p ∈ W', p ∈ W ∨ p.2 = none⌝ ∗ owes (tV d i) O W')

theorem t1_wp (O : CellTallies nD τ sig (HIx 1)) (W : Waits sig (HIx 1)) (w : Vec F S1024 .f32) (r : Vec F S1024x64 .f32) (t : Fin k0_t1_loop.trips) (acc : BitVec 32) :
    iprop(headR d i O W w r ∗ slP (F := F) d i t)
      ⊢ wpV (d := d) (k0_t1_body (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0 k0_pay1 k0_pay2 k0_pay3 k0_pay4 t acc)
          fun _ => iprop(headR d i O W w r ∗ slD d i (outW w r) t) := by
  unfold k0_t1_body wpV headR
  iintro ⟨⟨Hmw, ⟨H18, H19, %f0, H20⟩, Hsem, %W', %hW', HO⟩, Ho⟩
  iapply (Scf.wp_for_bind frame (wpE (defs₀ (F := F)) 𝒱₀ (tV d i) none) Set.univ _ _ _ _ _ _ (fun _ _ => (iprop(emp) : sProp 𝕄))
    (fun k acc => by unfold k0_t2_body; rw [wp_pure]; iintro H; imodintro; iexact H)) $$ []
  · iempintro
  iintro %_ -
  iapply (Scf.wp_for_bind frame (wpE (defs₀ (F := F)) 𝒱₀ (tV d i) none) Set.univ _ _ _ _ _ _
    (fun k _ => iprop(s18 d i w ∗ s19 d i r ∗ ∃ f, ⌜Upto w r k f⌝ ∗ s20 d i f)) (fun k x => t3_wp w r k x)) $$ [H18 H19 H20]
  · isplitl [H18]; · iexact H18
    isplitl [H19]; · iexact H19
    iexists f0
    isplitr; · ipureintro; exact Cert.Routing.Whole.Upto.zero w r f0
    iexact H20
  iintro %_ ⟨H18, H19, %f, %hf, H20⟩
  obtain rfl : f = outW w r := Cert.Routing.Whole.Upto.all (by rw [show (128 : ℕ) = k0_t3_loop.trips by decide]; exact hf)
  unfold s20 slP
  icases Ho with ⟨%g, Ho⟩
  ihave H20' := (Entails.of_eq (show ((tV d i).loc cc0_scratch12 ↦{fullShare} (outW w r : Vec F S8192 .f32) : sProp 𝕄) = ((Memref.whole cc0_scratch12 : Memref sig .scVector .vmem S8192 .f32).view.loc (tV d i) ↦{fullShare} (outW w r : Vec F S8192 .f32)) from rfl)) $$ H20
  sl_exec (disch := exact View.amount_pos _ _ (show 0 < S8192.numel by decide))
  sl_step
  isplitr [Ho]
  · isplitl [Hmw]; · iexact Hmw
    isplitl [H18 H19 H20']
    · isplitl [H18]; · iexact H18
      isplitl [H19]; · iexact H19
      iexists _; iexact H20'
    isplitl [Hsem]; · iexact Hsem
    iexists (insert (SemLoc.dma cc0_scoped0.sem, (default : HIx 1)) W'); isplitr
    · ipureintro; intro p hp
      rcases Finset.mem_insert.mp hp with hp | hp
      · exact .inr (hp ▸ rfl)
      · exact hW' p hp
    · iexact HO
  · iapply (Entails.of_eq (sl_write (F := F) d i t g (fo := outW w r) rfl))
    iexact Ho

/-! ## The task -/

/-- The slices when `n` heads are through. -/
def slN (d : Dev nD) (i : grid0.Coords) (fo : Vec F S8192 .f32) (n : ℕ) (t : Fin k0_t1_loop.trips) : sProp 𝕄 :=
  if t.val < n then slD d i fo t else slP d i t

theorem slN_rest (d : Dev nD) (i : grid0.Coords) (fo : Vec F S8192 .f32) (t : Fin k0_t1_loop.trips) :
    (bigSep (Finset.univ.erase t) fun t' => slN (F := F) d i fo t.val t') = bigSep (Finset.univ.erase t) fun t' => slN d i fo (t.val + 1) t' :=
  bigSep_congr fun t' ht' => by
    have hne : t'.val ≠ t.val := fun e => (Finset.mem_erase.mp ht').1 (Fin.ext e)
    unfold slN
    by_cases h : t'.val < t.val
    · rw [if_pos h, if_pos (by omega)]
    · rw [if_neg h, if_neg (by omega)]

/-- The heads loop keeps the subcore's scratch and its semaphore, and leaves every head's slice with the same words. -/
theorem body_wp (O : CellTallies nD τ sig (HIx 1)) (W : Waits sig (HIx 1)) (w : Vec F S1024 .f32) (r : Vec F S1024x64 .f32) :
    iprop(headR d i O W w r ∗ bigSep Finset.univ fun t => slP (F := F) d i t)
      ⊢ wpV (d := d) (cc0_body (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0)
          fun _ => iprop(headR d i O W w r ∗ bigSep Finset.univ fun t => slD d i (outW w r) t) := by
  rw [show (bigSep Finset.univ fun t => slP (F := F) d i t) = bigSep Finset.univ fun t => slN d i (outW w r) 0 t from
      bigSep_congr fun t _ => (if_neg (Nat.not_lt_zero _)).symm,
    show (bigSep Finset.univ fun t => slD (F := F) d i (outW w r) t) = bigSep Finset.univ fun t => slN d i (outW w r) k0_t1_loop.trips t from
      bigSep_congr fun t _ => (if_pos t.isLt).symm]
  rw [cc0_body_eq_skeleton]; unfold cc0_body_skel wpV
  iintro H
  iapply (Scf.wp_for_bind frame (wpE (defs₀ (F := F)) 𝒱₀ (tV d i) none) Set.univ _ _ _ _ _ _
    (fun k _ => iprop(headR d i O W w r ∗ bigSep Finset.univ fun t => slN d i (outW w r) k t)) (fun t acc => ?step)) $$ H
  case step =>
    rw [SparseCore.bigSep_erase' (Φ := fun t' => slN d i (outW w r) t.val t') (Finset.mem_univ t), SparseCore.bigSep_erase' (Φ := fun t' => slN d i (outW w r) (t.val + 1) t') (Finset.mem_univ t), slN_rest,
      show slN (F := F) d i (outW w r) t.val t = slP d i t from if_neg (Nat.lt_irrefl _), show slN (F := F) d i (outW w r) (t.val + 1) t = slD d i (outW w r) t from if_pos (Nat.lt_succ_self _)]
    iintro ⟨HR, Ht, Hrest⟩
    iapply (wp_mono frame (wpE (defs₀ (F := F)) 𝒱₀ (tV d i) none) Set.univ
      (Q := fun _ => iprop((headR d i O W w r ∗ slD d i (outW w r) t) ∗ bigSep (Finset.univ.erase t) fun t' => slN d i (outW w r) (t.val + 1) t')) fun _ => sep_assoc.1)
    iapply (wp_frame_r frame (wpE (defs₀ (F := F)) 𝒱₀ (tV d i) none) Set.univ)
    isplitl [HR Ht]
    · iapply (t1_wp (F := F) O W w r t acc)
      isplitl [HR] <;> iassumption
    · iexact Hrest
  iintro %_ H
  rw [wp_pure]; imodintro; iexact H

end Tile

/-! ## A subcore's own buffers and semaphores -/

section Own

variable (d : Dev nD) (i : grid0.Coords)

theorem ownSems0_V :
    (ownSems0 (tV d i) : sProp 𝕄) = iprop(semVal (cSem d i) 0 ∗ bigSep ((ownCells (tV d i)).erase (cSem d i)) fun g => semVal g 0) := by
  unfold SparseCore.Cfg.ownSems0
  exact SparseCore.bigSep_erase' ((mem_ownCells (g := cSem d i)).mpr ⟨rfl, by show (SemLoc.dma cc0_scoped0.sem : SemLoc sig).isScoped .scVector = true; decide⟩)

/-- The three scratch buffers are among the subcore's own. -/
theorem ownBufs_V :
    (ownBufs (tV d i) : sProp 𝕄)
      = iprop((∃ w, s18 (F := F) d i w) ∗ (∃ r, s19 (F := F) d i r) ∗ (∃ f, s20 (F := F) d i f)
          ∗ bigSep ((((ownRefs (τ := τ) (tV d i).2).erase ((tV d i).2.devRef cc0_scratch10)).erase
              ((tV d i).2.devRef cc0_scratch11)).erase ((tV d i).2.devRef cc0_scratch12))
              fun b => iprop(∃ f, ((d, b) : Loc nD τ sig) ↦{fullShare} f)) := by
  unfold SparseCore.Cfg.ownBufs s18 s19 s20
  refine (SparseCore.bigSep_erase' (SparseCore.Cfg.mem_ownRefs_of_owner (p := (tV d i).2)
    (b := (tV d i).2.devRef cc0_scratch10) rfl)).trans ?_
  rw [SparseCore.bigSep_erase' (Finset.mem_erase.mpr ⟨fun e => absurd (Proc.devRef_injective _ e) (show (cc0_scratch11 : Ref sig .scVector) ≠ cc0_scratch10 by decide),
    SparseCore.Cfg.mem_ownRefs_of_owner (p := (tV d i).2) (b := (tV d i).2.devRef cc0_scratch11) rfl⟩),
    SparseCore.bigSep_erase' (Finset.mem_erase.mpr ⟨fun e => absurd (Proc.devRef_injective _ e) (show (cc0_scratch12 : Ref sig .scVector) ≠ cc0_scratch11 by decide),
      Finset.mem_erase.mpr ⟨fun e => absurd (Proc.devRef_injective _ e) (show (cc0_scratch12 : Ref sig .scVector) ≠ cc0_scratch10 by decide),
    SparseCore.Cfg.mem_ownRefs_of_owner (p := (tV d i).2) (b := (tV d i).2.devRef cc0_scratch12) rfl⟩⟩)]
  rfl

/-- The task on the subcore at `i`: from its slices of the output array to the same slices with the same words in every head. -/
theorem tile_body (hF : (K (F := F)).Facts) (O : CellTallies nD τ sig (HIx 1)) (W : Waits sig (HIx 1)) (hO : ∀ g, O g none = 0) :
    iprop(levAts (K (F := F)).L (K (F := F)).lev ∗ emp ∗ (bigSep Finset.univ fun t => slP (F := F) d i t)
        ∗ scopedBufs (tV d i) ∗ scopedSems0 (tV d i) ∗ owes (tV d i) O W)
      ⊢ wpV (d := d) (cc0_body (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0)
          fun _ => iprop((∃ fo, bigSep Finset.univ fun t => slD (F := F) d i fo t) ∗ scopedBufs (tV d i) ∗ scopedSems0 (tV d i)
            ∗ ∃ W', ⌜∀ p ∈ W', p ∈ W ∨ p.2 = none⌝ ∗ owes (tV d i) O W') := by
  rw [(K (F := F)).scopedBufs_V hF d _ _, SparseCore.Cfg.scopedSems0_V (Val := Elt F) d _ _, ownSems0_V, ownBufs_V]
  iintro ⟨#Hlv, -, Hsl, ⟨⟨%w, H18⟩, ⟨%r, H19⟩, H20, Hbufs⟩, ⟨Hsem, Hsems⟩, HO⟩
  ihave Hmw := ((K (F := F)).mayWaits_none (thr := tV d i) hO) $$ Hlv
  iapply (wp_mono frame (wpE (defs₀ (F := F)) 𝒱₀ (tV d i) none) Set.univ
    (Q := fun _ => iprop((headR d i O W w r ∗ bigSep Finset.univ fun t => slD d i (outW w r) t)
      ∗ ((bigSep ((((ownRefs (τ := τ) (tV d i).2).erase ((tV d i).2.devRef cc0_scratch10)).erase
              ((tV d i).2.devRef cc0_scratch11)).erase ((tV d i).2.devRef cc0_scratch12))
              fun b => iprop(∃ f, ((d, b) : Loc nD τ sig) ↦{fullShare} f))
        ∗ bigSep ((ownCells (tV d i)).erase (cSem d i)) fun g => semVal g 0))) fun _ => ?post)
  rotate_left
  · iapply (wp_frame_r frame (wpE (defs₀ (F := F)) 𝒱₀ (tV d i) none) Set.univ)
    isplitr [Hbufs Hsems]
    · iapply (body_wp (F := F) O W w r)
      isplitr [Hsl]
      · unfold headR
        isplitl [Hmw]; · iexact Hmw
        isplitl [H18 H19 H20]
        · isplitl [H18]; · iexact H18
          isplitl [H19] <;> iassumption
        isplitl [Hsem]; · iexact Hsem
        iexists W; isplitr
        · ipureintro; exact fun p hp => .inl hp
        · iexact HO
      · iexact Hsl
    · isplitl [Hbufs] <;> iassumption
  case post =>
    unfold headR
    iintro ⟨⟨⟨-, ⟨H18, H19, H20⟩, Hsem, HO⟩, Hsl⟩, Hbufs, Hsems⟩
    isplitl [Hsl]; · iexists (outW w r); iexact Hsl
    isplitl [H18 H19 H20 Hbufs]
    · isplitl [H18]; · iexists w; iexact H18
      isplitl [H19]; · iexists r; iexact H19
      isplitl [H20] <;> iassumption
    isplitl [Hsem Hsems]
    · isplitl [Hsem] <;> iassumption
    iexact HO

end Own

/-! ## What the call hands over, and the launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = grid0.bound 0 := rfl
theorem nSub_zero : (K (F := F)).nSub 0 = grid0.bound 1 := rfl

abbrev oLoc (d : Dev nD) : Loc nD τ sig := (SparseCore.T d).loc main_v1

/-- The words of the output array that head `t` of the task at `i` is copied to. -/
def oSet (i : grid0.Coords) (t : Fin k0_t1_loop.trips) : Finset S12x262144.Idx :=
  (Rect.unit (s := S12x262144) (k0_off1 i t) S1x8192.size (k0_off1_inb i t)).set

/-- A slice of the output array at some contents, as a part of the array. -/
def slQ (d : Dev nD) (i : grid0.Coords) (t : Fin k0_t1_loop.trips) : sProp 𝕄 :=
  iprop(∃ f : Buf (Elt F) (oLoc d), oLoc d ↦[oSet i t]{fullShare} f)

theorem oM_set (i : grid0.Coords) (t : Fin k0_t1_loop.trips) : (oM i t).view.set = oSet i t := by
  show (((View.whole (main_v1_scv : Ref sig .scVector)).slice (Rect.unit (s := S12x262144) (k0_off1 i t) S1x8192.size (k0_off1_inb _ _))).reshape S8192
      squeezes_S1x8192_S8192.numel_eq).set = _
  rw [View.set_reshape, View.set_slice]; exact Finset.map_refl

theorem slP_eq (d : Dev nD) (i : grid0.Coords) (t : Fin k0_t1_loop.trips) : slP (F := F) d i t = slQ d i t := by
  show (iprop(∃ f : Buf (Elt F) (oLoc d), oLoc d ↦[(oM i t).view.set]{fullShare} f) : sProp 𝕄) = _
  rw [oM_set]; rfl

/-- A task's part of the output array: its slice of every head. -/
def taskP (d : Dev nD) (c : Fin (grid0.bound 0)) (s : Fin (grid0.bound 1)) : sProp 𝕄 :=
  bigSep Finset.univ fun t => slQ (F := F) d (coordsV c s) t

/-- The same when the task is through: some 8192 words, the same for every head. -/
def taskD (d : Dev nD) (c : Fin (grid0.bound 0)) (s : Fin (grid0.bound 1)) : sProp 𝕄 :=
  iprop(∃ fo : Vec F S8192 .f32, bigSep Finset.univ fun t => oLoc d ↦[oSet (coordsV c s) t]{fullShare} (chunk fo : Buf (Elt F) (oLoc d)))

theorem slD_eq (d : Dev nD) (i : grid0.Coords) (fo : Vec F S8192 .f32) (t : Fin k0_t1_loop.trips) :
    slD d i fo t = oLoc d ↦[oSet i t]{fullShare} (chunk fo : Buf (Elt F) (oLoc d)) := by
  show (oLoc d ↦[(oM i t).view.set]{fullShare} (chunk fo : Buf (Elt F) (oLoc d)) : sProp 𝕄) = _
  rw [oM_set]

/-- A core's part: its tasks' parts. -/
def coreP (d : Dev nD) (c : Fin (grid0.bound 0)) : sProp 𝕄 :=
  bigSep Finset.univ fun s => taskP (F := F) d c s

/-- A core's part when its tasks are through. -/
def coreD (d : Dev nD) (c : Fin (grid0.bound 0)) : sProp 𝕄 :=
  bigSep Finset.univ fun s => taskD (F := F) d c s

instance slQ_storable (d : Dev nD) (i : grid0.Coords) (t : Fin k0_t1_loop.trips) : BI.Storable (upEmb : UEmb _ 𝕄) (slQ (F := F) d i t) := by
  unfold slQ; infer_instance
instance taskP_storable (d : Dev nD) (c : Fin (grid0.bound 0)) (s : Fin (grid0.bound 1)) : BI.Storable (upEmb : UEmb _ 𝕄) (taskP (F := F) d c s) := by
  unfold taskP; infer_instance
instance coreP_storable (d : Dev nD) (c : Fin (grid0.bound 0)) : BI.Storable (upEmb : UEmb _ 𝕄) (coreP (F := F) d c) := by
  unfold coreP; infer_instance

instance taskD_storable (d : Dev nD) (c : Fin (grid0.bound 0)) (s : Fin (grid0.bound 1)) : BI.Storable (upEmb : UEmb _ 𝕄) (taskD (F := F) d c s) := by
  unfold taskD; infer_instance
instance coreD_storable (d : Dev nD) (c : Fin (grid0.bound 0)) : BI.Storable (upEmb : UEmb _ 𝕄) (coreD (F := F) d c) := by
  unfold coreD; infer_instance

/-- The call takes the output array in its tasks' parts and brings the parts back, every head alike. -/
def P : (K (F := F)).Pay (nD := nD) (Val := Elt F) (Name := ℕ) (U := UU) where
  st := fun q d c => match q with | 0 => coreP (F := F) d (Fin.cast nCore_zero c)
  dn := fun q d c => match q with | 0 => coreD (F := F) d (Fin.cast nCore_zero c)
  go := fun q d c s => match q with | 0 => taskP (F := F) d (Fin.cast nCore_zero c) (Fin.cast nSub_zero s)
  td := fun q d c s => match q with | 0 => taskD (F := F) d (Fin.cast nCore_zero c) (Fin.cast nSub_zero s)
  x := fun _ _ => iprop(emp)

instance P_storable : (P (F := F)).IsStorable where
  st q d c := match q with | 0 => coreP_storable d (Fin.cast nCore_zero c)
  dn q d c := match q with | 0 => coreD_storable d (Fin.cast nCore_zero c)
  go q d c s := match q with | 0 => taskP_storable d (Fin.cast nCore_zero c) (Fin.cast nSub_zero s)
  td q d c s := match q with | 0 => taskD_storable d (Fin.cast nCore_zero c) (Fin.cast nSub_zero s)

theorem defs₀_vector (c : Fin τ.nSC) (s : Fin τ.nSub) :
    defs₀ (F := F) (.scVector c s) 0 ()
      = SparseCore.onTile hcore0 hsub0 (fun c s => cc0_body (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task, in the form the call's payloads have. -/
theorem task_wp (d : Dev nD) (c : Fin (grid0.bound 0)) (s : Fin (grid0.bound 1)) (hF : (K (F := F)).Facts)
    (O : CellTallies nD τ sig (HIx 1)) (W : Waits sig (HIx 1)) (hO : ∀ g, O g none = 0) (q : Fin 1) :
    iprop(levAts (K (F := F)).L (K (F := F)).lev ∗ emp ∗ taskP (F := F) d c s
        ∗ scopedBufs (tV d (coordsV c s)) ∗ scopedSems0 (tV d (coordsV c s)) ∗ owes (tV d (coordsV c s)) O W)
      ⊢ wp frame (wpE (defs₀ (F := F)) 𝒱₀ (tV d (coordsV c s)) none) Set.univ (cc0_body (F := F) (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scoped0)
          fun _ => iprop(taskD (F := F) d c s ∗ scopedBufs (tV d (coordsV c s)) ∗ scopedSems0 (tV d (coordsV c s))
            ∗ ∃ W', ⌜∀ p ∈ W', p ∈ W ∨ p.2 = none ∨ p.2 = some q⌝ ∗ owes (tV d (coordsV c s)) O W') := by
  have e : taskP (F := F) d c s = bigSep Finset.univ fun t => slP (F := F) d (coordsV c s) t := by
    unfold taskP; exact bigSep_congr fun t _ => (slP_eq d _ t).symm
  have e' : taskD (F := F) d c s = iprop(∃ fo, bigSep Finset.univ fun t => slD (F := F) d (coordsV c s) fo t) := by
    unfold taskD; exact congrArg _ (funext fun fo => bigSep_congr fun t _ => (slD_eq d _ fo t).symm)
  rw [e, e']
  exact (tile_body d (coordsV c s) hF O W hO).trans (wp_mono frame _ _ fun _ => obl_post)

theorem tileObl (hF : (K (F := F)).Facts) : (K (F := F)).TileObl (D (F := F)) 𝒱 (P (F := F)) v₀ 0 := by
  intro d c i O W hO _ _
  simp only [show (P (F := F)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact task_wp d (Fin.cast nCore_zero c) (Fin.cast nSub_zero i) hF O W hO 0

theorem vecSplit : (K (F := F)).VecSplit' (P (F := F)) 0 := by
  intro d c
  show coreP (F := F) d (Fin.cast nCore_zero c) ⊢ |={Set.univ}=> iprop(
      (bigSep Finset.univ fun s : Fin (grid0.bound 1) => taskP (F := F) d (Fin.cast nCore_zero c) s)
      ∗ ((bigSep Finset.univ fun s : Fin (grid0.bound 1) => taskD (F := F) d (Fin.cast nCore_zero c) s)
          -∗ coreD (F := F) d (Fin.cast nCore_zero c)))
  unfold coreP coreD
  iintro H; imodintro
  isplitl [H]; · iexact H
  iintro H; iexact H

/-! ## The output array is its slices -/

/-- A core, a subcore of it and a head. -/
abbrev Part : Type := Fin (grid0.bound 0) × Fin (grid0.bound 1) × Fin k0_t1_loop.trips
def partSet (p : Part) : Finset S12x262144.Idx := oSet (coordsV p.1 p.2.1) p.2.2

theorem mem_partSet (p : Part) (x : S12x262144.Idx) :
    x ∈ partSet p ↔ (x 0).val = p.2.2.val ∧ 16384 * p.2.1.val + 8192 * p.1.val ≤ (x 1).val ∧ (x 1).val < 16384 * p.2.1.val + 8192 * p.1.val + 8192 := by
  unfold partSet oSet
  rw [Rect.mem_set_unit, k0_off1_eq]
  constructor
  · intro h
    have h0 : p.2.2.val ≤ (x 0).val ∧ (x 0).val < p.2.2.val + 1 := h 0
    have h1 : 16384 * p.2.1.val + 8192 * p.1.val ≤ (x 1).val ∧ (x 1).val < 16384 * p.2.1.val + 8192 * p.1.val + 8192 := h 1
    exact ⟨by omega, h1.1, h1.2⟩
  · rintro ⟨h0, h1, h2⟩ a
    obtain ⟨a, ha⟩ := a
    match a, ha with
    | 0, _ => exact ⟨h0.ge, by show (x 0).val < p.2.2.val + 1; omega⟩
    | 1, _ => exact ⟨h1, h2⟩

theorem partSet_disjoint : ∀ p ∈ (Finset.univ : Finset Part), ∀ p' ∈ (Finset.univ : Finset Part), p ≠ p' → Disjoint (partSet p) (partSet p') := by
  intro p _ p' _ hne
  rw [Finset.disjoint_left]
  intro x h h'
  rw [mem_partSet] at h h'
  have hc : p.1.val < 2 := p.1.isLt
  have hc' : p'.1.val < 2 := p'.1.isLt
  refine hne (Prod.ext (Fin.ext ?_) (Prod.ext (Fin.ext ?_) (Fin.ext ?_))) <;> omega

theorem partSet_cover : (Finset.univ : Finset Part).biUnion partSet = Finset.univ := by
  ext x
  simp only [Finset.mem_biUnion, Finset.mem_univ, true_and, iff_true]
  have h0 : (x 0).val < 12 := (x 0).isLt
  have h1 : (x 1).val < 262144 := (x 1).isLt
  have ht : k0_t1_loop.trips = 12 := by decide
  refine ⟨(⟨(x 1).val / 8192 % 2, by show _ < 2; omega⟩, ⟨(x 1).val / 16384, by show _ < 16; omega⟩, ⟨(x 0).val, by omega⟩), ?_⟩
  rw [mem_partSet]
  refine ⟨rfl, ?_, ?_⟩ <;> dsimp only <;> omega

/-- What the call takes is every part of the array, at some contents. -/
theorem cores_eq (d : Dev nD) :
    (bigSep Finset.univ fun c : Fin (grid0.bound 0) => coreP (F := F) d c)
      = bigSep Finset.univ fun p : Part => (iprop(∃ f : Buf (Elt F) (oLoc d), oLoc d ↦[partSet p]{fullShare} f) : sProp 𝕄) := by
  rw [bigSep_univ_prod]
  refine bigSep_congr fun c _ => ?_
  unfold coreP
  rw [bigSep_univ_prod]
  rfl

theorem out_split (d : Dev nD) (f : Buf (Elt F) (oLoc d)) :
    (oLoc d ↦{fullShare} f : sProp 𝕄) ⊢ bigSep Finset.univ fun c : Fin (grid0.bound 0) => coreP (F := F) d c := by
  rw [cores_eq]
  have e : (oLoc d ↦{fullShare} f : sProp 𝕄) = bigSep Finset.univ fun p : Part => oLoc d ↦[partSet p]{fullShare} f := by
    refine Eq.trans ?_ (pointsTo_biUnion Finset.univ (ℓ := oLoc d) partSet partSet_disjoint)
    rw [partSet_cover]
  rw [e]
  refine bigSep_mono fun p _ => ?_
  show (oLoc d ↦[partSet p]{fullShare} f : sProp 𝕄) ⊢ iprop(∃ f : Buf (Elt F) (oLoc d), oLoc d ↦[partSet p]{fullShare} f)
  iintro H; iexists f; iexact H

/-- A core and a subcore of it. -/
abbrev Tile : Type := Fin (grid0.bound 0) × Fin (grid0.bound 1)

theorem coresD_eq (d : Dev nD) :
    (bigSep Finset.univ fun c : Fin (grid0.bound 0) => coreD (F := F) d c)
      = bigSep Finset.univ fun p : Tile => (iprop(∃ fo : Vec F S8192 .f32,
          bigSep Finset.univ fun t => oLoc d ↦[partSet (p.1, p.2, t)]{fullShare} (chunk fo : Buf (Elt F) (oLoc d))) : sProp 𝕄) := by
  rw [bigSep_univ_prod]; rfl

theorem tiles_eq (d : Dev nD) (fs : Tile → Vec F S8192 .f32) :
    (bigSep Finset.univ fun p : Tile => bigSep Finset.univ fun t => (oLoc d ↦[partSet (p.1, p.2, t)]{fullShare} (chunk (fs p) : Buf (Elt F) (oLoc d)) : sProp 𝕄))
      = bigSep Finset.univ fun p : Part => (oLoc d ↦[partSet p]{fullShare} (chunk (fs (p.1, p.2.1)) : Buf (Elt F) (oLoc d)) : sProp 𝕄) := by
  rw [bigSep_univ_prod, bigSep_univ_prod]
  refine bigSep_congr fun c _ => ?_
  rw [bigSep_univ_prod]

/-- What the call brings back is the array, its heads alike. -/
theorem out_join (d : Dev nD) (f₀ : Buf (Elt F) (oLoc d)) :
    (bigSep Finset.univ fun c : Fin (grid0.bound 0) => coreD (F := F) d c)
      ⊢ (iprop(∃ f : Buf (Elt F) (oLoc d), ⌜Alike (F := F) f⌝ ∗ oLoc d ↦{fullShare} f) : sProp 𝕄) := by
  rw [coresD_eq]
  haveI : Nonempty (Vec F S8192 .f32) := ⟨fun j => f₀ fun a => ⟨0, (by decide : ∀ a, 0 < S12x262144.size a) a⟩⟩
  refine (bigSep_exists_pi Finset.univ (fun (p : Tile) (fo : Vec F S8192 .f32) =>
    (bigSep Finset.univ fun t => oLoc d ↦[partSet (p.1, p.2, t)]{fullShare} (chunk fo : Buf (Elt F) (oLoc d)) : sProp 𝕄))).trans ?_
  iintro ⟨%fs, H⟩
  ihave H' := (Entails.of_eq (tiles_eq d fs)) $$ H
  ihave H'' := (pointsTo_biUnion_join Finset.univ partSet (fun p : Part => (chunk (fs (p.1, p.2.1)) : Buf (Elt F) (oLoc d))) f₀ partSet_disjoint) $$ H'
  icases H'' with ⟨%g, %hg, Hg⟩
  iexists g
  isplitr
  · ipureintro
    intro x y h
    have hx : x ∈ (Finset.univ : Finset Part).biUnion partSet := by rw [partSet_cover]; exact Finset.mem_univ x
    obtain ⟨⟨c, s, t⟩, -, hp⟩ := Finset.mem_biUnion.mp hx
    have hp' := (mem_partSet _ _).mp hp
    have ht : k0_t1_loop.trips = 12 := by decide
    have hy0 : (y 0).val < 12 := (y 0).isLt
    have hq : y ∈ partSet (c, s, (⟨(y 0).val, by omega⟩ : Fin k0_t1_loop.trips)) :=
      (mem_partSet _ _).mpr ⟨rfl, by rw [← h]; exact hp'.2.1, by rw [← h]; exact hp'.2.2⟩
    rw [hg _ (Finset.mem_univ _) x hp, hg _ (Finset.mem_univ _) y hq]
    exact chunk_alike _ x y h
  · ihave Hg' := (Entails.of_eq (show (oLoc d ↦[(Finset.univ : Finset Part).biUnion partSet]{fullShare} g : sProp 𝕄) = oLoc d ↦{fullShare} g by rw [partSet_cover])) $$ Hg
    iexact Hg'

end Cert.RoutingIdeal.Whole

end
-- ==== Proof.RoutingIdealFrame.lean ====
/-
  `routing_call`: the SparseCore call alone, from launch to end. Every execution ends, the argument arrays are as
  launched, every counter is at zero, and the twelve heads of the result are the same words.
-/
module

public import proofs.«01_k».proof.Proof.RoutingIdealTile
public import Idealize.ShloMosaic.Lib.Pipeline.RegionsLoop
public import Idealize.ShloMosaic.Lib.Pipeline.FrameSuffix

@[expose] public section

set_option maxRecDepth 16384

noncomputable section

namespace Cert.RoutingIdeal.Whole

open Cert.RoutingIdeal Cert.RoutingIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The part of the ghost state that belongs to the handshakes. -/
abbrev EH : Emb UH 𝕄 := (Emb.inl : Emb UH UU).trans (uEmb (nD := nD) (sig := sig) (Ix := HIx 1) (Val := Elt F) (Name := ℕ) (U := UU) (Lvl := ℕ)).toEmb

/-- The argument arrays. -/
abbrev argRefs : List (Ref sig .tc) := [main_arg0, main_arg1, main_arg2, main_arg3, main_arg4]

/-- The one host operation: the values' heads laid end to end. -/
abbrev host0 : List (HloOp τ sig (Elt F)) :=
  [StableHlo.reshape main_arg4 main_v0 (rfl : (.f32 : EltTy) = .f32) shapeCasts_S4x4096x64_S16384x64]

theorem host0_sub : (host0 : List (HloOp τ sig (Elt F))).Forall fun op => op.bufs ⊆ StableHlo.tcRefs τ sig := by
  simp only [List.Forall]; exact StableHlo.reshape_bufs_sub ..
theorem host0_fresh : (host0 : List (HloOp τ sig (Elt F))).Forall fun op => op.fresh = ∅ := by
  simp only [List.Forall]; repeat' constructor
abbrev host0_W : List (Ref sig .tc) := [main_v0]
theorem host0_writes : (host0 : List (HloOp τ sig (Elt F))).Forall fun op => op.writes ⊆ (host0_W.map (Proc.devRef (τ := τ) .tc)).toFinset :=
  StableHlo.forall_writes_sub_of_map rfl
theorem host0_args : ∀ a ∈ argRefs, a ∉ host0_W := ListAll.forall_mem_of_all_decide (by decide +kernel)

theorem main_eq (d : Dev nD) : main (F := F) d = (StableHlo.seq host0 >>= fun _ => (K (F := F)).run d 0 >>= fun _ => pure ⟨⟩) := rfl

section Main
variable (m : (ℓ : Loc nD τ sig) → Buf (Elt F) ℓ) (ρ : Dev nD → PrngReg)

/-- All buffers of the TensorCore at some contents, the argument arrays as launched. -/
abbrev HS (d : Dev nD) : sProp 𝕄 :=
  iprop(∃ W : Valuation τ sig (Elt F), ⌜∀ a ∈ argRefs, W (Proc.devRef .tc a) = m ((d : Thread nD τ).loc a)⌝
    ∗ StableHlo.held (d : Thread nD τ) (Pipeline.ucRefs τ sig) W)

/-- The same with the result's heads alike. -/
abbrev HSD (d : Dev nD) : sProp 𝕄 :=
  iprop(∃ W : Valuation τ sig (Elt F), ⌜(∀ a ∈ argRefs, W (Proc.devRef .tc a) = m ((d : Thread nD τ).loc a)) ∧ Alike (F := F) (W (Proc.devRef .tc main_v1))⌝
    ∗ StableHlo.held (d : Thread nD τ) (Pipeline.ucRefs τ sig) W)

/-- A stretch of host operations that writes no argument array. -/
theorem host_step (d : Dev nD) (ops : List (HloOp τ sig (Elt F))) (Wl : List (Ref sig .tc))
    (hsub : ops.Forall fun op => op.bufs ⊆ StableHlo.tcRefs τ sig) (hfresh : ops.Forall fun op => op.fresh = ∅)
    (hw : ops.Forall fun op => op.writes ⊆ (Wl.map (Proc.devRef (τ := τ) .tc)).toFinset) (hargs : ∀ a ∈ argRefs, a ∉ Wl)
    (k : PUnit → Prog (TpuEff nD τ sig (Elt F) (SparseCore.Sig (ΛP (F := F)) 1) .tc) PUnit) (Q : PUnit → sProp 𝕄) :
    iprop(boundary (d : Thread nD τ) ∗ HS m d)
      ⊢ iprop(((boundary (d : Thread nD τ) ∗ HS m d) -∗ wp frame (wpE ((K (F := F)).defs (D (F := F))) 𝒱 (d : Thread nD τ) none) Set.univ (k ⟨⟩) Q)
          -∗ wp frame (wpE ((K (F := F)).defs (D (F := F))) 𝒱 (d : Thread nD τ) none) Set.univ (StableHlo.seq ops >>= k) Q) := by
  iintro ⟨Hb, %W, %hW, Hh⟩ Hk
  iapply (StableHlo.wp_seq 𝒱 none Set.univ d (Pipeline.ucRefs τ sig) k ops
    (fun op h => Pipeline.sub_ucRefs op ((List.forall_iff_forall_mem.mp hsub) op h))
    (fun op h => (List.forall_iff_forall_mem.mp hfresh) op h) W) $$ [Hb Hh]
  · isplitl [Hb] <;> iassumption
  iintro ⟨Hb, Hh⟩
  iapply Hk
  isplitl [Hb]; · iexact Hb
  iexists (StableHlo.after ops W)
  isplitr
  · ipureintro
    intro a ha
    exact (StableHlo.after_of_writes_sub ops W hw (hargs a ha)).trans (hW a ha)
  · iexact Hh

/-! ## The SparseCore call -/

/-- The buffers with the call's result replaced. -/
def setOut (W : Valuation τ sig (Elt F)) (f : Buf (Elt F) (oLoc 0)) : Valuation τ sig (Elt F) :=
  Function.update W (Proc.devRef .tc main_v1) f

theorem out_mem : (Proc.devRef .tc main_v1 : DevRef τ sig) ∈ Pipeline.ucRefs τ sig :=
  Finset.mem_filter.mpr ⟨StableHlo.devRef_mem_tcRefs main_v1, by decide⟩

/-- The result array and the other buffers. -/
theorem held_out (d : Dev nD) (W : Valuation τ sig (Elt F)) :
    (StableHlo.held (d : Thread nD τ) (Pipeline.ucRefs τ sig) W : sProp 𝕄)
      = iprop((oLoc d ↦{fullShare} W (Proc.devRef .tc main_v1))
          ∗ bigSep ((Pipeline.ucRefs τ sig).erase (Proc.devRef .tc main_v1)) fun b => ((d, b) : Loc nD τ sig) ↦{fullShare} W b) := by
  unfold StableHlo.held
  exact SparseCore.bigSep_erase' out_mem

theorem setOut_args (W : Valuation τ sig (Elt F)) (f : Buf (Elt F) (oLoc 0)) (a : Ref sig .tc) (ha : a ∈ argRefs) :
    setOut W f (Proc.devRef .tc a) = W (Proc.devRef .tc a) := by
  have hne : ∀ a ∈ argRefs, a ≠ main_v1 := ListAll.forall_mem_of_all_decide (by decide +kernel)
  exact Function.update_of_ne (fun e => hne a ha (Proc.devRef_injective _ e)) _ _

theorem held_setOut (d : Dev nD) (W : Valuation τ sig (Elt F)) (f : Buf (Elt F) (oLoc d)) :
    iprop((oLoc d ↦{fullShare} f)
        ∗ bigSep ((Pipeline.ucRefs τ sig).erase (Proc.devRef .tc main_v1)) fun b => ((d, b) : Loc nD τ sig) ↦{fullShare} W b)
      ⊢ (StableHlo.held (d : Thread nD τ) (Pipeline.ucRefs τ sig) (setOut W f) : sProp 𝕄) := by
  rw [held_out]
  have e1 : setOut W f (Proc.devRef .tc main_v1) = f := Function.update_self _ _ _
  rw [e1]
  refine sep_mono_right (Entails.of_eq (bigSep_congr fun b hb => ?_))
  have e2 : setOut W f b = W b := Function.update_of_ne (Finset.ne_of_mem_erase hb) _ _
  rw [e2]

/-- The SparseCore call: the result array handed over in its parts and taken back, its heads alike. -/
theorem sc_step (κ : GSem nD τ sig → ℕ) (d : Dev nD) (k : PUnit → Prog (TpuEff nD τ sig (Elt F) (SparseCore.Sig (ΛP (F := F)) 1) .tc) PUnit) (Q : PUnit → sProp 𝕄) :
    iprop((K (F := F)).ctx (EH (F := F)) P κ ∗ (K (F := F)).tcSt (EH (F := F)) d 0 ∗ HS m d)
      ⊢ iprop((((K (F := F)).tcSt (EH (F := F)) d 1 ∗ HSD m d) -∗ wp frame (wpE ((K (F := F)).defs (D (F := F))) 𝒱 (d : Thread nD τ) none) Set.univ (k ⟨⟩) Q)
          -∗ wp frame (wpE ((K (F := F)).defs (D (F := F))) 𝒱 (d : Thread nD τ) none) Set.univ ((K (F := F)).run d 0 >>= k) Q) := by
  iintro ⟨#Hctx, Hst, %W, %hW, Hh⟩ Hk
  ihave Hh' := (Entails.of_eq (held_out d W)) $$ Hh
  icases Hh' with ⟨Ho, Hrest⟩
  rw [wp_bind]
  iapply ((K (F := F)).wp_run (D (F := F)) 𝒱 (EH := EH) (P := P) κ d 0) $$ [Hst Ho Hrest Hk]
  isplitr; · iexact Hctx
  isplitl [Hst]; · iexact Hst
  isplitl [Ho]
  · iapply (out_split (F := F) d (W (Proc.devRef .tc main_v1))) $$ Ho
  iintro ⟨Hst, Hdn⟩
  ihave Ho := (show (bigSep Finset.univ fun c : Fin ((K (F := F)).nCore 0) => (P (F := F)).dn 0 d c) ⊢ (iprop(∃ f : Buf (Elt F) (oLoc d), ⌜Alike (F := F) f⌝ ∗ oLoc d ↦{fullShare} f) : sProp 𝕄) from
    out_join (F := F) d (W (Proc.devRef .tc main_v1))) $$ Hdn
  icases Ho with ⟨%f, %hf, Ho⟩
  iapply Hk
  isplitl [Hst]; · iexact Hst
  iexists (setOut W f)
  isplitr
  · ipureintro; refine ⟨fun a ha => (setOut_args W f a ha).trans (hW a ha), ?_⟩
    rw [show setOut W f (Proc.devRef .tc main_v1) = f from Function.update_self _ _ _]
    exact hf
  iapply (held_setOut d W f)
  isplitl [Ho] <;> iassumption

/-! ## @main -/

theorem hmain [∀ e, Nonempty (Elt F e)] (κ : GSem nD τ sig → ℕ) (d : Dev nD) :
    iprop((K (F := F)).ctx (EH (F := F)) P κ ∗ (K (F := F)).tcSt (EH (F := F)) d 0 ∗ (K (F := F)).tcRes m ρ d ∗ emp)
      ⊢ wp frame (wpE ((K (F := F)).defs (D (F := F))) 𝒱 (SparseCore.T d) none) Set.univ (main d)
          fun _ => iprop((K (F := F)).tcSt (EH (F := F)) d 1 ∗ HSD m d ∗ (K (F := F)).tcEnd d) := by
  rw [main_eq]
  unfold SparseCore.Cfg.tcRes SparseCore.Cfg.tcEnd
  rw [show (unscopedBufs d (fun b => m ((SparseCore.T d).loc b)) : sProp 𝕄)
      = StableHlo.held (d : Thread nD τ) (Pipeline.ucRefs τ sig) (fun b => m ((d, b) : Loc nD τ sig)) from
    Pipeline.unscopedBufs_held d (fun b => m ((d, b) : Loc nD τ sig))]
  iintro ⟨#Hctx, Hst, ⟨Hb, Hh, Hts, Hp⟩, -⟩
  iapply (host_step m d host0 host0_W host0_sub host0_fresh host0_writes host0_args _ _) $$ [Hb Hh]
  · isplitl [Hb]; · iexact Hb
    iexists (fun b => m ((d, b) : Loc nD τ sig)); isplitr
    · ipureintro; exact fun _ _ => rfl
    · iexact Hh
  iintro ⟨Hb, Hh⟩
  iapply (sc_step m κ d _ _) $$ [Hst Hh]
  · isplitr; · iexact Hctx
    isplitl [Hst] <;> iassumption
  iintro ⟨Hst, Hh⟩
  rw [wp_pure]; imodintro
  isplitl [Hst]; · iexact Hst
  isplitl [Hh]; · iexact Hh
  isplitl [Hb]; · iexact Hb
  iexact Hts

/-! ## The launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

def u₀ : UU := (initOf (K (F := F)).hsCells (K (F := F)).hsToks, 1)

theorem ownU_split (a : UH) (b : Counters) : (ownU (a, b) : sProp 𝕄) ⊢ iprop(BI.own (EH (F := F) a) ∗ ownU ((1 : UH), b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem xs_emp : (iprop(emp) : sProp 𝕄) ⊢ bigSep Finset.univ fun thr : Thread nD τ => bigSep Finset.univ fun q : Fin 1 => (P (F := F)).x q thr := by
  show _ ⊢ bigSep Finset.univ fun _ : Thread nD τ => bigSep Finset.univ fun _ : Fin 1 => (iprop(emp) : sProp 𝕄)
  exact Entails.of_eq ((bigSep_congr fun _ _ => bigSep_emp_const _).trans (bigSep_emp_const _)).symm

theorem hu₀ : (ownU (u₀ (F := F)) : sProp 𝕄)
    ⊢ |={Set.univ}=> iprop(BI.own (EH (F := F) (initOf (K (F := F)).hsCells (K (F := F)).hsToks))
        ∗ (bigSep Finset.univ fun _ : Dev nD => iprop(emp))
        ∗ bigSep Finset.univ fun thr : Thread nD τ => bigSep Finset.univ fun q : Fin 1 => (P (F := F)).x q thr) := by
  unfold u₀
  iintro Hu
  ihave H := (ownU_split _ _) $$ Hu
  icases H with ⟨HH, -⟩
  imodintro
  isplitl [HH]; · iexact HH
  isplitl []
  · iapply (Entails.of_eq (bigSep_emp_const _).symm); iempintro
  · iapply xs_emp; iempintro

def kept (d : Dev nD) (μ : MemSt nD τ sig (Elt F)) : Prop :=
  (∀ a ∈ argRefs, μ.mem ((d : Thread nD τ).loc a) = m ((d : Thread nD τ).loc a)) ∧ Alike (F := F) (μ.mem ((d : Thread nD τ).loc main_v1))

theorem args_uc : ∀ a ∈ argRefs, (Proc.devRef .tc a : DevRef τ sig) ∈ Pipeline.ucRefs τ sig := fun a ha =>
  Finset.mem_filter.mpr ⟨StableHlo.devRef_mem_tcRefs a,
    (ListAll.forall_mem_of_all_decide (by decide +kernel) : ∀ a ∈ argRefs, ¬ (Proc.devRef .tc a : DevRef τ sig).isScoped) a ha⟩

theorem hfin (d : Dev nD) (s' : Phys nD τ sig (Elt F)) : iprop(HSD m d ∗ SI s') ⊢ (⌜kept m d s'.mem⌝ : sProp 𝕄) := by
  iintro ⟨⟨%W, %hW, Hh⟩, HSI⟩
  unfold StableHlo.held
  ihave H := (pointsTo_read_all (Pipeline.ucRefs τ sig) (fun b => ((d, b) : Loc nD τ sig)) W s') $$ [Hh HSI]
  · isplitl [Hh] <;> iassumption
  icases H with ⟨%h, -⟩
  ipureintro
  refine ⟨fun a ha => (h _ (args_uc a ha)).trans (hW.1 a ha), ?_⟩
  rw [show s'.mem.mem ((d : Thread nD τ).loc main_v1) = W (Proc.devRef .tc main_v1) from h _ out_mem]
  exact hW.2

/-- All executions of the call from counters at zero end, nothing faulting, the argument arrays as launched,
    the heads of the result alike and every counter at zero. -/
theorem run_main [∀ e, Nonempty (Elt F e)] :
    θ_run (Cert.RoutingIdeal.defs (F := F)) (Cert.RoutingIdeal.threads (F := F)) ⟨m, fun _ => 0, ρ⟩ (fun r => (∀ d, kept m d r.2) ∧ r.2.sem = fun _ => 0) :=
  SparseCore.Cfg.θ_run_sc_quiescent (K := K (F := F)) (D := D (F := F)) (𝒱 := 𝒱) (EH := EH) (P := P) (A := ∅) facts v₀
    (fun q hq => match q with | 0 => nomatch hq)
    (fun q _ => match q with | 0 => tileObl facts)
    (fun q _ => match q with | 0 => SparseCore.Cfg.VecSplit.of_plain vecSplit)
    m ρ main (fun _ => iprop(emp)) (HSD m) (u₀ (F := F)) (sep_elim_left.trans hu₀)
    (hmain m ρ) (fun d s' => kept m d s'.mem) (hfin m) _ (fun _ h hz => ⟨h, hz⟩)

end Main

/-- The frame of the call. -/
theorem frame [∀ e, Nonempty (Elt F e)] (m : (ℓ : Loc nD τ sig) → Buf (Elt F) ℓ) (ρ : Dev nD → PrngReg) :
    θ_run (Cert.RoutingIdeal.defs (F := F)) (Cert.RoutingIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (Cert.RoutingIdeal.defs (F := F)) _ _).mono (fun _ h => ⟨fun c =>
    ⟨(h.1 c).1 main_arg0 (by simp [argRefs]), (h.1 c).1 main_arg1 (by simp [argRefs]), (h.1 c).1 main_arg2 (by simp [argRefs]),
      (h.1 c).1 main_arg3 (by simp [argRefs]), (h.1 c).1 main_arg4 (by simp [argRefs])⟩, h.2⟩) (run_main m ρ)

end Cert.RoutingIdeal.Whole

end
-- ==== Proof.RoutingHeads.lean ====
/-
  The two claims on the result of `routing_call`: comparing every head of it with the first finds them equal, word by
  word as the kernel computes it, and as a number where the operations are exact.
-/
module

public import proofs.«01_k».proof.Proof.RoutingFrame
public import proofs.«01_k».proof.Proof.RoutingIdealFrame
public import proofs.«01_k».proof.Proof.Gen.Post_same_words_in_all_heads
public import proofs.«01_k».proof.Proof.Gen.Post_same_in_all_heads

@[expose] public section

set_option maxRecDepth 16384

noncomputable section

namespace Cert.Routing.Heads

open Idealize.ShloMosaic Idealize.SL.Sem

section Words
open Cert.Routing Cert.Routing.Whole

/-- The comparison of words. -/
theorem same_words (a0 a1 a2 a3 : FVec Bits S12x64x4096 .f32) (a4 : FVec Bits S4x4096x64 .f32) {g : FVec Bits S12x262144 .f32} (h : Alike (F := Bits) g) :
    Cert.Post_same_words_in_all_heads.fn (F := Bits) a0 a1 a2 a3 a4 g = fun _ => 1#1 := by
  funext x
  have e : ∀ z : S12x262144.Idx, (x 1).val = (z 1).val → IntOp.cmpi .eq (BitOps.toBits (g x)) (BitOps.toBits (g z)) = 1#1 := fun z hz => by
    rw [← h x z hz]; simp [IntOp.cmpi]
  unfold Cert.Post_same_words_in_all_heads.fn
  exact e _ (Nat.zero_add _).symm

theorem holds : Cert.holds_Routing_same_words_in_all_heads := fun m g _ =>
  (θ_run (Cert.Routing.defs (F := Bits)) _ _).mono (fun _ h c =>
    ⟨(h.1 c).1 main_arg0 (by simp [argRefs]), (h.1 c).1 main_arg1 (by simp [argRefs]), (h.1 c).1 main_arg2 (by simp [argRefs]),
      (h.1 c).1 main_arg3 (by simp [argRefs]), (h.1 c).1 main_arg4 (by simp [argRefs]), same_words _ _ _ _ _ (h.1 c).2⟩) (run_main m g)

end Words

section Numbers
open Cert.RoutingIdeal Cert.RoutingIdeal.Whole

/-- The comparison of numbers. -/
theorem same (a0 a1 a2 a3 : FVec Ideal S12x64x4096 .f32) (a4 : FVec Ideal S4x4096x64 .f32) {g : FVec Ideal S12x262144 .f32} (h : Alike (F := Ideal) g) :
    Cert.Post_same_in_all_heads.fn (F := Ideal) a0 a1 a2 a3 a4 g = fun _ => 1#1 := by
  funext x
  have e : ∀ z : S12x262144.Idx, (x 1).val = (z 1).val → FloatOps.cmpf .oeq (g x) (g z) = 1#1 := fun z hz => by
    rw [← h x z hz]; simp [FloatOps.cmpf, FloatOps.scalar, Ideal.cmp]
  unfold Cert.Post_same_in_all_heads.fn
  exact e _ (Nat.zero_add _).symm

theorem holdsIdeal : Cert.holds_RoutingIdeal_same_in_all_heads := fun m g _ =>
  (θ_run (Cert.RoutingIdeal.defs (F := Ideal)) _ _).mono (fun _ h c =>
    ⟨(h.1 c).1 main_arg0 (by simp [argRefs]), (h.1 c).1 main_arg1 (by simp [argRefs]), (h.1 c).1 main_arg2 (by simp [argRefs]),
      (h.1 c).1 main_arg3 (by simp [argRefs]), (h.1 c).1 main_arg4 (by simp [argRefs]), same _ _ _ _ _ (h.1 c).2⟩) (run_main m g)

end Numbers

end Cert.Routing.Heads

end
-- ==== Proof.lean ====
/- The certificate: the claims of Defs.lean from the modules beside this one. Proof/FrontClaim.lean compares the two calls
   before the SparseCore with their reference, Proof/OutprojClaim.lean the call after it, Proof/KernelFrame.lean and its twin
   prove the whole kernel's frame,
   Proof/RoutingFrame.lean and its twin run the SparseCore call alone, and Proof/RoutingHeads.lean compares its heads. -/
module

public import proofs.«01_k».proof.Defs
public import proofs.«01_k».proof.Proof.Gen.Kernel
public import proofs.«01_k».proof.Proof.Gen.KernelIdeal
public import proofs.«01_k».proof.Proof.Gen.Routing
public import proofs.«01_k».proof.Proof.Gen.RoutingIdeal
public import proofs.«01_k».proof.Proof.Gen.Post_same_words_in_all_heads
public import proofs.«01_k».proof.Proof.Gen.Post_same_in_all_heads
public import proofs.«01_k».proof.Proof.Gen.Front.Frame
public import proofs.«01_k».proof.Proof.Gen.FrontIdeal.Frame
public import proofs.«01_k».proof.Proof.Gen.FrontRefIdeal.Run
public import proofs.«01_k».proof.Proof.Gen.Outproj.Frame
public import proofs.«01_k».proof.Proof.Gen.OutprojIdeal.Frame
public import proofs.«01_k».proof.Proof.Gen.OutprojIdeal.Value
public import proofs.«01_k».proof.Proof.Gen.OutprojRefIdeal.Run
public import proofs.«01_k».proof.Proof.Gen.Pre_finite
public import proofs.«01_k».proof.Proof.FrontClaim
public import proofs.«01_k».proof.Proof.OutprojClaim
public import proofs.«01_k».proof.Proof.KernelFrame
public import proofs.«01_k».proof.Proof.KernelIdealFrame
public import proofs.«01_k».proof.Proof.RoutingHeads
public import Idealize.ShloMosaic.Adequacy
public import Idealize.ShloMosaic.Init

@[expose] public section

noncomputable section

namespace Cert.Proof

open Idealize.ShloMosaic Idealize.SL.Sem Cert.Front

/-- The host reference of the first two calls ends with its arguments unchanged and its counters at zero. -/
theorem frontRef : Cert.quiescent_FrontRefIdeal := fun m ρ _ =>
  (θ_run Cert.FrontRefIdeal.defs _ _).mono (fun r h => ⟨fun c => (h c).2.2.2.2.2.2.2, Idealize.ShloMosaic.sem_eq_zero_of_no_sems (by decide) r.2⟩)
    (Cert.FrontRefIdeal.Value.run (F := Ideal) m ρ)

/-- So does the host reference of the last call. -/
theorem outprojRef : Cert.quiescent_OutprojRefIdeal := fun m ρ _ =>
  (θ_run Cert.OutprojRefIdeal.defs _ _).mono (fun r h => ⟨fun c => (h c).2, Idealize.ShloMosaic.sem_eq_zero_of_no_sems (by decide) r.2⟩)
    (Cert.OutprojRefIdeal.Value.run (F := Ideal) m ρ)

theorem claim : Cert.Claim := ⟨Cert.Kernel.Gen.facts, Cert.KernelIdeal.Gen.facts, Cert.Routing.Gen.facts, Cert.RoutingIdeal.Gen.facts, Cert.Front.Gen.facts, Cert.FrontIdeal.Gen.facts, Cert.FrontRefIdeal.Gen.facts, Cert.Outproj.Gen.facts, Cert.OutprojIdeal.Gen.facts, Cert.OutprojRefIdeal.Gen.facts, Cert.Pre_finite.Gen.facts, Cert.Post_same_words_in_all_heads.Gen.facts, Cert.Post_same_in_all_heads.Gen.facts,
  fun m ρ _ => Cert.Kernel.Whole.frame m ρ, fun m ρ _ => Cert.KernelIdeal.Whole.frame m ρ,
  fun m ρ _ => Cert.Routing.Whole.frame m ρ, fun m ρ _ => Cert.RoutingIdeal.Whole.frame m ρ,
  fun m ρ _ => Cert.Front.Gen.frame m ρ, fun m ρ _ => Cert.FrontIdeal.Gen.frame m ρ, fun m ρ _ => Cert.FrontIdeal.Gen.frame m ρ,
  frontRef, fun m ρ _ => frontRef m ρ trivial,
  fun m ρ _ => Cert.Outproj.Gen.frame m ρ, fun m ρ _ => Cert.OutprojIdeal.Gen.frame m ρ, outprojRef,
  trivial, trivial, Cert.Routing.Heads.holds, Cert.Routing.Heads.holdsIdeal, trivial, Cert.FrontIdeal.Claim.equal, trivial, Cert.OutprojIdeal.Claim.equal⟩

end Cert.Proof

end

end
